-- ==== Defs.lean ====
def Pre_Kernel [hPre_tree : Cert.Pre_tree.Facts] (m : (ℓ : Loc Cert.Kernel.nD Cert.Kernel.τ Cert.Kernel.sig) → Buf (Elt Bits) ℓ) : Prop :=
  ∀ c : Dev Cert.Kernel.nD,
    (Cert.Pre_tree.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_tree : Cert.Pre_tree.Facts] (m : (ℓ : Loc Cert.KernelIdeal.nD Cert.KernelIdeal.τ Cert.KernelIdeal.sig) → Buf (Elt Ideal) ℓ) : Prop :=
  ∀ c : Dev Cert.KernelIdeal.nD,
    (Cert.Pre_tree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tree [hPre_tree : Cert.Pre_tree.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_tree : Cert.Pre_tree.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_tree : Cert.Pre_tree.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_tree [hReferenceIdeal : Cert.ReferenceIdeal.Facts] [hPre_tree : Cert.Pre_tree.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tree m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tree : Cert.Pre_tree.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_tree : Cert.Pre_tree.Facts),
    quiescent_Kernel (hKernel := hKernel) (hPre_tree := hPre_tree)
    ∧ quiescent_KernelIdeal (hKernelIdeal := hKernelIdeal) (hPre_tree := hPre_tree)
    ∧ quiescent_ReferenceIdeal (hReferenceIdeal := hReferenceIdeal)
    ∧ quiescent_ReferenceIdeal_pre_tree (hReferenceIdeal := hReferenceIdeal) (hPre_tree := hPre_tree)
    ∧ preserves_Kernel_KernelIdeal
    ∧ algebraic_KernelIdeal_ReferenceIdeal (hKernelIdeal := hKernelIdeal) (hReferenceIdeal := hReferenceIdeal) (hPre_tree := hPre_tree)
-- ==== Pre_tree.lean ====
abbrev S1024 : Shape := ⟨1, ![1024]⟩
abbrev S1000x128 : Shape := ⟨2, ![1000, 128]⟩
abbrev S2000x128x128 : Shape := ⟨3, ![2000, 128, 128]⟩
abbrev S2000x128 : Shape := ⟨2, ![2000, 128]⟩
abbrev S2000x128x4 : Shape := ⟨3, ![2000, 128, 4]⟩
abbrev S2000x4 : Shape := ⟨2, ![2000, 4]⟩
abbrev S128x1000 : Shape := ⟨2, ![128, 1000]⟩
abbrev S1000 : Shape := ⟨1, ![1000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S2000x4 : S_.BroadcastsInDim S2000x4 (![] : Fin 0 → Fin S2000x4.rank)
  reducesTo_S2000x4_S_d0_1 : S2000x4.ReducesTo [0, 1] S_

variable [Facts]

def fn_where {F : FTy → Type} [FloatOps F] (arg0 : IVec S2000x4 1) (arg1 : IVec S2000x4 32) (arg2 : IVec S_ 32) : IVec S2000x4 32 :=
  let v0 : IVec S_ 32 := id arg2
  let v1 : IVec S2000x4 32 := broadcastInDim S2000x4 ![] bcast_S_S2000x4 v0
  let v2 : IVec S2000x4 32 := select arg0 arg1 v1
  v2

def fn_part1 {F : FTy → Type} [FloatOps F] (main_v7 : IVec S_ 1) (main_v16 : IVec S2000x4 1) : IVec S_ 1 :=
  let main_c_6 : IVec S_ 1 := constantI S_ 1 1#1
  let main_v17 : IVec S_ 1 := (fun x v => Host.reduce IntOp.andi x v reducesTo_S2000x4_S_d0_1 h_S_) main_v16 main_c_6
  let main_v18 : IVec S_ 1 := andi main_v7 main_v17
  main_v18

def fn {F : FTy → Type} [FloatOps F] (main_arg0 : IVec S1024 32) (main_arg1 : FVec F S1000x128 .f32) (main_arg2 : FVec F S2000x128x128 .f32) (main_arg3 : FVec F S2000x128 .f32) (main_arg4 : FVec F S2000x128x128 .f32) (main_arg5 : FVec F S2000x128 .f32) (main_arg6 : FVec F S2000x128x4 .f32) (main_arg7 : FVec F S2000x4 .f32) (main_arg8 : FVec F S128x1000 .f32) (main_arg9 : FVec F S1000 .f32) (main_arg10 : IVec S2000x4 32) : IVec S_ 1 :=
  let main_v0 : IVec S2000x4 32 := iotaInDim S2000x4 32 0
  let main_v1 : IVec S2000x4 32 := iotaInDim S2000x4 32 1
  let main_c : IVec S_ 32 := constantI S_ 32 0#32
  let main_v2 : IVec S1024 32 := broadcastInDim S1024 ![] bcast_S_S1024 main_c
  let main_v3 : IVec S1024 1 := cmpi .sge main_arg0 main_v2
  let main_c_0 : IVec S_ 32 := constantI S_ 32 1000#32
  let main_v4 : IVec S1024 32 := broadcastInDim S1024 ![] bcast_S_S1024 main_c_0
  let main_v5 : IVec S1024 1 := cmpi .slt main_arg0 main_v4
  let main_v6 : IVec S1024 1 := andi main_v3 main_v5
  let main_c_1 : IVec S_ 1 := constantI S_ 1 1#1
  let main_v7 : IVec S_ 1 := (fun x v => Host.reduce IntOp.andi x v reducesTo_S1024_S_d0 h_S_) main_v6 main_c_1
  let main_c_2 : IVec S_ 32 := constantI S_ 32 21#32
  let main_v8 : IVec S2000x4 32 := broadcastInDim S2000x4 ![] bcast_S_S2000x4 main_c_2
  let main_v9 : IVec S2000x4 1 := cmpi .slt main_v0 main_v8
  let main_c_3 : IVec S_ 32 := constantI S_ 32 4#32
  let main_v10 : IVec S2000x4 32 := broadcastInDim S2000x4 ![] bcast_S_S2000x4 main_c_3
  let main_v11 : IVec S2000x4 32 := muli main_v10 main_v0
  let main_c_4 : IVec S_ 32 := constantI S_ 32 1#32
  let main_v12 : IVec S2000x4 32 := broadcastInDim S2000x4 ![] bcast_S_S2000x4 main_c_4
  let main_v13 : IVec S2000x4 32 := addi main_v11 main_v12
  let main_v14 : IVec S2000x4 32 := addi main_v13 main_v1
  let main_c_5 : IVec S_ 32 := constantI S_ 32 4294967295#32
  let main_v15 : IVec S2000x4 32 := fn_where (F := F) main_v9 main_v14 main_c_5
  let main_v16 : IVec S2000x4 1 := cmpi .eq main_arg10 main_v15
  fn_part1 (F := F) main_v7 main_v16
-- ==== Kernel.lean ====
abbrev S1024 : Shape := ⟨1, ![1024]⟩
abbrev S1000x128 : Shape := ⟨2, ![1000, 128]⟩
abbrev S2000x128x128 : Shape := ⟨3, ![2000, 128, 128]⟩
abbrev S2000x128 : Shape := ⟨2, ![2000, 128]⟩
abbrev S2000x128x4 : Shape := ⟨3, ![2000, 128, 4]⟩
abbrev S2000x4 : Shape := ⟨2, ![2000, 4]⟩
abbrev S128x1000 : Shape := ⟨2, ![128, 1000]⟩
abbrev S1000 : Shape := ⟨1, ![1000]⟩
abbrev S1024x128 : Shape := ⟨2, ![1024, 128]⟩
abbrev S32 : Shape := ⟨1, ![32]⟩
abbrev S32x128 : Shape := ⟨2, ![32, 128]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x128x4 : Shape := ⟨3, ![1, 128, 4]⟩
abbrev S128x4 : Shape := ⟨2, ![128, 4]⟩
abbrev S1x4 : Shape := ⟨2, ![1, 4]⟩
abbrev S4 : Shape := ⟨1, ![4]⟩
abbrev S4x128x128 : Shape := ⟨3, ![4, 128, 128]⟩
abbrev S128x4x128 : Shape := ⟨3, ![128, 4, 128]⟩
abbrev S128x512 : Shape := ⟨2, ![128, 512]⟩
abbrev S4x128 : Shape := ⟨2, ![4, 128]⟩
abbrev S1x512 : Shape := ⟨2, ![1, 512]⟩
abbrev S4x128x4 : Shape := ⟨3, ![4, 128, 4]⟩
abbrev S512x4 : Shape := ⟨2, ![512, 4]⟩
abbrev S4x4 : Shape := ⟨2, ![4, 4]⟩
abbrev S16x128x128 : Shape := ⟨3, ![16, 128, 128]⟩
abbrev S128x16x128 : Shape := ⟨3, ![128, 16, 128]⟩
abbrev S128x2048 : Shape := ⟨2, ![128, 2048]⟩
abbrev S16x128 : Shape := ⟨2, ![16, 128]⟩
abbrev S1x2048 : Shape := ⟨2, ![1, 2048]⟩
abbrev S16x128x4 : Shape := ⟨3, ![16, 128, 4]⟩
abbrev S2048x4 : Shape := ⟨2, ![2048, 4]⟩
abbrev S16x4 : Shape := ⟨2, ![16, 4]⟩
abbrev S64x128x128 : Shape := ⟨3, ![64, 128, 128]⟩
abbrev S128x64x128 : Shape := ⟨3, ![128, 64, 128]⟩
abbrev S128x8192 : Shape := ⟨2, ![128, 8192]⟩
abbrev S64x128 : Shape := ⟨2, ![64, 128]⟩
abbrev S1x8192 : Shape := ⟨2, ![1, 8192]⟩
abbrev S8192x128 : Shape := ⟨2, ![8192, 128]⟩
abbrev S1x1000 : Shape := ⟨2, ![1, 1000]⟩
abbrev S1024x1000 : Shape := ⟨2, ![1024, 1000]⟩
abbrev S1024x4 : Shape := ⟨2, ![1024, 4]⟩
abbrev S1024x1 : Shape := ⟨2, ![1024, 1]⟩
abbrev S1024x512 : Shape := ⟨2, ![1024, 512]⟩
abbrev S1024x2048 : Shape := ⟨2, ![1024, 2048]⟩
abbrev S1024x16 : Shape := ⟨2, ![1024, 16]⟩
abbrev S1024x64 : Shape := ⟨2, ![1024, 64]⟩
abbrev S2048x128 : Shape := ⟨2, ![2048, 128]⟩

abbrev nBuf : Table → Nat
  | .hbm => 57
  | .local .tc .vmem => 20
  | .local .scVector .vmem => 2
  | _ => 0

abbrev bufTy : (tb : Table) → Fin (nBuf tb) → BufTy
  | .hbm, ⟨0, _⟩ => ⟨S1024, .i32⟩
  | .hbm, ⟨1, _⟩ => ⟨S1000x128, .f32⟩
  | .hbm, ⟨2, _⟩ => ⟨S2000x128x128, .f32⟩
  | .hbm, ⟨3, _⟩ => ⟨S2000x128, .f32⟩
  | .hbm, ⟨4, _⟩ => ⟨S2000x128x128, .f32⟩
  | .hbm, ⟨5, _⟩ => ⟨S2000x128, .f32⟩
  | .hbm, ⟨6, _⟩ => ⟨S2000x128x4, .f32⟩
  | .hbm, ⟨7, _⟩ => ⟨S2000x4, .f32⟩
  | .hbm, ⟨8, _⟩ => ⟨S128x1000, .f32⟩
  | .hbm, ⟨9, _⟩ => ⟨S1000, .f32⟩
  | .hbm, ⟨10, _⟩ => ⟨S2000x4, .i32⟩
  | .hbm, ⟨11, _⟩ => ⟨S1024x128, .f32⟩
  | .hbm, ⟨12, _⟩ => ⟨S1x128x128, .f32⟩
  | .hbm, ⟨13, _⟩ => ⟨S128x128, .f32⟩
  | .hbm, ⟨14, _⟩ => ⟨S128x128, .bf16⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S1x128x4, .f32⟩
  | .hbm, ⟨19, _⟩ => ⟨S128x4, .f32⟩
  | .hbm, ⟨20, _⟩ => ⟨S128x4, .bf16⟩
  | .hbm, ⟨21, _⟩ => ⟨S1x4, .f32⟩
  | .hbm, ⟨22, _⟩ => ⟨S4, .f32⟩
  | .hbm, ⟨23, _⟩ => ⟨S1x4, .f32⟩
  | .hbm, ⟨24, _⟩ => ⟨S4x128x128, .f32⟩
  | .hbm, ⟨25, _⟩ => ⟨S128x4x128, .f32⟩
  | .hbm, ⟨26, _⟩ => ⟨S128x512, .f32⟩
  | .hbm, ⟨27, _⟩ => ⟨S128x512, .bf16⟩
  | .hbm, ⟨28, _⟩ => ⟨S4x128, .f32⟩
  | .hbm, ⟨29, _⟩ => ⟨S1x512, .f32⟩
  | .hbm, ⟨30, _⟩ => ⟨S4x128x4, .f32⟩
  | .hbm, ⟨31, _⟩ => ⟨S512x4, .f32⟩
  | .hbm, ⟨32, _⟩ => ⟨S512x4, .bf16⟩
  | .hbm, ⟨33, _⟩ => ⟨S4x4, .f32⟩
  | .hbm, ⟨34, _⟩ => ⟨S16x128x128, .f32⟩
  | .hbm, ⟨35, _⟩ => ⟨S128x16x128, .f32⟩
  | .hbm, ⟨36, _⟩ => ⟨S128x2048, .f32⟩
  | .hbm, ⟨37, _⟩ => ⟨S128x2048, .bf16⟩
  | .hbm, ⟨38, _⟩ => ⟨S16x128, .f32⟩
  | .hbm, ⟨39, _⟩ => ⟨S1x2048, .f32⟩
  | .hbm, ⟨40, _⟩ => ⟨S16x128x4, .f32⟩
  | .hbm, ⟨41, _⟩ => ⟨S2048x4, .f32⟩
  | .hbm, ⟨42, _⟩ => ⟨S2048x4, .bf16⟩
  | .hbm, ⟨43, _⟩ => ⟨S16x4, .f32⟩
  | .hbm, ⟨44, _⟩ => ⟨S64x128x128, .f32⟩
  | .hbm, ⟨45, _⟩ => ⟨S128x64x128, .f32⟩
  | .hbm, ⟨46, _⟩ => ⟨S128x8192, .f32⟩
  | .hbm, ⟨47, _⟩ => ⟨S128x8192, .bf16⟩
  | .hbm, ⟨48, _⟩ => ⟨S64x128, .f32⟩
  | .hbm, ⟨49, _⟩ => ⟨S1x8192, .f32⟩
  | .hbm, ⟨50, _⟩ => ⟨S64x128x128, .f32⟩
  | .hbm, ⟨51, _⟩ => ⟨S8192x128, .f32⟩
  | .hbm, ⟨52, _⟩ => ⟨S8192x128, .bf16⟩
  | .hbm, ⟨53, _⟩ => ⟨S64x128, .f32⟩
  | .hbm, ⟨54, _⟩ => ⟨S128x1000, .bf16⟩
  | .hbm, ⟨55, _⟩ => ⟨S1x1000, .f32⟩
  | .hbm, ⟨56, _⟩ => ⟨S1024x1000, .f32⟩
  | .local .tc .vmem, ⟨0, _⟩ => ⟨S1024x128, .f32⟩
  | .local .tc .vmem, ⟨1, _⟩ => ⟨S128x128, .bf16⟩
  | .local .tc .vmem, ⟨2, _⟩ => ⟨S1x128, .f32⟩
  | .local .tc .vmem, ⟨3, _⟩ => ⟨S128x4, .bf16⟩
  | .local .tc .vmem, ⟨4, _⟩ => ⟨S1x4, .f32⟩
  | .local .tc .vmem, ⟨5, _⟩ => ⟨S128x512, .bf16⟩
  | .local .tc .vmem, ⟨6, _⟩ => ⟨S1x512, .f32⟩
  | .local .tc .vmem, ⟨7, _⟩ => ⟨S512x4, .bf16⟩
  | .local .tc .vmem, ⟨8, _⟩ => ⟨S4x4, .f32⟩
  | .local .tc .vmem, ⟨9, _⟩ => ⟨S128x2048, .bf16⟩
  | .local .tc .vmem, ⟨10, _⟩ => ⟨S1x2048, .f32⟩
  | .local .tc .vmem, ⟨11, _⟩ => ⟨S2048x4, .bf16⟩
  | .local .tc .vmem, ⟨12, _⟩ => ⟨S16x4, .f32⟩
  | .local .tc .vmem, ⟨13, _⟩ => ⟨S128x8192, .bf16⟩
  | .local .tc .vmem, ⟨14, _⟩ => ⟨S1x8192, .f32⟩
  | .local .tc .vmem, ⟨15, _⟩ => ⟨S8192x128, .bf16⟩
  | .local .tc .vmem, ⟨16, _⟩ => ⟨S64x128, .f32⟩
  | .local .tc .vmem, ⟨17, _⟩ => ⟨S128x1000, .bf16⟩
  | .local .tc .vmem, ⟨18, _⟩ => ⟨S1x1000, .f32⟩
  | .local .tc .vmem, ⟨19, _⟩ => ⟨S1024x1000, .f32⟩
  | .local .scVector .vmem, ⟨0, _⟩ => ⟨S32, .i32⟩
  | .local .scVector .vmem, ⟨1, _⟩ => ⟨S32x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_arg0_scv : Ref sig .scVector := ⟨.hbm, 0, rfl⟩
abbrev main_arg1_scv : Ref sig .scVector := ⟨.hbm, 1, rfl⟩
abbrev main_v0_scv : Ref sig .scVector := ⟨.hbm, 11, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc1_stg13_0 : Ref sig .tc := ⟨.vmem, 13, rfl⟩
abbrev cc1_stg14_0 : Ref sig .tc := ⟨.vmem, 14, rfl⟩
abbrev cc1_stg15_0 : Ref sig .tc := ⟨.vmem, 15, rfl⟩
abbrev cc1_stg16_0 : Ref sig .tc := ⟨.vmem, 16, rfl⟩
abbrev cc1_stg17_0 : Ref sig .tc := ⟨.vmem, 17, rfl⟩
abbrev cc1_stg18_0 : Ref sig .tc := ⟨.vmem, 18, rfl⟩
abbrev cc1_stg19_0 : Ref sig .tc := ⟨.vmem, 19, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev cc1_sem10_0 : DmaSem sig := 13
abbrev cc1_sem11_0 : DmaSem sig := 14
abbrev cc1_sem12_0 : DmaSem sig := 15
abbrev cc1_sem13_0 : DmaSem sig := 16
abbrev cc1_sem14_0 : DmaSem sig := 17
abbrev cc1_sem15_0 : DmaSem sig := 18
abbrev cc1_sem16_0 : DmaSem sig := 19
abbrev cc1_sem17_0 : DmaSem sig := 20
abbrev cc1_sem18_0 : DmaSem sig := 21
abbrev cc1_sem19_0 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev grid1 : Pipeline.Grid := .none

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x4 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S512x4 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S4x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S128x2048 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S2048x4 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S16x4 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S128x8192 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S1x8192 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S8192x128 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S64x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S128x1000 .bf16 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev stage1_18 : Fin 1 → Memref sig .tc .vmem S1x1000 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))

abbrev stage1_19 : Fin 1 → Memref sig .tc .vmem S1024x1000 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024 : Shape := ⟨1, ![1024]⟩
abbrev S1000x128 : Shape := ⟨2, ![1000, 128]⟩
abbrev S2000x128x128 : Shape := ⟨3, ![2000, 128, 128]⟩
abbrev S2000x128 : Shape := ⟨2, ![2000, 128]⟩
abbrev S2000x128x4 : Shape := ⟨3, ![2000, 128, 4]⟩
abbrev S2000x4 : Shape := ⟨2, ![2000, 4]⟩
abbrev S128x1000 : Shape := ⟨2, ![128, 1000]⟩
abbrev S1000 : Shape := ⟨1, ![1000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x128 : Shape := ⟨2, ![1024, 128]⟩
abbrev S1024x128x128 : Shape := ⟨3, ![1024, 128, 128]⟩
abbrev S1024x128x4 : Shape := ⟨3, ![1024, 128, 4]⟩
abbrev S1024x4 : Shape := ⟨2, ![1024, 4]⟩
abbrev S1024x1x1 : Shape := ⟨3, ![1024, 1, 1]⟩
abbrev S1x1x1 : Shape := ⟨3, ![1, 1, 1]⟩
abbrev S1024x1000 : Shape := ⟨2, ![1024, 1000]⟩
abbrev S1x1000 : Shape := ⟨2, ![1, 1000]⟩

abbrev nBuf : Space → Nat
  | .hbm => 886
  | .vmem => 0
  | .smem => 0
  | _ => 0

abbrev hbmTy0_0 (i : Nat) : BufTy := match i % 128 with
  | 0 => ⟨S1024, .i32⟩
  | 1 => ⟨S1000x128, .f32⟩
  | 2 => ⟨S2000x128x128, .f32⟩
  | 3 => ⟨S2000x128, .f32⟩
  | 4 => ⟨S2000x128x128, .f32⟩
  | 5 => ⟨S2000x128, .f32⟩
  | 6 => ⟨S2000x128x4, .f32⟩
  | 7 => ⟨S2000x4, .f32⟩
  | 8 => ⟨S128x1000, .f32⟩
  | 9 => ⟨S1000, .f32⟩
  | 10 => ⟨S2000x4, .i32⟩
  | 11 => ⟨S_, .i32⟩
  | 12 => ⟨S1024, .i32⟩
  | 13 => ⟨S1024, .i1⟩
  | 14 => ⟨S_, .i32⟩
  | 15 => ⟨S1024, .i32⟩
  | 16 => ⟨S1024, .i32⟩
  | 17 => ⟨S1024, .i32⟩
  | 18 => ⟨S1024x1, .i32⟩
  | 19 => ⟨S1, .i32⟩
  | 20 => ⟨S_, .i32⟩
  | 21 => ⟨S1024x1, .i32⟩
  | 22 => ⟨S1024x1, .i1⟩
  | 23 => ⟨S1x1, .i32⟩
  | 24 => ⟨S1024x1, .i32⟩
  | 25 => ⟨S1024x1, .i1⟩
  | 26 => ⟨S1024x1, .i1⟩
  | 27 => ⟨S_, .i1⟩
  | 28 => ⟨S1024, .i1⟩
  | 29 => ⟨S1024x128, .f32⟩
  | 30 => ⟨S1024x128, .i1⟩
  | 31 => ⟨S_, .f32⟩
  | 32 => ⟨S1024x128, .f32⟩
  | 33 => ⟨S1024x128, .f32⟩
  | 34 => ⟨S_, .i32⟩
  | 35 => ⟨S1024, .i32⟩
  | 36 => ⟨S_, .f32⟩
  | 37 => ⟨S1024x128, .f32⟩
  | 38 => ⟨S_, .i32⟩
  | 39 => ⟨S1024, .i32⟩
  | 40 => ⟨S1024, .i1⟩
  | 41 => ⟨S_, .i32⟩
  | 42 => ⟨S1024, .i32⟩
  | 43 => ⟨S1024, .i32⟩
  | 44 => ⟨S1024, .i32⟩
  | 45 => ⟨S1024x1, .i32⟩
  | 46 => ⟨S1, .i32⟩
  | 47 => ⟨S_, .i32⟩
  | 48 => ⟨S1024x1, .i32⟩
  | 49 => ⟨S1024x1, .i1⟩
  | 50 => ⟨S1x1, .i32⟩
  | 51 => ⟨S1024x1, .i32⟩
  | 52 => ⟨S1024x1, .i1⟩
  | 53 => ⟨S1024x1, .i1⟩
  | 54 => ⟨S_, .i1⟩
  | 55 => ⟨S1024, .i1⟩
  | 56 => ⟨S1024x128x128, .f32⟩
  | 57 => ⟨S1024x128x128, .i1⟩
  | 58 => ⟨S_, .f32⟩
  | 59 => ⟨S1024x128x128, .f32⟩
  | 60 => ⟨S1024x128x128, .f32⟩
  | 61 => ⟨S_, .i32⟩
  | 62 => ⟨S1024, .i32⟩
  | 63 => ⟨S1024, .i1⟩
  | 64 => ⟨S_, .i32⟩
  | 65 => ⟨S1024, .i32⟩
  | 66 => ⟨S1024, .i32⟩
  | 67 => ⟨S1024, .i32⟩
  | 68 => ⟨S1024x1, .i32⟩
  | 69 => ⟨S1, .i32⟩
  | 70 => ⟨S_, .i32⟩
  | 71 => ⟨S1024x1, .i32⟩
  | 72 => ⟨S1024x1, .i1⟩
  | 73 => ⟨S1x1, .i32⟩
  | 74 => ⟨S1024x1, .i32⟩
  | 75 => ⟨S1024x1, .i1⟩
  | 76 => ⟨S1024x1, .i1⟩
  | 77 => ⟨S_, .i1⟩
  | 78 => ⟨S1024, .i1⟩
  | 79 => ⟨S1024x128, .f32⟩
  | 80 => ⟨S1024x128, .i1⟩
  | 81 => ⟨S_, .f32⟩
  | 82 => ⟨S1024x128, .f32⟩
  | 83 => ⟨S1024x128, .f32⟩
  | 84 => ⟨S1024x128, .f32⟩
  | 85 => ⟨S1024x128, .f32⟩
  | 86 => ⟨S_, .f32⟩
  | 87 => ⟨S1024x128, .f32⟩
  | 88 => ⟨S1024x128, .f32⟩
  | 89 => ⟨S_, .i32⟩
  | 90 => ⟨S1024, .i32⟩
  | 91 => ⟨S1024, .i1⟩
  | 92 => ⟨S_, .i32⟩
  | 93 => ⟨S1024, .i32⟩
  | 94 => ⟨S1024, .i32⟩
  | 95 => ⟨S1024, .i32⟩
  | 96 => ⟨S1024x1, .i32⟩
  | 97 => ⟨S1, .i32⟩
  | 98 => ⟨S_, .i32⟩
  | 99 => ⟨S1024x1, .i32⟩
  | 100 => ⟨S1024x1, .i1⟩
  | 101 => ⟨S1x1, .i32⟩
  | 102 => ⟨S1024x1, .i32⟩
  | 103 => ⟨S1024x1, .i1⟩
  | 104 => ⟨S1024x1, .i1⟩
  | 105 => ⟨S_, .i1⟩
  | 106 => ⟨S1024, .i1⟩
  | 107 => ⟨S1024x128x128, .f32⟩
  | 108 => ⟨S1024x128x128, .i1⟩
  | 109 => ⟨S_, .f32⟩
  | 110 => ⟨S1024x128x128, .f32⟩
  | 111 => ⟨S1024x128x128, .f32⟩
  | 112 => ⟨S_, .i32⟩
  | 113 => ⟨S1024, .i32⟩
  | 114 => ⟨S1024, .i1⟩
  | 115 => ⟨S_, .i32⟩
  | 116 => ⟨S1024, .i32⟩
  | 117 => ⟨S1024, .i32⟩
  | 118 => ⟨S1024, .i32⟩
  | 119 => ⟨S1024x1, .i32⟩
  | 120 => ⟨S1, .i32⟩
  | 121 => ⟨S_, .i32⟩
  | 122 => ⟨S1024x1, .i32⟩
  | 123 => ⟨S1024x1, .i1⟩
  | 124 => ⟨S1x1, .i32⟩
  | 125 => ⟨S1024x1, .i32⟩
  | 126 => ⟨S1024x1, .i1⟩
  | 127 => ⟨S1024x1, .i1⟩
  | _ => ⟨S1024, .i32⟩

abbrev hbmTy0_1 (i : Nat) : BufTy := match i % 128 with
  | 0 => ⟨S_, .i1⟩
  | 1 => ⟨S1024, .i1⟩
  | 2 => ⟨S1024x128, .f32⟩
  | 3 => ⟨S1024x128, .i1⟩
  | 4 => ⟨S_, .f32⟩
  | 5 => ⟨S1024x128, .f32⟩
  | 6 => ⟨S1024x128, .f32⟩
  | 7 => ⟨S1024x128, .f32⟩
  | 8 => ⟨S1024x128, .f32⟩
  | 9 => ⟨S_, .i32⟩
  | 10 => ⟨S1024, .i32⟩
  | 11 => ⟨S1024, .i1⟩
  | 12 => ⟨S_, .i32⟩
  | 13 => ⟨S1024, .i32⟩
  | 14 => ⟨S1024, .i32⟩
  | 15 => ⟨S1024, .i32⟩
  | 16 => ⟨S1024x1, .i32⟩
  | 17 => ⟨S1, .i32⟩
  | 18 => ⟨S_, .i32⟩
  | 19 => ⟨S1024x1, .i32⟩
  | 20 => ⟨S1024x1, .i1⟩
  | 21 => ⟨S1x1, .i32⟩
  | 22 => ⟨S1024x1, .i32⟩
  | 23 => ⟨S1024x1, .i1⟩
  | 24 => ⟨S1024x1, .i1⟩
  | 25 => ⟨S_, .i1⟩
  | 26 => ⟨S1024, .i1⟩
  | 27 => ⟨S1024x128x4, .f32⟩
  | 28 => ⟨S1024x128x4, .i1⟩
  | 29 => ⟨S_, .f32⟩
  | 30 => ⟨S1024x128x4, .f32⟩
  | 31 => ⟨S1024x128x4, .f32⟩
  | 32 => ⟨S_, .i32⟩
  | 33 => ⟨S1024, .i32⟩
  | 34 => ⟨S1024, .i1⟩
  | 35 => ⟨S_, .i32⟩
  | 36 => ⟨S1024, .i32⟩
  | 37 => ⟨S1024, .i32⟩
  | 38 => ⟨S1024, .i32⟩
  | 39 => ⟨S1024x1, .i32⟩
  | 40 => ⟨S1, .i32⟩
  | 41 => ⟨S_, .i32⟩
  | 42 => ⟨S1024x1, .i32⟩
  | 43 => ⟨S1024x1, .i1⟩
  | 44 => ⟨S1x1, .i32⟩
  | 45 => ⟨S1024x1, .i32⟩
  | 46 => ⟨S1024x1, .i1⟩
  | 47 => ⟨S1024x1, .i1⟩
  | 48 => ⟨S_, .i1⟩
  | 49 => ⟨S1024, .i1⟩
  | 50 => ⟨S1024x4, .f32⟩
  | 51 => ⟨S1024x4, .i1⟩
  | 52 => ⟨S_, .f32⟩
  | 53 => ⟨S1024x4, .f32⟩
  | 54 => ⟨S1024x4, .f32⟩
  | 55 => ⟨S1024x4, .f32⟩
  | 56 => ⟨S1024x4, .f32⟩
  | 57 => ⟨S1024x4, .i32⟩
  | 58 => ⟨S_, .f32⟩
  | 59 => ⟨S_, .i32⟩
  | 60 => ⟨S1024, .f32⟩
  | 61 => ⟨S1024, .i32⟩
  | 62 => ⟨S_, .i32⟩
  | 63 => ⟨S_, .i32⟩
  | 64 => ⟨S_, .i32⟩
  | 65 => ⟨S1024, .i32⟩
  | 66 => ⟨S1024, .i32⟩
  | 67 => ⟨S_, .i32⟩
  | 68 => ⟨S1024, .i32⟩
  | 69 => ⟨S1024, .i32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S1024x1, .i32⟩
  | 78 => ⟨S1, .i32⟩
  | 79 => ⟨S_, .i32⟩
  | 80 => ⟨S1024x1, .i32⟩
  | 81 => ⟨S1024x1, .i1⟩
  | 82 => ⟨S1x1, .i32⟩
  | 83 => ⟨S1024x1, .i32⟩
  | 84 => ⟨S1024x1, .i1⟩
  | 85 => ⟨S1024x1, .i1⟩
  | 86 => ⟨S_, .i1⟩
  | 87 => ⟨S1024, .i1⟩
  | 88 => ⟨S1024x4, .i32⟩
  | 89 => ⟨S1024x4, .i1⟩
  | 90 => ⟨S_, .i32⟩
  | 91 => ⟨S1024x4, .i32⟩
  | 92 => ⟨S1024x4, .i32⟩
  | 93 => ⟨S1024x1, .i32⟩
  | 94 => ⟨S_, .i32⟩
  | 95 => ⟨S1024x1, .i32⟩
  | 96 => ⟨S1024x1, .i1⟩
  | 97 => ⟨S_, .i32⟩
  | 98 => ⟨S1024x1, .i32⟩
  | 99 => ⟨S1024x1, .i32⟩
  | 100 => ⟨S1024x1, .i32⟩
  | 101 => ⟨S1024x1x1, .i32⟩
  | 102 => ⟨S1, .i32⟩
  | 103 => ⟨S_, .i32⟩
  | 104 => ⟨S1024x1x1, .i32⟩
  | 105 => ⟨S1024x1x1, .i1⟩
  | 106 => ⟨S1x1x1, .i32⟩
  | 107 => ⟨S1024x1x1, .i32⟩
  | 108 => ⟨S1024x1x1, .i1⟩
  | 109 => ⟨S1024x1x1, .i1⟩
  | 110 => ⟨S_, .i1⟩
  | 111 => ⟨S1024x1, .i1⟩
  | 112 => ⟨S1024x1, .i32⟩
  | 113 => ⟨S_, .i32⟩
  | 114 => ⟨S1024x1, .i32⟩
  | 115 => ⟨S1024x1, .i32⟩
  | 116 => ⟨S1024, .i32⟩
  | 117 => ⟨S_, .i32⟩
  | 118 => ⟨S1024, .i32⟩
  | 119 => ⟨S1024, .i1⟩
  | 120 => ⟨S1024, .i32⟩
  | 121 => ⟨S_, .i32⟩
  | 122 => ⟨S1024, .i32⟩
  | 123 => ⟨S1024, .i1⟩
  | 124 => ⟨S_, .i32⟩
  | 125 => ⟨S1024, .i32⟩
  | 126 => ⟨S1024, .i32⟩
  | 127 => ⟨S1024, .i32⟩
  | _ => ⟨S1024, .i32⟩

abbrev hbmTy0_2 (i : Nat) : BufTy := match i % 128 with
  | 0 => ⟨S1024x1, .i32⟩
  | 1 => ⟨S1, .i32⟩
  | 2 => ⟨S_, .i32⟩
  | 3 => ⟨S1024x1, .i32⟩
  | 4 => ⟨S1024x1, .i1⟩
  | 5 => ⟨S1x1, .i32⟩
  | 6 => ⟨S1024x1, .i32⟩
  | 7 => ⟨S1024x1, .i1⟩
  | 8 => ⟨S1024x1, .i1⟩
  | 9 => ⟨S_, .i1⟩
  | 10 => ⟨S1024, .i1⟩
  | 11 => ⟨S1024x128x128, .f32⟩
  | 12 => ⟨S1024x128x128, .i1⟩
  | 13 => ⟨S_, .f32⟩
  | 14 => ⟨S1024x128x128, .f32⟩
  | 15 => ⟨S1024x128x128, .f32⟩
  | 16 => ⟨S_, .i32⟩
  | 17 => ⟨S1024, .i32⟩
  | 18 => ⟨S1024, .i1⟩
  | 19 => ⟨S_, .i32⟩
  | 20 => ⟨S1024, .i32⟩
  | 21 => ⟨S1024, .i32⟩
  | 22 => ⟨S1024, .i32⟩
  | 23 => ⟨S1024x1, .i32⟩
  | 24 => ⟨S1, .i32⟩
  | 25 => ⟨S_, .i32⟩
  | 26 => ⟨S1024x1, .i32⟩
  | 27 => ⟨S1024x1, .i1⟩
  | 28 => ⟨S1x1, .i32⟩
  | 29 => ⟨S1024x1, .i32⟩
  | 30 => ⟨S1024x1, .i1⟩
  | 31 => ⟨S1024x1, .i1⟩
  | 32 => ⟨S_, .i1⟩
  | 33 => ⟨S1024, .i1⟩
  | 34 => ⟨S1024x128, .f32⟩
  | 35 => ⟨S1024x128, .i1⟩
  | 36 => ⟨S_, .f32⟩
  | 37 => ⟨S1024x128, .f32⟩
  | 38 => ⟨S1024x128, .f32⟩
  | 39 => ⟨S1024x128, .f32⟩
  | 40 => ⟨S1024x128, .f32⟩
  | 41 => ⟨S_, .f32⟩
  | 42 => ⟨S1024x128, .f32⟩
  | 43 => ⟨S1024x128, .f32⟩
  | 44 => ⟨S_, .i32⟩
  | 45 => ⟨S1024, .i32⟩
  | 46 => ⟨S1024, .i1⟩
  | 47 => ⟨S_, .i32⟩
  | 48 => ⟨S1024, .i32⟩
  | 49 => ⟨S1024, .i32⟩
  | 50 => ⟨S1024, .i32⟩
  | 51 => ⟨S1024x1, .i32⟩
  | 52 => ⟨S1, .i32⟩
  | 53 => ⟨S_, .i32⟩
  | 54 => ⟨S1024x1, .i32⟩
  | 55 => ⟨S1024x1, .i1⟩
  | 56 => ⟨S1x1, .i32⟩
  | 57 => ⟨S1024x1, .i32⟩
  | 58 => ⟨S1024x1, .i1⟩
  | 59 => ⟨S1024x1, .i1⟩
  | 60 => ⟨S_, .i1⟩
  | 61 => ⟨S1024, .i1⟩
  | 62 => ⟨S1024x128x128, .f32⟩
  | 63 => ⟨S1024x128x128, .i1⟩
  | 64 => ⟨S_, .f32⟩
  | 65 => ⟨S1024x128x128, .f32⟩
  | 66 => ⟨S1024x128x128, .f32⟩
  | 67 => ⟨S_, .i32⟩
  | 68 => ⟨S1024, .i32⟩
  | 69 => ⟨S1024, .i1⟩
  | 70 => ⟨S_, .i32⟩
  | 71 => ⟨S1024, .i32⟩
  | 72 => ⟨S1024, .i32⟩
  | 73 => ⟨S1024, .i32⟩
  | 74 => ⟨S1024x1, .i32⟩
  | 75 => ⟨S1, .i32⟩
  | 76 => ⟨S_, .i32⟩
  | 77 => ⟨S1024x1, .i32⟩
  | 78 => ⟨S1024x1, .i1⟩
  | 79 => ⟨S1x1, .i32⟩
  | 80 => ⟨S1024x1, .i32⟩
  | 81 => ⟨S1024x1, .i1⟩
  | 82 => ⟨S1024x1, .i1⟩
  | 83 => ⟨S_, .i1⟩
  | 84 => ⟨S1024, .i1⟩
  | 85 => ⟨S1024x128, .f32⟩
  | 86 => ⟨S1024x128, .i1⟩
  | 87 => ⟨S_, .f32⟩
  | 88 => ⟨S1024x128, .f32⟩
  | 89 => ⟨S1024x128, .f32⟩
  | 90 => ⟨S1024x128, .f32⟩
  | 91 => ⟨S1024x128, .f32⟩
  | 92 => ⟨S_, .i32⟩
  | 93 => ⟨S1024, .i32⟩
  | 94 => ⟨S1024, .i1⟩
  | 95 => ⟨S_, .i32⟩
  | 96 => ⟨S1024, .i32⟩
  | 97 => ⟨S1024, .i32⟩
  | 98 => ⟨S1024, .i32⟩
  | 99 => ⟨S1024x1, .i32⟩
  | 100 => ⟨S1, .i32⟩
  | 101 => ⟨S_, .i32⟩
  | 102 => ⟨S1024x1, .i32⟩
  | 103 => ⟨S1024x1, .i1⟩
  | 104 => ⟨S1x1, .i32⟩
  | 105 => ⟨S1024x1, .i32⟩
  | 106 => ⟨S1024x1, .i1⟩
  | 107 => ⟨S1024x1, .i1⟩
  | 108 => ⟨S_, .i1⟩
  | 109 => ⟨S1024, .i1⟩
  | 110 => ⟨S1024x128x4, .f32⟩
  | 111 => ⟨S1024x128x4, .i1⟩
  | 112 => ⟨S_, .f32⟩
  | 113 => ⟨S1024x128x4, .f32⟩
  | 114 => ⟨S1024x128x4, .f32⟩
  | 115 => ⟨S_, .i32⟩
  | 116 => ⟨S1024, .i32⟩
  | 117 => ⟨S1024, .i1⟩
  | 118 => ⟨S_, .i32⟩
  | 119 => ⟨S1024, .i32⟩
  | 120 => ⟨S1024, .i32⟩
  | 121 => ⟨S1024, .i32⟩
  | 122 => ⟨S1024x1, .i32⟩
  | 123 => ⟨S1, .i32⟩
  | 124 => ⟨S_, .i32⟩
  | 125 => ⟨S1024x1, .i32⟩
  | 126 => ⟨S1024x1, .i1⟩
  | 127 => ⟨S1x1, .i32⟩
  | _ => ⟨S1024, .i32⟩

abbrev hbmTy0_3 (i : Nat) : BufTy := match i % 128 with
  | 0 => ⟨S1024x1, .i32⟩
  | 1 => ⟨S1024x1, .i1⟩
  | 2 => ⟨S1024x1, .i1⟩
  | 3 => ⟨S_, .i1⟩
  | 4 => ⟨S1024, .i1⟩
  | 5 => ⟨S1024x4, .f32⟩
  | 6 => ⟨S1024x4, .i1⟩
  | 7 => ⟨S_, .f32⟩
  | 8 => ⟨S1024x4, .f32⟩
  | 9 => ⟨S1024x4, .f32⟩
  | 10 => ⟨S1024x4, .f32⟩
  | 11 => ⟨S1024x4, .f32⟩
  | 12 => ⟨S1024x4, .i32⟩
  | 13 => ⟨S_, .f32⟩
  | 14 => ⟨S_, .i32⟩
  | 15 => ⟨S1024, .f32⟩
  | 16 => ⟨S1024, .i32⟩
  | 17 => ⟨S_, .i32⟩
  | 18 => ⟨S_, .i32⟩
  | 19 => ⟨S_, .i32⟩
  | 20 => ⟨S1024, .i32⟩
  | 21 => ⟨S1024, .i32⟩
  | 22 => ⟨S_, .i32⟩
  | 23 => ⟨S1024, .i32⟩
  | 24 => ⟨S1024, .i32⟩
  | 25 => ⟨S_, .i32⟩
  | 26 => ⟨S1024, .i32⟩
  | 27 => ⟨S1024, .i1⟩
  | 28 => ⟨S_, .i32⟩
  | 29 => ⟨S1024, .i32⟩
  | 30 => ⟨S1024, .i32⟩
  | 31 => ⟨S1024, .i32⟩
  | 32 => ⟨S1024x1, .i32⟩
  | 33 => ⟨S1, .i32⟩
  | 34 => ⟨S_, .i32⟩
  | 35 => ⟨S1024x1, .i32⟩
  | 36 => ⟨S1024x1, .i1⟩
  | 37 => ⟨S1x1, .i32⟩
  | 38 => ⟨S1024x1, .i32⟩
  | 39 => ⟨S1024x1, .i1⟩
  | 40 => ⟨S1024x1, .i1⟩
  | 41 => ⟨S_, .i1⟩
  | 42 => ⟨S1024, .i1⟩
  | 43 => ⟨S1024x4, .i32⟩
  | 44 => ⟨S1024x4, .i1⟩
  | 45 => ⟨S_, .i32⟩
  | 46 => ⟨S1024x4, .i32⟩
  | 47 => ⟨S1024x4, .i32⟩
  | 48 => ⟨S1024x1, .i32⟩
  | 49 => ⟨S_, .i32⟩
  | 50 => ⟨S1024x1, .i32⟩
  | 51 => ⟨S1024x1, .i1⟩
  | 52 => ⟨S_, .i32⟩
  | 53 => ⟨S1024x1, .i32⟩
  | 54 => ⟨S1024x1, .i32⟩
  | 55 => ⟨S1024x1, .i32⟩
  | 56 => ⟨S1024x1x1, .i32⟩
  | 57 => ⟨S1, .i32⟩
  | 58 => ⟨S_, .i32⟩
  | 59 => ⟨S1024x1x1, .i32⟩
  | 60 => ⟨S1024x1x1, .i1⟩
  | 61 => ⟨S1x1x1, .i32⟩
  | 62 => ⟨S1024x1x1, .i32⟩
  | 63 => ⟨S1024x1x1, .i1⟩
  | 64 => ⟨S1024x1x1, .i1⟩
  | 65 => ⟨S_, .i1⟩
  | 66 => ⟨S1024x1, .i1⟩
  | 67 => ⟨S1024x1, .i32⟩
  | 68 => ⟨S_, .i32⟩
  | 69 => ⟨S1024x1, .i32⟩
  | 70 => ⟨S1024x1, .i32⟩
  | 71 => ⟨S1024, .i32⟩
  | 72 => ⟨S_, .i32⟩
  | 73 => ⟨S1024, .i32⟩
  | 74 => ⟨S1024, .i1⟩
  | 75 => ⟨S1024, .i32⟩
  | 76 => ⟨S_, .i32⟩
  | 77 => ⟨S1024, .i32⟩
  | 78 => ⟨S1024, .i1⟩
  | 79 => ⟨S_, .i32⟩
  | 80 => ⟨S1024, .i32⟩
  | 81 => ⟨S1024, .i32⟩
  | 82 => ⟨S1024, .i32⟩
  | 83 => ⟨S1024x1, .i32⟩
  | 84 => ⟨S1, .i32⟩
  | 85 => ⟨S_, .i32⟩
  | 86 => ⟨S1024x1, .i32⟩
  | 87 => ⟨S1024x1, .i1⟩
  | 88 => ⟨S1x1, .i32⟩
  | 89 => ⟨S1024x1, .i32⟩
  | 90 => ⟨S1024x1, .i1⟩
  | 91 => ⟨S1024x1, .i1⟩
  | 92 => ⟨S_, .i1⟩
  | 93 => ⟨S1024, .i1⟩
  | 94 => ⟨S1024x128x128, .f32⟩
  | 95 => ⟨S1024x128x128, .i1⟩
  | 96 => ⟨S_, .f32⟩
  | 97 => ⟨S1024x128x128, .f32⟩
  | 98 => ⟨S1024x128x128, .f32⟩
  | 99 => ⟨S_, .i32⟩
  | 100 => ⟨S1024, .i32⟩
  | 101 => ⟨S1024, .i1⟩
  | 102 => ⟨S_, .i32⟩
  | 103 => ⟨S1024, .i32⟩
  | 104 => ⟨S1024, .i32⟩
  | 105 => ⟨S1024, .i32⟩
  | 106 => ⟨S1024x1, .i32⟩
  | 107 => ⟨S1, .i32⟩
  | 108 => ⟨S_, .i32⟩
  | 109 => ⟨S1024x1, .i32⟩
  | 110 => ⟨S1024x1, .i1⟩
  | 111 => ⟨S1x1, .i32⟩
  | 112 => ⟨S1024x1, .i32⟩
  | 113 => ⟨S1024x1, .i1⟩
  | 114 => ⟨S1024x1, .i1⟩
  | 115 => ⟨S_, .i1⟩
  | 116 => ⟨S1024, .i1⟩
  | 117 => ⟨S1024x128, .f32⟩
  | 118 => ⟨S1024x128, .i1⟩
  | 119 => ⟨S_, .f32⟩
  | 120 => ⟨S1024x128, .f32⟩
  | 121 => ⟨S1024x128, .f32⟩
  | 122 => ⟨S1024x128, .f32⟩
  | 123 => ⟨S1024x128, .f32⟩
  | 124 => ⟨S_, .f32⟩
  | 125 => ⟨S1024x128, .f32⟩
  | 126 => ⟨S1024x128, .f32⟩
  | 127 => ⟨S_, .i32⟩
  | _ => ⟨S1024, .i32⟩

abbrev hbmTy0_4 (i : Nat) : BufTy := match i % 128 with
  | 0 => ⟨S1024, .i32⟩
  | 1 => ⟨S1024, .i1⟩
  | 2 => ⟨S_, .i32⟩
  | 3 => ⟨S1024, .i32⟩
  | 4 => ⟨S1024, .i32⟩
  | 5 => ⟨S1024, .i32⟩
  | 6 => ⟨S1024x1, .i32⟩
  | 7 => ⟨S1, .i32⟩
  | 8 => ⟨S_, .i32⟩
  | 9 => ⟨S1024x1, .i32⟩
  | 10 => ⟨S1024x1, .i1⟩
  | 11 => ⟨S1x1, .i32⟩
  | 12 => ⟨S1024x1, .i32⟩
  | 13 => ⟨S1024x1, .i1⟩
  | 14 => ⟨S1024x1, .i1⟩
  | 15 => ⟨S_, .i1⟩
  | 16 => ⟨S1024, .i1⟩
  | 17 => ⟨S1024x128x128, .f32⟩
  | 18 => ⟨S1024x128x128, .i1⟩
  | 19 => ⟨S_, .f32⟩
  | 20 => ⟨S1024x128x128, .f32⟩
  | 21 => ⟨S1024x128x128, .f32⟩
  | 22 => ⟨S_, .i32⟩
  | 23 => ⟨S1024, .i32⟩
  | 24 => ⟨S1024, .i1⟩
  | 25 => ⟨S_, .i32⟩
  | 26 => ⟨S1024, .i32⟩
  | 27 => ⟨S1024, .i32⟩
  | 28 => ⟨S1024, .i32⟩
  | 29 => ⟨S1024x1, .i32⟩
  | 30 => ⟨S1, .i32⟩
  | 31 => ⟨S_, .i32⟩
  | 32 => ⟨S1024x1, .i32⟩
  | 33 => ⟨S1024x1, .i1⟩
  | 34 => ⟨S1x1, .i32⟩
  | 35 => ⟨S1024x1, .i32⟩
  | 36 => ⟨S1024x1, .i1⟩
  | 37 => ⟨S1024x1, .i1⟩
  | 38 => ⟨S_, .i1⟩
  | 39 => ⟨S1024, .i1⟩
  | 40 => ⟨S1024x128, .f32⟩
  | 41 => ⟨S1024x128, .i1⟩
  | 42 => ⟨S_, .f32⟩
  | 43 => ⟨S1024x128, .f32⟩
  | 44 => ⟨S1024x128, .f32⟩
  | 45 => ⟨S1024x128, .f32⟩
  | 46 => ⟨S1024x128, .f32⟩
  | 47 => ⟨S_, .i32⟩
  | 48 => ⟨S1024, .i32⟩
  | 49 => ⟨S1024, .i1⟩
  | 50 => ⟨S_, .i32⟩
  | 51 => ⟨S1024, .i32⟩
  | 52 => ⟨S1024, .i32⟩
  | 53 => ⟨S1024, .i32⟩
  | 54 => ⟨S1024x1, .i32⟩
  | 55 => ⟨S1, .i32⟩
  | 56 => ⟨S_, .i32⟩
  | 57 => ⟨S1024x1, .i32⟩
  | 58 => ⟨S1024x1, .i1⟩
  | 59 => ⟨S1x1, .i32⟩
  | 60 => ⟨S1024x1, .i32⟩
  | 61 => ⟨S1024x1, .i1⟩
  | 62 => ⟨S1024x1, .i1⟩
  | 63 => ⟨S_, .i1⟩
  | 64 => ⟨S1024, .i1⟩
  | 65 => ⟨S1024x128x4, .f32⟩
  | 66 => ⟨S1024x128x4, .i1⟩
  | 67 => ⟨S_, .f32⟩
  | 68 => ⟨S1024x128x4, .f32⟩
  | 69 => ⟨S1024x128x4, .f32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S1024x1, .i32⟩
  | 78 => ⟨S1, .i32⟩
  | 79 => ⟨S_, .i32⟩
  | 80 => ⟨S1024x1, .i32⟩
  | 81 => ⟨S1024x1, .i1⟩
  | 82 => ⟨S1x1, .i32⟩
  | 83 => ⟨S1024x1, .i32⟩
  | 84 => ⟨S1024x1, .i1⟩
  | 85 => ⟨S1024x1, .i1⟩
  | 86 => ⟨S_, .i1⟩
  | 87 => ⟨S1024, .i1⟩
  | 88 => ⟨S1024x4, .f32⟩
  | 89 => ⟨S1024x4, .i1⟩
  | 90 => ⟨S_, .f32⟩
  | 91 => ⟨S1024x4, .f32⟩
  | 92 => ⟨S1024x4, .f32⟩
  | 93 => ⟨S1024x4, .f32⟩
  | 94 => ⟨S1024x4, .f32⟩
  | 95 => ⟨S1024x4, .i32⟩
  | 96 => ⟨S_, .f32⟩
  | 97 => ⟨S_, .i32⟩
  | 98 => ⟨S1024, .f32⟩
  | 99 => ⟨S1024, .i32⟩
  | 100 => ⟨S_, .i32⟩
  | 101 => ⟨S_, .i32⟩
  | 102 => ⟨S_, .i32⟩
  | 103 => ⟨S1024, .i32⟩
  | 104 => ⟨S1024, .i32⟩
  | 105 => ⟨S_, .i32⟩
  | 106 => ⟨S1024, .i32⟩
  | 107 => ⟨S1024, .i32⟩
  | 108 => ⟨S_, .i32⟩
  | 109 => ⟨S1024, .i32⟩
  | 110 => ⟨S1024, .i1⟩
  | 111 => ⟨S_, .i32⟩
  | 112 => ⟨S1024, .i32⟩
  | 113 => ⟨S1024, .i32⟩
  | 114 => ⟨S1024, .i32⟩
  | 115 => ⟨S1024x1, .i32⟩
  | 116 => ⟨S1, .i32⟩
  | 117 => ⟨S_, .i32⟩
  | 118 => ⟨S1024x1, .i32⟩
  | 119 => ⟨S1024x1, .i1⟩
  | 120 => ⟨S1x1, .i32⟩
  | 121 => ⟨S1024x1, .i32⟩
  | 122 => ⟨S1024x1, .i1⟩
  | 123 => ⟨S1024x1, .i1⟩
  | 124 => ⟨S_, .i1⟩
  | 125 => ⟨S1024, .i1⟩
  | 126 => ⟨S1024x4, .i32⟩
  | 127 => ⟨S1024x4, .i1⟩
  | _ => ⟨S1024, .i32⟩

abbrev hbmTy0_5 (i : Nat) : BufTy := match i % 128 with
  | 0 => ⟨S_, .i32⟩
  | 1 => ⟨S1024x4, .i32⟩
  | 2 => ⟨S1024x4, .i32⟩
  | 3 => ⟨S1024x1, .i32⟩
  | 4 => ⟨S_, .i32⟩
  | 5 => ⟨S1024x1, .i32⟩
  | 6 => ⟨S1024x1, .i1⟩
  | 7 => ⟨S_, .i32⟩
  | 8 => ⟨S1024x1, .i32⟩
  | 9 => ⟨S1024x1, .i32⟩
  | 10 => ⟨S1024x1, .i32⟩
  | 11 => ⟨S1024x1x1, .i32⟩
  | 12 => ⟨S1, .i32⟩
  | 13 => ⟨S_, .i32⟩
  | 14 => ⟨S1024x1x1, .i32⟩
  | 15 => ⟨S1024x1x1, .i1⟩
  | 16 => ⟨S1x1x1, .i32⟩
  | 17 => ⟨S1024x1x1, .i32⟩
  | 18 => ⟨S1024x1x1, .i1⟩
  | 19 => ⟨S1024x1x1, .i1⟩
  | 20 => ⟨S_, .i1⟩
  | 21 => ⟨S1024x1, .i1⟩
  | 22 => ⟨S1024x1, .i32⟩
  | 23 => ⟨S_, .i32⟩
  | 24 => ⟨S1024x1, .i32⟩
  | 25 => ⟨S1024x1, .i32⟩
  | 26 => ⟨S1024, .i32⟩
  | 27 => ⟨S_, .i32⟩
  | 28 => ⟨S1024, .i32⟩
  | 29 => ⟨S1024, .i1⟩
  | 30 => ⟨S1024, .i32⟩
  | 31 => ⟨S_, .i32⟩
  | 32 => ⟨S1024, .i32⟩
  | 33 => ⟨S1024, .i1⟩
  | 34 => ⟨S_, .i32⟩
  | 35 => ⟨S1024, .i32⟩
  | 36 => ⟨S1024, .i32⟩
  | 37 => ⟨S1024, .i32⟩
  | 38 => ⟨S1024x1, .i32⟩
  | 39 => ⟨S1, .i32⟩
  | 40 => ⟨S_, .i32⟩
  | 41 => ⟨S1024x1, .i32⟩
  | 42 => ⟨S1024x1, .i1⟩
  | 43 => ⟨S1x1, .i32⟩
  | 44 => ⟨S1024x1, .i32⟩
  | 45 => ⟨S1024x1, .i1⟩
  | 46 => ⟨S1024x1, .i1⟩
  | 47 => ⟨S_, .i1⟩
  | 48 => ⟨S1024, .i1⟩
  | 49 => ⟨S1024x128x128, .f32⟩
  | 50 => ⟨S1024x128x128, .i1⟩
  | 51 => ⟨S_, .f32⟩
  | 52 => ⟨S1024x128x128, .f32⟩
  | 53 => ⟨S1024x128x128, .f32⟩
  | 54 => ⟨S_, .i32⟩
  | 55 => ⟨S1024, .i32⟩
  | 56 => ⟨S1024, .i1⟩
  | 57 => ⟨S_, .i32⟩
  | 58 => ⟨S1024, .i32⟩
  | 59 => ⟨S1024, .i32⟩
  | 60 => ⟨S1024, .i32⟩
  | 61 => ⟨S1024x1, .i32⟩
  | 62 => ⟨S1, .i32⟩
  | 63 => ⟨S_, .i32⟩
  | 64 => ⟨S1024x1, .i32⟩
  | 65 => ⟨S1024x1, .i1⟩
  | 66 => ⟨S1x1, .i32⟩
  | 67 => ⟨S1024x1, .i32⟩
  | 68 => ⟨S1024x1, .i1⟩
  | 69 => ⟨S1024x1, .i1⟩
  | 70 => ⟨S_, .i1⟩
  | 71 => ⟨S1024, .i1⟩
  | 72 => ⟨S1024x128, .f32⟩
  | 73 => ⟨S1024x128, .i1⟩
  | 74 => ⟨S_, .f32⟩
  | 75 => ⟨S1024x128, .f32⟩
  | 76 => ⟨S1024x128, .f32⟩
  | 77 => ⟨S1024x128, .f32⟩
  | 78 => ⟨S1024x128, .f32⟩
  | 79 => ⟨S_, .f32⟩
  | 80 => ⟨S1024x128, .f32⟩
  | 81 => ⟨S1024x128, .f32⟩
  | 82 => ⟨S_, .i32⟩
  | 83 => ⟨S1024, .i32⟩
  | 84 => ⟨S1024, .i1⟩
  | 85 => ⟨S_, .i32⟩
  | 86 => ⟨S1024, .i32⟩
  | 87 => ⟨S1024, .i32⟩
  | 88 => ⟨S1024, .i32⟩
  | 89 => ⟨S1024x1, .i32⟩
  | 90 => ⟨S1, .i32⟩
  | 91 => ⟨S_, .i32⟩
  | 92 => ⟨S1024x1, .i32⟩
  | 93 => ⟨S1024x1, .i1⟩
  | 94 => ⟨S1x1, .i32⟩
  | 95 => ⟨S1024x1, .i32⟩
  | 96 => ⟨S1024x1, .i1⟩
  | 97 => ⟨S1024x1, .i1⟩
  | 98 => ⟨S_, .i1⟩
  | 99 => ⟨S1024, .i1⟩
  | 100 => ⟨S1024x128x128, .f32⟩
  | 101 => ⟨S1024x128x128, .i1⟩
  | 102 => ⟨S_, .f32⟩
  | 103 => ⟨S1024x128x128, .f32⟩
  | 104 => ⟨S1024x128x128, .f32⟩
  | 105 => ⟨S_, .i32⟩
  | 106 => ⟨S1024, .i32⟩
  | 107 => ⟨S1024, .i1⟩
  | 108 => ⟨S_, .i32⟩
  | 109 => ⟨S1024, .i32⟩
  | 110 => ⟨S1024, .i32⟩
  | 111 => ⟨S1024, .i32⟩
  | 112 => ⟨S1024x1, .i32⟩
  | 113 => ⟨S1, .i32⟩
  | 114 => ⟨S_, .i32⟩
  | 115 => ⟨S1024x1, .i32⟩
  | 116 => ⟨S1024x1, .i1⟩
  | 117 => ⟨S1x1, .i32⟩
  | 118 => ⟨S1024x1, .i32⟩
  | 119 => ⟨S1024x1, .i1⟩
  | 120 => ⟨S1024x1, .i1⟩
  | 121 => ⟨S_, .i1⟩
  | 122 => ⟨S1024, .i1⟩
  | 123 => ⟨S1024x128, .f32⟩
  | 124 => ⟨S1024x128, .i1⟩
  | 125 => ⟨S_, .f32⟩
  | 126 => ⟨S1024x128, .f32⟩
  | 127 => ⟨S1024x128, .f32⟩
  | _ => ⟨S1024, .i32⟩

abbrev hbmTy0_6 (i : Nat) : BufTy := match i % 128 with
  | 0 => ⟨S1024x128, .f32⟩
  | 1 => ⟨S1024x128, .f32⟩
  | 2 => ⟨S_, .i32⟩
  | 3 => ⟨S1024, .i32⟩
  | 4 => ⟨S1024, .i1⟩
  | 5 => ⟨S_, .i32⟩
  | 6 => ⟨S1024, .i32⟩
  | 7 => ⟨S1024, .i32⟩
  | 8 => ⟨S1024, .i32⟩
  | 9 => ⟨S1024x1, .i32⟩
  | 10 => ⟨S1, .i32⟩
  | 11 => ⟨S_, .i32⟩
  | 12 => ⟨S1024x1, .i32⟩
  | 13 => ⟨S1024x1, .i1⟩
  | 14 => ⟨S1x1, .i32⟩
  | 15 => ⟨S1024x1, .i32⟩
  | 16 => ⟨S1024x1, .i1⟩
  | 17 => ⟨S1024x1, .i1⟩
  | 18 => ⟨S_, .i1⟩
  | 19 => ⟨S1024, .i1⟩
  | 20 => ⟨S1024x128x4, .f32⟩
  | 21 => ⟨S1024x128x4, .i1⟩
  | 22 => ⟨S_, .f32⟩
  | 23 => ⟨S1024x128x4, .f32⟩
  | 24 => ⟨S1024x128x4, .f32⟩
  | 25 => ⟨S_, .i32⟩
  | 26 => ⟨S1024, .i32⟩
  | 27 => ⟨S1024, .i1⟩
  | 28 => ⟨S_, .i32⟩
  | 29 => ⟨S1024, .i32⟩
  | 30 => ⟨S1024, .i32⟩
  | 31 => ⟨S1024, .i32⟩
  | 32 => ⟨S1024x1, .i32⟩
  | 33 => ⟨S1, .i32⟩
  | 34 => ⟨S_, .i32⟩
  | 35 => ⟨S1024x1, .i32⟩
  | 36 => ⟨S1024x1, .i1⟩
  | 37 => ⟨S1x1, .i32⟩
  | 38 => ⟨S1024x1, .i32⟩
  | 39 => ⟨S1024x1, .i1⟩
  | 40 => ⟨S1024x1, .i1⟩
  | 41 => ⟨S_, .i1⟩
  | 42 => ⟨S1024, .i1⟩
  | 43 => ⟨S1024x4, .f32⟩
  | 44 => ⟨S1024x4, .i1⟩
  | 45 => ⟨S_, .f32⟩
  | 46 => ⟨S1024x4, .f32⟩
  | 47 => ⟨S1024x4, .f32⟩
  | 48 => ⟨S1024x4, .f32⟩
  | 49 => ⟨S1024x4, .f32⟩
  | 50 => ⟨S1024x4, .i32⟩
  | 51 => ⟨S_, .f32⟩
  | 52 => ⟨S_, .i32⟩
  | 53 => ⟨S1024, .f32⟩
  | 54 => ⟨S1024, .i32⟩
  | 55 => ⟨S_, .i32⟩
  | 56 => ⟨S_, .i32⟩
  | 57 => ⟨S_, .i32⟩
  | 58 => ⟨S1024, .i32⟩
  | 59 => ⟨S1024, .i32⟩
  | 60 => ⟨S_, .i32⟩
  | 61 => ⟨S1024, .i32⟩
  | 62 => ⟨S1024, .i32⟩
  | 63 => ⟨S_, .i32⟩
  | 64 => ⟨S1024, .i32⟩
  | 65 => ⟨S1024, .i1⟩
  | 66 => ⟨S_, .i32⟩
  | 67 => ⟨S1024, .i32⟩
  | 68 => ⟨S1024, .i32⟩
  | 69 => ⟨S1024, .i32⟩
  | 70 => ⟨S1024x1, .i32⟩
  | 71 => ⟨S1, .i32⟩
  | 72 => ⟨S_, .i32⟩
  | 73 => ⟨S1024x1, .i32⟩
  | 74 => ⟨S1024x1, .i1⟩
  | 75 => ⟨S1x1, .i32⟩
  | 76 => ⟨S1024x1, .i32⟩
  | 77 => ⟨S1024x1, .i1⟩
  | 78 => ⟨S1024x1, .i1⟩
  | 79 => ⟨S_, .i1⟩
  | 80 => ⟨S1024, .i1⟩
  | 81 => ⟨S1024x4, .i32⟩
  | 82 => ⟨S1024x4, .i1⟩
  | 83 => ⟨S_, .i32⟩
  | 84 => ⟨S1024x4, .i32⟩
  | 85 => ⟨S1024x4, .i32⟩
  | 86 => ⟨S1024x1, .i32⟩
  | 87 => ⟨S_, .i32⟩
  | 88 => ⟨S1024x1, .i32⟩
  | 89 => ⟨S1024x1, .i1⟩
  | 90 => ⟨S_, .i32⟩
  | 91 => ⟨S1024x1, .i32⟩
  | 92 => ⟨S1024x1, .i32⟩
  | 93 => ⟨S1024x1, .i32⟩
  | 94 => ⟨S1024x1x1, .i32⟩
  | 95 => ⟨S1, .i32⟩
  | 96 => ⟨S_, .i32⟩
  | 97 => ⟨S1024x1x1, .i32⟩
  | 98 => ⟨S1024x1x1, .i1⟩
  | 99 => ⟨S1x1x1, .i32⟩
  | 100 => ⟨S1024x1x1, .i32⟩
  | 101 => ⟨S1024x1x1, .i1⟩
  | 102 => ⟨S1024x1x1, .i1⟩
  | 103 => ⟨S_, .i1⟩
  | 104 => ⟨S1024x1, .i1⟩
  | 105 => ⟨S1024x1, .i32⟩
  | 106 => ⟨S_, .i32⟩
  | 107 => ⟨S1024x1, .i32⟩
  | 108 => ⟨S1024x1, .i32⟩
  | 109 => ⟨S1024, .i32⟩
  | 110 => ⟨S_, .i32⟩
  | 111 => ⟨S1024, .i32⟩
  | 112 => ⟨S1024, .i1⟩
  | 113 => ⟨S1024, .i32⟩
  | 114 => ⟨S1024x1000, .f32⟩
  | 115 => ⟨S1x1000, .f32⟩
  | 116 => ⟨S1024x1000, .f32⟩
  | 117 => ⟨S1024x1000, .f32⟩
  | _ => ⟨S1024, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1024, .i32⟩

abbrev bufTy : (tb : Table) → Fin (tcTables nBuf tb) → BufTy
  | .hbm, ⟨i, _⟩ => hbmTy i
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_c : Ref sig .tc := ⟨.hbm, 34, rfl⟩
abbrev main_v1 : Ref sig .tc := ⟨.hbm, 35, rfl⟩
abbrev main_cst : Ref sig .tc := ⟨.hbm, 36, rfl⟩
abbrev main_v2 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v3 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v4 : Ref sig .tc := ⟨.hbm, 83, rfl⟩
abbrev main_v5 : Ref sig .tc := ⟨.hbm, 84, rfl⟩
abbrev main_v6 : Ref sig .tc := ⟨.hbm, 85, rfl⟩
abbrev main_call3_cst : Ref sig .tc := ⟨.hbm, 86, rfl⟩
abbrev main_call3_v0 : Ref sig .tc := ⟨.hbm, 87, rfl⟩
abbrev main_v7 : Ref sig .tc := ⟨.hbm, 88, rfl⟩
abbrev main_call4_c : Ref sig .tc := ⟨.hbm, 89, rfl⟩
abbrev main_call4_v0 : Ref sig .tc := ⟨.hbm, 90, rfl⟩
abbrev main_call4_v1 : Ref sig .tc := ⟨.hbm, 91, rfl⟩
abbrev main_call4_c_0 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_v5 : Ref sig .tc := ⟨.hbm, 96, rfl⟩
abbrev main_call4_c_1 : Ref sig .tc := ⟨.hbm, 97, rfl⟩
abbrev main_call4_c_2 : Ref sig .tc := ⟨.hbm, 98, rfl⟩
abbrev main_call4_v6 : Ref sig .tc := ⟨.hbm, 99, rfl⟩
abbrev main_call4_v7 : Ref sig .tc := ⟨.hbm, 100, rfl⟩
abbrev main_call4_v8 : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_c_3 : Ref sig .tc := ⟨.hbm, 105, rfl⟩
abbrev main_call4_v12 : Ref sig .tc := ⟨.hbm, 106, rfl⟩
abbrev main_call4_v13 : Ref sig .tc := ⟨.hbm, 107, rfl⟩
abbrev main_call4_v14 : Ref sig .tc := ⟨.hbm, 108, rfl⟩
abbrev main_call4_cst : Ref sig .tc := ⟨.hbm, 109, rfl⟩
abbrev main_call4_v15 : Ref sig .tc := ⟨.hbm, 110, rfl⟩
abbrev main_v8 : Ref sig .tc := ⟨.hbm, 111, rfl⟩
abbrev main_call5_c : Ref sig .tc := ⟨.hbm, 112, rfl⟩
abbrev main_call5_v0 : Ref sig .tc := ⟨.hbm, 113, rfl⟩
abbrev main_call5_v1 : Ref sig .tc := ⟨.hbm, 114, rfl⟩
abbrev main_call5_c_0 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_v5 : Ref sig .tc := ⟨.hbm, 119, rfl⟩
abbrev main_call5_c_1 : Ref sig .tc := ⟨.hbm, 120, rfl⟩
abbrev main_call5_c_2 : Ref sig .tc := ⟨.hbm, 121, rfl⟩
abbrev main_call5_v6 : Ref sig .tc := ⟨.hbm, 122, rfl⟩
abbrev main_call5_v7 : Ref sig .tc := ⟨.hbm, 123, rfl⟩
abbrev main_call5_v8 : Ref sig .tc := ⟨.hbm, 124, rfl⟩
abbrev main_call5_v9 : Ref sig .tc := ⟨.hbm, 125, rfl⟩
abbrev main_call5_v10 : Ref sig .tc := ⟨.hbm, 126, rfl⟩
abbrev main_call5_v11 : Ref sig .tc := ⟨.hbm, 127, rfl⟩
abbrev main_call5_c_3 : Ref sig .tc := ⟨.hbm, 128, rfl⟩
abbrev main_call5_v12 : Ref sig .tc := ⟨.hbm, 129, rfl⟩
abbrev main_call5_v13 : Ref sig .tc := ⟨.hbm, 130, rfl⟩
abbrev main_call5_v14 : Ref sig .tc := ⟨.hbm, 131, rfl⟩
abbrev main_call5_cst : Ref sig .tc := ⟨.hbm, 132, rfl⟩
abbrev main_call5_v15 : Ref sig .tc := ⟨.hbm, 133, rfl⟩
abbrev main_v9 : Ref sig .tc := ⟨.hbm, 134, rfl⟩
abbrev main_v10 : Ref sig .tc := ⟨.hbm, 135, rfl⟩
abbrev main_v11 : Ref sig .tc := ⟨.hbm, 136, rfl⟩
abbrev main_call6_c : Ref sig .tc := ⟨.hbm, 137, rfl⟩
abbrev main_call6_v0 : Ref sig .tc := ⟨.hbm, 138, rfl⟩
abbrev main_call6_v1 : Ref sig .tc := ⟨.hbm, 139, rfl⟩
abbrev main_call6_c_0 : Ref sig .tc := ⟨.hbm, 140, rfl⟩
abbrev main_call6_v2 : Ref sig .tc := ⟨.hbm, 141, rfl⟩
abbrev main_call6_v3 : Ref sig .tc := ⟨.hbm, 142, rfl⟩
abbrev main_call6_v4 : Ref sig .tc := ⟨.hbm, 143, rfl⟩
abbrev main_call6_v5 : Ref sig .tc := ⟨.hbm, 144, rfl⟩
abbrev main_call6_c_1 : Ref sig .tc := ⟨.hbm, 145, rfl⟩
abbrev main_call6_c_2 : Ref sig .tc := ⟨.hbm, 146, rfl⟩
abbrev main_call6_v6 : Ref sig .tc := ⟨.hbm, 147, rfl⟩
abbrev main_call6_v7 : Ref sig .tc := ⟨.hbm, 148, rfl⟩
abbrev main_call6_v8 : Ref sig .tc := ⟨.hbm, 149, rfl⟩
abbrev main_call6_v9 : Ref sig .tc := ⟨.hbm, 150, rfl⟩
abbrev main_call6_v10 : Ref sig .tc := ⟨.hbm, 151, rfl⟩
abbrev main_call6_v11 : Ref sig .tc := ⟨.hbm, 152, rfl⟩
abbrev main_call6_c_3 : Ref sig .tc := ⟨.hbm, 153, rfl⟩
abbrev main_call6_v12 : Ref sig .tc := ⟨.hbm, 154, rfl⟩
abbrev main_call6_v13 : Ref sig .tc := ⟨.hbm, 155, rfl⟩
abbrev main_call6_v14 : Ref sig .tc := ⟨.hbm, 156, rfl⟩
abbrev main_call6_cst : Ref sig .tc := ⟨.hbm, 157, rfl⟩
abbrev main_call6_v15 : Ref sig .tc := ⟨.hbm, 158, rfl⟩
abbrev main_v12 : Ref sig .tc := ⟨.hbm, 159, rfl⟩
abbrev main_call7_c : Ref sig .tc := ⟨.hbm, 160, rfl⟩
abbrev main_call7_v0 : Ref sig .tc := ⟨.hbm, 161, rfl⟩
abbrev main_call7_v1 : Ref sig .tc := ⟨.hbm, 162, rfl⟩
abbrev main_call7_c_0 : Ref sig .tc := ⟨.hbm, 163, rfl⟩
abbrev main_call7_v2 : Ref sig .tc := ⟨.hbm, 164, rfl⟩
abbrev main_call7_v3 : Ref sig .tc := ⟨.hbm, 165, rfl⟩
abbrev main_call7_v4 : Ref sig .tc := ⟨.hbm, 166, rfl⟩
abbrev main_call7_v5 : Ref sig .tc := ⟨.hbm, 167, rfl⟩
abbrev main_call7_c_1 : Ref sig .tc := ⟨.hbm, 168, rfl⟩
abbrev main_call7_c_2 : Ref sig .tc := ⟨.hbm, 169, rfl⟩
abbrev main_call7_v6 : Ref sig .tc := ⟨.hbm, 170, rfl⟩
abbrev main_call7_v7 : Ref sig .tc := ⟨.hbm, 171, rfl⟩
abbrev main_call7_v8 : Ref sig .tc := ⟨.hbm, 172, rfl⟩
abbrev main_call7_v9 : Ref sig .tc := ⟨.hbm, 173, rfl⟩
abbrev main_call7_v10 : Ref sig .tc := ⟨.hbm, 174, rfl⟩
abbrev main_call7_v11 : Ref sig .tc := ⟨.hbm, 175, rfl⟩
abbrev main_call7_c_3 : Ref sig .tc := ⟨.hbm, 176, rfl⟩
abbrev main_call7_v12 : Ref sig .tc := ⟨.hbm, 177, rfl⟩
abbrev main_call7_v13 : Ref sig .tc := ⟨.hbm, 178, rfl⟩
abbrev main_call7_v14 : Ref sig .tc := ⟨.hbm, 179, rfl⟩
abbrev main_call7_cst : Ref sig .tc := ⟨.hbm, 180, rfl⟩
abbrev main_call7_v15 : Ref sig .tc := ⟨.hbm, 181, rfl⟩
abbrev main_v13 : Ref sig .tc := ⟨.hbm, 182, rfl⟩
abbrev main_v14 : Ref sig .tc := ⟨.hbm, 183, rfl⟩
abbrev main_v15 : Ref sig .tc := ⟨.hbm, 184, rfl⟩
abbrev main_call8_v0 : Ref sig .tc := ⟨.hbm, 185, rfl⟩
abbrev main_call8_cst : Ref sig .tc := ⟨.hbm, 186, rfl⟩
abbrev main_call8_c : Ref sig .tc := ⟨.hbm, 187, rfl⟩
abbrev main_call8_v1_0 : Ref sig .tc := ⟨.hbm, 188, rfl⟩
abbrev main_v16 : Ref sig .tc := ⟨.hbm, 189, rfl⟩
abbrev main_c_0 : Ref sig .tc := ⟨.hbm, 190, rfl⟩
abbrev main_c_1 : Ref sig .tc := ⟨.hbm, 191, rfl⟩
abbrev main_call9_v0 : Ref sig .tc := ⟨.hbm, 192, rfl⟩
abbrev main_call9_v1 : Ref sig .tc := ⟨.hbm, 193, rfl⟩
abbrev main_call9_v2 : Ref sig .tc := ⟨.hbm, 194, rfl⟩
abbrev main_call9_v3 : Ref sig .tc := ⟨.hbm, 195, rfl⟩
abbrev main_call9_v4 : Ref sig .tc := ⟨.hbm, 196, rfl⟩
abbrev main_v17 : Ref sig .tc := ⟨.hbm, 197, rfl⟩
abbrev main_call10_c : Ref sig .tc := ⟨.hbm, 198, rfl⟩
abbrev main_call10_v0 : Ref sig .tc := ⟨.hbm, 199, rfl⟩
abbrev main_call10_v1 : Ref sig .tc := ⟨.hbm, 200, rfl⟩
abbrev main_call10_c_0 : Ref sig .tc := ⟨.hbm, 201, rfl⟩
abbrev main_call10_v2 : Ref sig .tc := ⟨.hbm, 202, rfl⟩
abbrev main_call10_v3 : Ref sig .tc := ⟨.hbm, 203, rfl⟩
abbrev main_call10_v4 : Ref sig .tc := ⟨.hbm, 204, rfl⟩
abbrev main_call10_v5 : Ref sig .tc := ⟨.hbm, 205, rfl⟩
abbrev main_call10_c_1 : Ref sig .tc := ⟨.hbm, 206, rfl⟩
abbrev main_call10_c_2 : Ref sig .tc := ⟨.hbm, 207, rfl⟩
abbrev main_call10_v6 : Ref sig .tc := ⟨.hbm, 208, rfl⟩
abbrev main_call10_v7 : Ref sig .tc := ⟨.hbm, 209, rfl⟩
abbrev main_call10_v8 : Ref sig .tc := ⟨.hbm, 210, rfl⟩
abbrev main_call10_v9 : Ref sig .tc := ⟨.hbm, 211, rfl⟩
abbrev main_call10_v10 : Ref sig .tc := ⟨.hbm, 212, rfl⟩
abbrev main_call10_v11 : Ref sig .tc := ⟨.hbm, 213, rfl⟩
abbrev main_call10_c_3 : Ref sig .tc := ⟨.hbm, 214, rfl⟩
abbrev main_call10_v12 : Ref sig .tc := ⟨.hbm, 215, rfl⟩
abbrev main_call10_v13 : Ref sig .tc := ⟨.hbm, 216, rfl⟩
abbrev main_call10_v14 : Ref sig .tc := ⟨.hbm, 217, rfl⟩
abbrev main_call10_c_4 : Ref sig .tc := ⟨.hbm, 218, rfl⟩
abbrev main_call10_v15 : Ref sig .tc := ⟨.hbm, 219, rfl⟩
abbrev main_v18 : Ref sig .tc := ⟨.hbm, 220, rfl⟩
abbrev main_v19 : Ref sig .tc := ⟨.hbm, 221, rfl⟩
abbrev main_call11_c : Ref sig .tc := ⟨.hbm, 222, rfl⟩
abbrev main_call11_v0 : Ref sig .tc := ⟨.hbm, 223, rfl⟩
abbrev main_call11_v1 : Ref sig .tc := ⟨.hbm, 224, rfl⟩
abbrev main_call11_c_0 : Ref sig .tc := ⟨.hbm, 225, rfl⟩
abbrev main_call11_v2 : Ref sig .tc := ⟨.hbm, 226, rfl⟩
abbrev main_call11_v3 : Ref sig .tc := ⟨.hbm, 227, rfl⟩
abbrev main_call11_v4 : Ref sig .tc := ⟨.hbm, 228, rfl⟩
abbrev main_call11_v5 : Ref sig .tc := ⟨.hbm, 229, rfl⟩
abbrev main_call11_c_1 : Ref sig .tc := ⟨.hbm, 230, rfl⟩
abbrev main_call11_c_2 : Ref sig .tc := ⟨.hbm, 231, rfl⟩
abbrev main_call11_v6 : Ref sig .tc := ⟨.hbm, 232, rfl⟩
abbrev main_call11_v7 : Ref sig .tc := ⟨.hbm, 233, rfl⟩
abbrev main_call11_v8 : Ref sig .tc := ⟨.hbm, 234, rfl⟩
abbrev main_call11_v9 : Ref sig .tc := ⟨.hbm, 235, rfl⟩
abbrev main_call11_v10 : Ref sig .tc := ⟨.hbm, 236, rfl⟩
abbrev main_call11_v11 : Ref sig .tc := ⟨.hbm, 237, rfl⟩
abbrev main_call11_c_3 : Ref sig .tc := ⟨.hbm, 238, rfl⟩
abbrev main_call11_v12 : Ref sig .tc := ⟨.hbm, 239, rfl⟩
abbrev main_call11_v13 : Ref sig .tc := ⟨.hbm, 240, rfl⟩
abbrev main_call11_c_4 : Ref sig .tc := ⟨.hbm, 241, rfl⟩
abbrev main_call11_v14 : Ref sig .tc := ⟨.hbm, 242, rfl⟩
abbrev main_v20 : Ref sig .tc := ⟨.hbm, 243, rfl⟩
abbrev main_v21 : Ref sig .tc := ⟨.hbm, 244, rfl⟩
abbrev main_c_2 : Ref sig .tc := ⟨.hbm, 245, rfl⟩
abbrev main_v22 : Ref sig .tc := ⟨.hbm, 246, rfl⟩
abbrev main_v23 : Ref sig .tc := ⟨.hbm, 247, rfl⟩
abbrev main_v24 : Ref sig .tc := ⟨.hbm, 248, rfl⟩
abbrev main_call13_c : Ref sig .tc := ⟨.hbm, 249, rfl⟩
abbrev main_call13_v0 : Ref sig .tc := ⟨.hbm, 250, rfl⟩
abbrev main_call13_v1 : Ref sig .tc := ⟨.hbm, 251, rfl⟩
abbrev main_call13_c_0 : Ref sig .tc := ⟨.hbm, 252, rfl⟩
abbrev main_call13_v2 : Ref sig .tc := ⟨.hbm, 253, rfl⟩
abbrev main_call13_v3 : Ref sig .tc := ⟨.hbm, 254, rfl⟩
abbrev main_call13_v4 : Ref sig .tc := ⟨.hbm, 255, rfl⟩
abbrev main_call13_v5 : Ref sig .tc := ⟨.hbm, 256, rfl⟩
abbrev main_call13_c_1 : Ref sig .tc := ⟨.hbm, 257, rfl⟩
abbrev main_call13_c_2 : Ref sig .tc := ⟨.hbm, 258, rfl⟩
abbrev main_call13_v6 : Ref sig .tc := ⟨.hbm, 259, rfl⟩
abbrev main_call13_v7 : Ref sig .tc := ⟨.hbm, 260, rfl⟩
abbrev main_call13_v8 : Ref sig .tc := ⟨.hbm, 261, rfl⟩
abbrev main_call13_v9 : Ref sig .tc := ⟨.hbm, 262, rfl⟩
abbrev main_call13_v10 : Ref sig .tc := ⟨.hbm, 263, rfl⟩
abbrev main_call13_v11 : Ref sig .tc := ⟨.hbm, 264, rfl⟩
abbrev main_call13_c_3 : Ref sig .tc := ⟨.hbm, 265, rfl⟩
abbrev main_call13_v12 : Ref sig .tc := ⟨.hbm, 266, rfl⟩
abbrev main_call13_v13 : Ref sig .tc := ⟨.hbm, 267, rfl⟩
abbrev main_call13_v14 : Ref sig .tc := ⟨.hbm, 268, rfl⟩
abbrev main_call13_cst : Ref sig .tc := ⟨.hbm, 269, rfl⟩
abbrev main_call13_v15 : Ref sig .tc := ⟨.hbm, 270, rfl⟩
abbrev main_v25 : Ref sig .tc := ⟨.hbm, 271, rfl⟩
abbrev main_call14_c : Ref sig .tc := ⟨.hbm, 272, rfl⟩
abbrev main_call14_v0 : Ref sig .tc := ⟨.hbm, 273, rfl⟩
abbrev main_call14_v1 : Ref sig .tc := ⟨.hbm, 274, rfl⟩
abbrev main_call14_c_0 : Ref sig .tc := ⟨.hbm, 275, rfl⟩
abbrev main_call14_v2 : Ref sig .tc := ⟨.hbm, 276, rfl⟩
abbrev main_call14_v3 : Ref sig .tc := ⟨.hbm, 277, rfl⟩
abbrev main_call14_v4 : Ref sig .tc := ⟨.hbm, 278, rfl⟩
abbrev main_call14_v5 : Ref sig .tc := ⟨.hbm, 279, rfl⟩
abbrev main_call14_c_1 : Ref sig .tc := ⟨.hbm, 280, rfl⟩
abbrev main_call14_c_2 : Ref sig .tc := ⟨.hbm, 281, rfl⟩
abbrev main_call14_v6 : Ref sig .tc := ⟨.hbm, 282, rfl⟩
abbrev main_call14_v7 : Ref sig .tc := ⟨.hbm, 283, rfl⟩
abbrev main_call14_v8 : Ref sig .tc := ⟨.hbm, 284, rfl⟩
abbrev main_call14_v9 : Ref sig .tc := ⟨.hbm, 285, rfl⟩
abbrev main_call14_v10 : Ref sig .tc := ⟨.hbm, 286, rfl⟩
abbrev main_call14_v11 : Ref sig .tc := ⟨.hbm, 287, rfl⟩
abbrev main_call14_c_3 : Ref sig .tc := ⟨.hbm, 288, rfl⟩
abbrev main_call14_v12 : Ref sig .tc := ⟨.hbm, 289, rfl⟩
abbrev main_call14_v13 : Ref sig .tc := ⟨.hbm, 290, rfl⟩
abbrev main_call14_v14 : Ref sig .tc := ⟨.hbm, 291, rfl⟩
abbrev main_call14_cst : Ref sig .tc := ⟨.hbm, 292, rfl⟩
abbrev main_call14_v15 : Ref sig .tc := ⟨.hbm, 293, rfl⟩
abbrev main_v26 : Ref sig .tc := ⟨.hbm, 294, rfl⟩
abbrev main_v27 : Ref sig .tc := ⟨.hbm, 295, rfl⟩
abbrev main_v28 : Ref sig .tc := ⟨.hbm, 296, rfl⟩
abbrev main_call15_cst : Ref sig .tc := ⟨.hbm, 297, rfl⟩
abbrev main_call15_v0 : Ref sig .tc := ⟨.hbm, 298, rfl⟩
abbrev main_v29 : Ref sig .tc := ⟨.hbm, 299, rfl⟩
abbrev main_call16_c : Ref sig .tc := ⟨.hbm, 300, rfl⟩
abbrev main_call16_v0 : Ref sig .tc := ⟨.hbm, 301, rfl⟩
abbrev main_call16_v1 : Ref sig .tc := ⟨.hbm, 302, rfl⟩
abbrev main_call16_c_0 : Ref sig .tc := ⟨.hbm, 303, rfl⟩
abbrev main_call16_v2 : Ref sig .tc := ⟨.hbm, 304, rfl⟩
abbrev main_call16_v3 : Ref sig .tc := ⟨.hbm, 305, rfl⟩
abbrev main_call16_v4 : Ref sig .tc := ⟨.hbm, 306, rfl⟩
abbrev main_call16_v5 : Ref sig .tc := ⟨.hbm, 307, rfl⟩
abbrev main_call16_c_1 : Ref sig .tc := ⟨.hbm, 308, rfl⟩
abbrev main_call16_c_2 : Ref sig .tc := ⟨.hbm, 309, rfl⟩
abbrev main_call16_v6 : Ref sig .tc := ⟨.hbm, 310, rfl⟩
abbrev main_call16_v7 : Ref sig .tc := ⟨.hbm, 311, rfl⟩
abbrev main_call16_v8 : Ref sig .tc := ⟨.hbm, 312, rfl⟩
abbrev main_call16_v9 : Ref sig .tc := ⟨.hbm, 313, rfl⟩
abbrev main_call16_v10 : Ref sig .tc := ⟨.hbm, 314, rfl⟩
abbrev main_call16_v11 : Ref sig .tc := ⟨.hbm, 315, rfl⟩
abbrev main_call16_c_3 : Ref sig .tc := ⟨.hbm, 316, rfl⟩
abbrev main_call16_v12 : Ref sig .tc := ⟨.hbm, 317, rfl⟩
abbrev main_call16_v13 : Ref sig .tc := ⟨.hbm, 318, rfl⟩
abbrev main_call16_v14 : Ref sig .tc := ⟨.hbm, 319, rfl⟩
abbrev main_call16_cst : Ref sig .tc := ⟨.hbm, 320, rfl⟩
abbrev main_call16_v15 : Ref sig .tc := ⟨.hbm, 321, rfl⟩
abbrev main_v30 : Ref sig .tc := ⟨.hbm, 322, rfl⟩
abbrev main_call17_c : Ref sig .tc := ⟨.hbm, 323, rfl⟩
abbrev main_call17_v0 : Ref sig .tc := ⟨.hbm, 324, rfl⟩
abbrev main_call17_v1 : Ref sig .tc := ⟨.hbm, 325, rfl⟩
abbrev main_call17_c_0 : Ref sig .tc := ⟨.hbm, 326, rfl⟩
abbrev main_call17_v2 : Ref sig .tc := ⟨.hbm, 327, rfl⟩
abbrev main_call17_v3 : Ref sig .tc := ⟨.hbm, 328, rfl⟩
abbrev main_call17_v4 : Ref sig .tc := ⟨.hbm, 329, rfl⟩
abbrev main_call17_v5 : Ref sig .tc := ⟨.hbm, 330, rfl⟩
abbrev main_call17_c_1 : Ref sig .tc := ⟨.hbm, 331, rfl⟩
abbrev main_call17_c_2 : Ref sig .tc := ⟨.hbm, 332, rfl⟩
abbrev main_call17_v6 : Ref sig .tc := ⟨.hbm, 333, rfl⟩
abbrev main_call17_v7 : Ref sig .tc := ⟨.hbm, 334, rfl⟩
abbrev main_call17_v8 : Ref sig .tc := ⟨.hbm, 335, rfl⟩
abbrev main_call17_v9 : Ref sig .tc := ⟨.hbm, 336, rfl⟩
abbrev main_call17_v10 : Ref sig .tc := ⟨.hbm, 337, rfl⟩
abbrev main_call17_v11 : Ref sig .tc := ⟨.hbm, 338, rfl⟩
abbrev main_call17_c_3 : Ref sig .tc := ⟨.hbm, 339, rfl⟩
abbrev main_call17_v12 : Ref sig .tc := ⟨.hbm, 340, rfl⟩
abbrev main_call17_v13 : Ref sig .tc := ⟨.hbm, 341, rfl⟩
abbrev main_call17_v14 : Ref sig .tc := ⟨.hbm, 342, rfl⟩
abbrev main_call17_cst : Ref sig .tc := ⟨.hbm, 343, rfl⟩
abbrev main_call17_v15 : Ref sig .tc := ⟨.hbm, 344, rfl⟩
abbrev main_v31 : Ref sig .tc := ⟨.hbm, 345, rfl⟩
abbrev main_v32 : Ref sig .tc := ⟨.hbm, 346, rfl⟩
abbrev main_v33 : Ref sig .tc := ⟨.hbm, 347, rfl⟩
abbrev main_call18_c : Ref sig .tc := ⟨.hbm, 348, rfl⟩
abbrev main_call18_v0 : Ref sig .tc := ⟨.hbm, 349, rfl⟩
abbrev main_call18_v1 : Ref sig .tc := ⟨.hbm, 350, rfl⟩
abbrev main_call18_c_0 : Ref sig .tc := ⟨.hbm, 351, rfl⟩
abbrev main_call18_v2 : Ref sig .tc := ⟨.hbm, 352, rfl⟩
abbrev main_call18_v3 : Ref sig .tc := ⟨.hbm, 353, rfl⟩
abbrev main_call18_v4 : Ref sig .tc := ⟨.hbm, 354, rfl⟩
abbrev main_call18_v5 : Ref sig .tc := ⟨.hbm, 355, rfl⟩
abbrev main_call18_c_1 : Ref sig .tc := ⟨.hbm, 356, rfl⟩
abbrev main_call18_c_2 : Ref sig .tc := ⟨.hbm, 357, rfl⟩
abbrev main_call18_v6 : Ref sig .tc := ⟨.hbm, 358, rfl⟩
abbrev main_call18_v7 : Ref sig .tc := ⟨.hbm, 359, rfl⟩
abbrev main_call18_v8 : Ref sig .tc := ⟨.hbm, 360, rfl⟩
abbrev main_call18_v9 : Ref sig .tc := ⟨.hbm, 361, rfl⟩
abbrev main_call18_v10 : Ref sig .tc := ⟨.hbm, 362, rfl⟩
abbrev main_call18_v11 : Ref sig .tc := ⟨.hbm, 363, rfl⟩
abbrev main_call18_c_3 : Ref sig .tc := ⟨.hbm, 364, rfl⟩
abbrev main_call18_v12 : Ref sig .tc := ⟨.hbm, 365, rfl⟩
abbrev main_call18_v13 : Ref sig .tc := ⟨.hbm, 366, rfl⟩
abbrev main_call18_v14 : Ref sig .tc := ⟨.hbm, 367, rfl⟩
abbrev main_call18_cst : Ref sig .tc := ⟨.hbm, 368, rfl⟩
abbrev main_call18_v15 : Ref sig .tc := ⟨.hbm, 369, rfl⟩
abbrev main_v34 : Ref sig .tc := ⟨.hbm, 370, rfl⟩
abbrev main_call19_c : Ref sig .tc := ⟨.hbm, 371, rfl⟩
abbrev main_call19_v0 : Ref sig .tc := ⟨.hbm, 372, rfl⟩
abbrev main_call19_v1 : Ref sig .tc := ⟨.hbm, 373, rfl⟩
abbrev main_call19_c_0 : Ref sig .tc := ⟨.hbm, 374, rfl⟩
abbrev main_call19_v2 : Ref sig .tc := ⟨.hbm, 375, rfl⟩
abbrev main_call19_v3 : Ref sig .tc := ⟨.hbm, 376, rfl⟩
abbrev main_call19_v4 : Ref sig .tc := ⟨.hbm, 377, rfl⟩
abbrev main_call19_v5 : Ref sig .tc := ⟨.hbm, 378, rfl⟩
abbrev main_call19_c_1 : Ref sig .tc := ⟨.hbm, 379, rfl⟩
abbrev main_call19_c_2 : Ref sig .tc := ⟨.hbm, 380, rfl⟩
abbrev main_call19_v6 : Ref sig .tc := ⟨.hbm, 381, rfl⟩
abbrev main_call19_v7 : Ref sig .tc := ⟨.hbm, 382, rfl⟩
abbrev main_call19_v8 : Ref sig .tc := ⟨.hbm, 383, rfl⟩
abbrev main_call19_v9 : Ref sig .tc := ⟨.hbm, 384, rfl⟩
abbrev main_call19_v10 : Ref sig .tc := ⟨.hbm, 385, rfl⟩
abbrev main_call19_v11 : Ref sig .tc := ⟨.hbm, 386, rfl⟩
abbrev main_call19_c_3 : Ref sig .tc := ⟨.hbm, 387, rfl⟩
abbrev main_call19_v12 : Ref sig .tc := ⟨.hbm, 388, rfl⟩
abbrev main_call19_v13 : Ref sig .tc := ⟨.hbm, 389, rfl⟩
abbrev main_call19_v14 : Ref sig .tc := ⟨.hbm, 390, rfl⟩
abbrev main_call19_cst : Ref sig .tc := ⟨.hbm, 391, rfl⟩
abbrev main_call19_v15 : Ref sig .tc := ⟨.hbm, 392, rfl⟩
abbrev main_v35 : Ref sig .tc := ⟨.hbm, 393, rfl⟩
abbrev main_v36 : Ref sig .tc := ⟨.hbm, 394, rfl⟩
abbrev main_v37 : Ref sig .tc := ⟨.hbm, 395, rfl⟩
abbrev main_call20_v0 : Ref sig .tc := ⟨.hbm, 396, rfl⟩
abbrev main_call20_cst : Ref sig .tc := ⟨.hbm, 397, rfl⟩
abbrev main_call20_c : Ref sig .tc := ⟨.hbm, 398, rfl⟩
abbrev main_call20_v1_0 : Ref sig .tc := ⟨.hbm, 399, rfl⟩
abbrev main_v38 : Ref sig .tc := ⟨.hbm, 400, rfl⟩
abbrev main_c_3 : Ref sig .tc := ⟨.hbm, 401, rfl⟩
abbrev main_c_4 : Ref sig .tc := ⟨.hbm, 402, rfl⟩
abbrev main_call21_v0 : Ref sig .tc := ⟨.hbm, 403, rfl⟩
abbrev main_call21_v1 : Ref sig .tc := ⟨.hbm, 404, rfl⟩
abbrev main_call21_v2 : Ref sig .tc := ⟨.hbm, 405, rfl⟩
abbrev main_call21_v3 : Ref sig .tc := ⟨.hbm, 406, rfl⟩
abbrev main_call21_v4 : Ref sig .tc := ⟨.hbm, 407, rfl⟩
abbrev main_v39 : Ref sig .tc := ⟨.hbm, 408, rfl⟩
abbrev main_call22_c : Ref sig .tc := ⟨.hbm, 409, rfl⟩
abbrev main_call22_v0 : Ref sig .tc := ⟨.hbm, 410, rfl⟩
abbrev main_call22_v1 : Ref sig .tc := ⟨.hbm, 411, rfl⟩
abbrev main_call22_c_0 : Ref sig .tc := ⟨.hbm, 412, rfl⟩
abbrev main_call22_v2 : Ref sig .tc := ⟨.hbm, 413, rfl⟩
abbrev main_call22_v3 : Ref sig .tc := ⟨.hbm, 414, rfl⟩
abbrev main_call22_v4 : Ref sig .tc := ⟨.hbm, 415, rfl⟩
abbrev main_call22_v5 : Ref sig .tc := ⟨.hbm, 416, rfl⟩
abbrev main_call22_c_1 : Ref sig .tc := ⟨.hbm, 417, rfl⟩
abbrev main_call22_c_2 : Ref sig .tc := ⟨.hbm, 418, rfl⟩
abbrev main_call22_v6 : Ref sig .tc := ⟨.hbm, 419, rfl⟩
abbrev main_call22_v7 : Ref sig .tc := ⟨.hbm, 420, rfl⟩
abbrev main_call22_v8 : Ref sig .tc := ⟨.hbm, 421, rfl⟩
abbrev main_call22_v9 : Ref sig .tc := ⟨.hbm, 422, rfl⟩
abbrev main_call22_v10 : Ref sig .tc := ⟨.hbm, 423, rfl⟩
abbrev main_call22_v11 : Ref sig .tc := ⟨.hbm, 424, rfl⟩
abbrev main_call22_c_3 : Ref sig .tc := ⟨.hbm, 425, rfl⟩
abbrev main_call22_v12 : Ref sig .tc := ⟨.hbm, 426, rfl⟩
abbrev main_call22_v13 : Ref sig .tc := ⟨.hbm, 427, rfl⟩
abbrev main_call22_v14 : Ref sig .tc := ⟨.hbm, 428, rfl⟩
abbrev main_call22_c_4 : Ref sig .tc := ⟨.hbm, 429, rfl⟩
abbrev main_call22_v15 : Ref sig .tc := ⟨.hbm, 430, rfl⟩
abbrev main_v40 : Ref sig .tc := ⟨.hbm, 431, rfl⟩
abbrev main_v41 : Ref sig .tc := ⟨.hbm, 432, rfl⟩
abbrev main_call23_c : Ref sig .tc := ⟨.hbm, 433, rfl⟩
abbrev main_call23_v0 : Ref sig .tc := ⟨.hbm, 434, rfl⟩
abbrev main_call23_v1 : Ref sig .tc := ⟨.hbm, 435, rfl⟩
abbrev main_call23_c_0 : Ref sig .tc := ⟨.hbm, 436, rfl⟩
abbrev main_call23_v2 : Ref sig .tc := ⟨.hbm, 437, rfl⟩
abbrev main_call23_v3 : Ref sig .tc := ⟨.hbm, 438, rfl⟩
abbrev main_call23_v4 : Ref sig .tc := ⟨.hbm, 439, rfl⟩
abbrev main_call23_v5 : Ref sig .tc := ⟨.hbm, 440, rfl⟩
abbrev main_call23_c_1 : Ref sig .tc := ⟨.hbm, 441, rfl⟩
abbrev main_call23_c_2 : Ref sig .tc := ⟨.hbm, 442, rfl⟩
abbrev main_call23_v6 : Ref sig .tc := ⟨.hbm, 443, rfl⟩
abbrev main_call23_v7 : Ref sig .tc := ⟨.hbm, 444, rfl⟩
abbrev main_call23_v8 : Ref sig .tc := ⟨.hbm, 445, rfl⟩
abbrev main_call23_v9 : Ref sig .tc := ⟨.hbm, 446, rfl⟩
abbrev main_call23_v10 : Ref sig .tc := ⟨.hbm, 447, rfl⟩
abbrev main_call23_v11 : Ref sig .tc := ⟨.hbm, 448, rfl⟩
abbrev main_call23_c_3 : Ref sig .tc := ⟨.hbm, 449, rfl⟩
abbrev main_call23_v12 : Ref sig .tc := ⟨.hbm, 450, rfl⟩
abbrev main_call23_v13 : Ref sig .tc := ⟨.hbm, 451, rfl⟩
abbrev main_call23_c_4 : Ref sig .tc := ⟨.hbm, 452, rfl⟩
abbrev main_call23_v14 : Ref sig .tc := ⟨.hbm, 453, rfl⟩
abbrev main_v42 : Ref sig .tc := ⟨.hbm, 454, rfl⟩
abbrev main_v43 : Ref sig .tc := ⟨.hbm, 455, rfl⟩
abbrev main_c_5 : Ref sig .tc := ⟨.hbm, 456, rfl⟩
abbrev main_v44 : Ref sig .tc := ⟨.hbm, 457, rfl⟩
abbrev main_v45 : Ref sig .tc := ⟨.hbm, 458, rfl⟩
abbrev main_v46 : Ref sig .tc := ⟨.hbm, 459, rfl⟩
abbrev main_call25_c : Ref sig .tc := ⟨.hbm, 460, rfl⟩
abbrev main_call25_v0 : Ref sig .tc := ⟨.hbm, 461, rfl⟩
abbrev main_call25_v1 : Ref sig .tc := ⟨.hbm, 462, rfl⟩
abbrev main_call25_c_0 : Ref sig .tc := ⟨.hbm, 463, rfl⟩
abbrev main_call25_v2 : Ref sig .tc := ⟨.hbm, 464, rfl⟩
abbrev main_call25_v3 : Ref sig .tc := ⟨.hbm, 465, rfl⟩
abbrev main_call25_v4 : Ref sig .tc := ⟨.hbm, 466, rfl⟩
abbrev main_call25_v5 : Ref sig .tc := ⟨.hbm, 467, rfl⟩
abbrev main_call25_c_1 : Ref sig .tc := ⟨.hbm, 468, rfl⟩
abbrev main_call25_c_2 : Ref sig .tc := ⟨.hbm, 469, rfl⟩
abbrev main_call25_v6 : Ref sig .tc := ⟨.hbm, 470, rfl⟩
abbrev main_call25_v7 : Ref sig .tc := ⟨.hbm, 471, rfl⟩
abbrev main_call25_v8 : Ref sig .tc := ⟨.hbm, 472, rfl⟩
abbrev main_call25_v9 : Ref sig .tc := ⟨.hbm, 473, rfl⟩
abbrev main_call25_v10 : Ref sig .tc := ⟨.hbm, 474, rfl⟩
abbrev main_call25_v11 : Ref sig .tc := ⟨.hbm, 475, rfl⟩
abbrev main_call25_c_3 : Ref sig .tc := ⟨.hbm, 476, rfl⟩
abbrev main_call25_v12 : Ref sig .tc := ⟨.hbm, 477, rfl⟩
abbrev main_call25_v13 : Ref sig .tc := ⟨.hbm, 478, rfl⟩
abbrev main_call25_v14 : Ref sig .tc := ⟨.hbm, 479, rfl⟩
abbrev main_call25_cst : Ref sig .tc := ⟨.hbm, 480, rfl⟩
abbrev main_call25_v15 : Ref sig .tc := ⟨.hbm, 481, rfl⟩
abbrev main_v47 : Ref sig .tc := ⟨.hbm, 482, rfl⟩
abbrev main_call26_c : Ref sig .tc := ⟨.hbm, 483, rfl⟩
abbrev main_call26_v0 : Ref sig .tc := ⟨.hbm, 484, rfl⟩
abbrev main_call26_v1 : Ref sig .tc := ⟨.hbm, 485, rfl⟩
abbrev main_call26_c_0 : Ref sig .tc := ⟨.hbm, 486, rfl⟩
abbrev main_call26_v2 : Ref sig .tc := ⟨.hbm, 487, rfl⟩
abbrev main_call26_v3 : Ref sig .tc := ⟨.hbm, 488, rfl⟩
abbrev main_call26_v4 : Ref sig .tc := ⟨.hbm, 489, rfl⟩
abbrev main_call26_v5 : Ref sig .tc := ⟨.hbm, 490, rfl⟩
abbrev main_call26_c_1 : Ref sig .tc := ⟨.hbm, 491, rfl⟩
abbrev main_call26_c_2 : Ref sig .tc := ⟨.hbm, 492, rfl⟩
abbrev main_call26_v6 : Ref sig .tc := ⟨.hbm, 493, rfl⟩
abbrev main_call26_v7 : Ref sig .tc := ⟨.hbm, 494, rfl⟩
abbrev main_call26_v8 : Ref sig .tc := ⟨.hbm, 495, rfl⟩
abbrev main_call26_v9 : Ref sig .tc := ⟨.hbm, 496, rfl⟩
abbrev main_call26_v10 : Ref sig .tc := ⟨.hbm, 497, rfl⟩
abbrev main_call26_v11 : Ref sig .tc := ⟨.hbm, 498, rfl⟩
abbrev main_call26_c_3 : Ref sig .tc := ⟨.hbm, 499, rfl⟩
abbrev main_call26_v12 : Ref sig .tc := ⟨.hbm, 500, rfl⟩
abbrev main_call26_v13 : Ref sig .tc := ⟨.hbm, 501, rfl⟩
abbrev main_call26_v14 : Ref sig .tc := ⟨.hbm, 502, rfl⟩
abbrev main_call26_cst : Ref sig .tc := ⟨.hbm, 503, rfl⟩
abbrev main_call26_v15 : Ref sig .tc := ⟨.hbm, 504, rfl⟩
abbrev main_v48 : Ref sig .tc := ⟨.hbm, 505, rfl⟩
abbrev main_v49 : Ref sig .tc := ⟨.hbm, 506, rfl⟩
abbrev main_v50 : Ref sig .tc := ⟨.hbm, 507, rfl⟩
abbrev main_call27_cst : Ref sig .tc := ⟨.hbm, 508, rfl⟩
abbrev main_call27_v0 : Ref sig .tc := ⟨.hbm, 509, rfl⟩
abbrev main_v51 : Ref sig .tc := ⟨.hbm, 510, rfl⟩
abbrev main_call28_c : Ref sig .tc := ⟨.hbm, 511, rfl⟩
abbrev main_call28_v0 : Ref sig .tc := ⟨.hbm, 512, rfl⟩
abbrev main_call28_v1 : Ref sig .tc := ⟨.hbm, 513, rfl⟩
abbrev main_call28_c_0 : Ref sig .tc := ⟨.hbm, 514, rfl⟩
abbrev main_call28_v2 : Ref sig .tc := ⟨.hbm, 515, rfl⟩
abbrev main_call28_v3 : Ref sig .tc := ⟨.hbm, 516, rfl⟩
abbrev main_call28_v4 : Ref sig .tc := ⟨.hbm, 517, rfl⟩
abbrev main_call28_v5 : Ref sig .tc := ⟨.hbm, 518, rfl⟩
abbrev main_call28_c_1 : Ref sig .tc := ⟨.hbm, 519, rfl⟩
abbrev main_call28_c_2 : Ref sig .tc := ⟨.hbm, 520, rfl⟩
abbrev main_call28_v6 : Ref sig .tc := ⟨.hbm, 521, rfl⟩
abbrev main_call28_v7 : Ref sig .tc := ⟨.hbm, 522, rfl⟩
abbrev main_call28_v8 : Ref sig .tc := ⟨.hbm, 523, rfl⟩
abbrev main_call28_v9 : Ref sig .tc := ⟨.hbm, 524, rfl⟩
abbrev main_call28_v10 : Ref sig .tc := ⟨.hbm, 525, rfl⟩
abbrev main_call28_v11 : Ref sig .tc := ⟨.hbm, 526, rfl⟩
abbrev main_call28_c_3 : Ref sig .tc := ⟨.hbm, 527, rfl⟩
abbrev main_call28_v12 : Ref sig .tc := ⟨.hbm, 528, rfl⟩
abbrev main_call28_v13 : Ref sig .tc := ⟨.hbm, 529, rfl⟩
abbrev main_call28_v14 : Ref sig .tc := ⟨.hbm, 530, rfl⟩
abbrev main_call28_cst : Ref sig .tc := ⟨.hbm, 531, rfl⟩
abbrev main_call28_v15 : Ref sig .tc := ⟨.hbm, 532, rfl⟩
abbrev main_v52 : Ref sig .tc := ⟨.hbm, 533, rfl⟩
abbrev main_call29_c : Ref sig .tc := ⟨.hbm, 534, rfl⟩
abbrev main_call29_v0 : Ref sig .tc := ⟨.hbm, 535, rfl⟩
abbrev main_call29_v1 : Ref sig .tc := ⟨.hbm, 536, rfl⟩
abbrev main_call29_c_0 : Ref sig .tc := ⟨.hbm, 537, rfl⟩
abbrev main_call29_v2 : Ref sig .tc := ⟨.hbm, 538, rfl⟩
abbrev main_call29_v3 : Ref sig .tc := ⟨.hbm, 539, rfl⟩
abbrev main_call29_v4 : Ref sig .tc := ⟨.hbm, 540, rfl⟩
abbrev main_call29_v5 : Ref sig .tc := ⟨.hbm, 541, rfl⟩
abbrev main_call29_c_1 : Ref sig .tc := ⟨.hbm, 542, rfl⟩
abbrev main_call29_c_2 : Ref sig .tc := ⟨.hbm, 543, rfl⟩
abbrev main_call29_v6 : Ref sig .tc := ⟨.hbm, 544, rfl⟩
abbrev main_call29_v7 : Ref sig .tc := ⟨.hbm, 545, rfl⟩
abbrev main_call29_v8 : Ref sig .tc := ⟨.hbm, 546, rfl⟩
abbrev main_call29_v9 : Ref sig .tc := ⟨.hbm, 547, rfl⟩
abbrev main_call29_v10 : Ref sig .tc := ⟨.hbm, 548, rfl⟩
abbrev main_call29_v11 : Ref sig .tc := ⟨.hbm, 549, rfl⟩
abbrev main_call29_c_3 : Ref sig .tc := ⟨.hbm, 550, rfl⟩
abbrev main_call29_v12 : Ref sig .tc := ⟨.hbm, 551, rfl⟩
abbrev main_call29_v13 : Ref sig .tc := ⟨.hbm, 552, rfl⟩
abbrev main_call29_v14 : Ref sig .tc := ⟨.hbm, 553, rfl⟩
abbrev main_call29_cst : Ref sig .tc := ⟨.hbm, 554, rfl⟩
abbrev main_call29_v15 : Ref sig .tc := ⟨.hbm, 555, rfl⟩
abbrev main_v53 : Ref sig .tc := ⟨.hbm, 556, rfl⟩
abbrev main_v54 : Ref sig .tc := ⟨.hbm, 557, rfl⟩
abbrev main_v55 : Ref sig .tc := ⟨.hbm, 558, rfl⟩
abbrev main_call30_c : Ref sig .tc := ⟨.hbm, 559, rfl⟩
abbrev main_call30_v0 : Ref sig .tc := ⟨.hbm, 560, rfl⟩
abbrev main_call30_v1 : Ref sig .tc := ⟨.hbm, 561, rfl⟩
abbrev main_call30_c_0 : Ref sig .tc := ⟨.hbm, 562, rfl⟩
abbrev main_call30_v2 : Ref sig .tc := ⟨.hbm, 563, rfl⟩
abbrev main_call30_v3 : Ref sig .tc := ⟨.hbm, 564, rfl⟩
abbrev main_call30_v4 : Ref sig .tc := ⟨.hbm, 565, rfl⟩
abbrev main_call30_v5 : Ref sig .tc := ⟨.hbm, 566, rfl⟩
abbrev main_call30_c_1 : Ref sig .tc := ⟨.hbm, 567, rfl⟩
abbrev main_call30_c_2 : Ref sig .tc := ⟨.hbm, 568, rfl⟩
abbrev main_call30_v6 : Ref sig .tc := ⟨.hbm, 569, rfl⟩
abbrev main_call30_v7 : Ref sig .tc := ⟨.hbm, 570, rfl⟩
abbrev main_call30_v8 : Ref sig .tc := ⟨.hbm, 571, rfl⟩
abbrev main_call30_v9 : Ref sig .tc := ⟨.hbm, 572, rfl⟩
abbrev main_call30_v10 : Ref sig .tc := ⟨.hbm, 573, rfl⟩
abbrev main_call30_v11 : Ref sig .tc := ⟨.hbm, 574, rfl⟩
abbrev main_call30_c_3 : Ref sig .tc := ⟨.hbm, 575, rfl⟩
abbrev main_call30_v12 : Ref sig .tc := ⟨.hbm, 576, rfl⟩
abbrev main_call30_v13 : Ref sig .tc := ⟨.hbm, 577, rfl⟩
abbrev main_call30_v14 : Ref sig .tc := ⟨.hbm, 578, rfl⟩
abbrev main_call30_cst : Ref sig .tc := ⟨.hbm, 579, rfl⟩
abbrev main_call30_v15 : Ref sig .tc := ⟨.hbm, 580, rfl⟩
abbrev main_v56 : Ref sig .tc := ⟨.hbm, 581, rfl⟩
abbrev main_call31_c : Ref sig .tc := ⟨.hbm, 582, rfl⟩
abbrev main_call31_v0 : Ref sig .tc := ⟨.hbm, 583, rfl⟩
abbrev main_call31_v1 : Ref sig .tc := ⟨.hbm, 584, rfl⟩
abbrev main_call31_c_0 : Ref sig .tc := ⟨.hbm, 585, rfl⟩
abbrev main_call31_v2 : Ref sig .tc := ⟨.hbm, 586, rfl⟩
abbrev main_call31_v3 : Ref sig .tc := ⟨.hbm, 587, rfl⟩
abbrev main_call31_v4 : Ref sig .tc := ⟨.hbm, 588, rfl⟩
abbrev main_call31_v5 : Ref sig .tc := ⟨.hbm, 589, rfl⟩
abbrev main_call31_c_1 : Ref sig .tc := ⟨.hbm, 590, rfl⟩
abbrev main_call31_c_2 : Ref sig .tc := ⟨.hbm, 591, rfl⟩
abbrev main_call31_v6 : Ref sig .tc := ⟨.hbm, 592, rfl⟩
abbrev main_call31_v7 : Ref sig .tc := ⟨.hbm, 593, rfl⟩
abbrev main_call31_v8 : Ref sig .tc := ⟨.hbm, 594, rfl⟩
abbrev main_call31_v9 : Ref sig .tc := ⟨.hbm, 595, rfl⟩
abbrev main_call31_v10 : Ref sig .tc := ⟨.hbm, 596, rfl⟩
abbrev main_call31_v11 : Ref sig .tc := ⟨.hbm, 597, rfl⟩
abbrev main_call31_c_3 : Ref sig .tc := ⟨.hbm, 598, rfl⟩
abbrev main_call31_v12 : Ref sig .tc := ⟨.hbm, 599, rfl⟩
abbrev main_call31_v13 : Ref sig .tc := ⟨.hbm, 600, rfl⟩
abbrev main_call31_v14 : Ref sig .tc := ⟨.hbm, 601, rfl⟩
abbrev main_call31_cst : Ref sig .tc := ⟨.hbm, 602, rfl⟩
abbrev main_call31_v15 : Ref sig .tc := ⟨.hbm, 603, rfl⟩
abbrev main_v57 : Ref sig .tc := ⟨.hbm, 604, rfl⟩
abbrev main_v58 : Ref sig .tc := ⟨.hbm, 605, rfl⟩
abbrev main_v59 : Ref sig .tc := ⟨.hbm, 606, rfl⟩
abbrev main_call32_v0 : Ref sig .tc := ⟨.hbm, 607, rfl⟩
abbrev main_call32_cst : Ref sig .tc := ⟨.hbm, 608, rfl⟩
abbrev main_call32_c : Ref sig .tc := ⟨.hbm, 609, rfl⟩
abbrev main_call32_v1_0 : Ref sig .tc := ⟨.hbm, 610, rfl⟩
abbrev main_v60 : Ref sig .tc := ⟨.hbm, 611, rfl⟩
abbrev main_c_6 : Ref sig .tc := ⟨.hbm, 612, rfl⟩
abbrev main_c_7 : Ref sig .tc := ⟨.hbm, 613, rfl⟩
abbrev main_call33_v0 : Ref sig .tc := ⟨.hbm, 614, rfl⟩
abbrev main_call33_v1 : Ref sig .tc := ⟨.hbm, 615, rfl⟩
abbrev main_call33_v2 : Ref sig .tc := ⟨.hbm, 616, rfl⟩
abbrev main_call33_v3 : Ref sig .tc := ⟨.hbm, 617, rfl⟩
abbrev main_call33_v4 : Ref sig .tc := ⟨.hbm, 618, rfl⟩
abbrev main_v61 : Ref sig .tc := ⟨.hbm, 619, rfl⟩
abbrev main_call34_c : Ref sig .tc := ⟨.hbm, 620, rfl⟩
abbrev main_call34_v0 : Ref sig .tc := ⟨.hbm, 621, rfl⟩
abbrev main_call34_v1 : Ref sig .tc := ⟨.hbm, 622, rfl⟩
abbrev main_call34_c_0 : Ref sig .tc := ⟨.hbm, 623, rfl⟩
abbrev main_call34_v2 : Ref sig .tc := ⟨.hbm, 624, rfl⟩
abbrev main_call34_v3 : Ref sig .tc := ⟨.hbm, 625, rfl⟩
abbrev main_call34_v4 : Ref sig .tc := ⟨.hbm, 626, rfl⟩
abbrev main_call34_v5 : Ref sig .tc := ⟨.hbm, 627, rfl⟩
abbrev main_call34_c_1 : Ref sig .tc := ⟨.hbm, 628, rfl⟩
abbrev main_call34_c_2 : Ref sig .tc := ⟨.hbm, 629, rfl⟩
abbrev main_call34_v6 : Ref sig .tc := ⟨.hbm, 630, rfl⟩
abbrev main_call34_v7 : Ref sig .tc := ⟨.hbm, 631, rfl⟩
abbrev main_call34_v8 : Ref sig .tc := ⟨.hbm, 632, rfl⟩
abbrev main_call34_v9 : Ref sig .tc := ⟨.hbm, 633, rfl⟩
abbrev main_call34_v10 : Ref sig .tc := ⟨.hbm, 634, rfl⟩
abbrev main_call34_v11 : Ref sig .tc := ⟨.hbm, 635, rfl⟩
abbrev main_call34_c_3 : Ref sig .tc := ⟨.hbm, 636, rfl⟩
abbrev main_call34_v12 : Ref sig .tc := ⟨.hbm, 637, rfl⟩
abbrev main_call34_v13 : Ref sig .tc := ⟨.hbm, 638, rfl⟩
abbrev main_call34_v14 : Ref sig .tc := ⟨.hbm, 639, rfl⟩
abbrev main_call34_c_4 : Ref sig .tc := ⟨.hbm, 640, rfl⟩
abbrev main_call34_v15 : Ref sig .tc := ⟨.hbm, 641, rfl⟩
abbrev main_v62 : Ref sig .tc := ⟨.hbm, 642, rfl⟩
abbrev main_v63 : Ref sig .tc := ⟨.hbm, 643, rfl⟩
abbrev main_call35_c : Ref sig .tc := ⟨.hbm, 644, rfl⟩
abbrev main_call35_v0 : Ref sig .tc := ⟨.hbm, 645, rfl⟩
abbrev main_call35_v1 : Ref sig .tc := ⟨.hbm, 646, rfl⟩
abbrev main_call35_c_0 : Ref sig .tc := ⟨.hbm, 647, rfl⟩
abbrev main_call35_v2 : Ref sig .tc := ⟨.hbm, 648, rfl⟩
abbrev main_call35_v3 : Ref sig .tc := ⟨.hbm, 649, rfl⟩
abbrev main_call35_v4 : Ref sig .tc := ⟨.hbm, 650, rfl⟩
abbrev main_call35_v5 : Ref sig .tc := ⟨.hbm, 651, rfl⟩
abbrev main_call35_c_1 : Ref sig .tc := ⟨.hbm, 652, rfl⟩
abbrev main_call35_c_2 : Ref sig .tc := ⟨.hbm, 653, rfl⟩
abbrev main_call35_v6 : Ref sig .tc := ⟨.hbm, 654, rfl⟩
abbrev main_call35_v7 : Ref sig .tc := ⟨.hbm, 655, rfl⟩
abbrev main_call35_v8 : Ref sig .tc := ⟨.hbm, 656, rfl⟩
abbrev main_call35_v9 : Ref sig .tc := ⟨.hbm, 657, rfl⟩
abbrev main_call35_v10 : Ref sig .tc := ⟨.hbm, 658, rfl⟩
abbrev main_call35_v11 : Ref sig .tc := ⟨.hbm, 659, rfl⟩
abbrev main_call35_c_3 : Ref sig .tc := ⟨.hbm, 660, rfl⟩
abbrev main_call35_v12 : Ref sig .tc := ⟨.hbm, 661, rfl⟩
abbrev main_call35_v13 : Ref sig .tc := ⟨.hbm, 662, rfl⟩
abbrev main_call35_c_4 : Ref sig .tc := ⟨.hbm, 663, rfl⟩
abbrev main_call35_v14 : Ref sig .tc := ⟨.hbm, 664, rfl⟩
abbrev main_v64 : Ref sig .tc := ⟨.hbm, 665, rfl⟩
abbrev main_v65 : Ref sig .tc := ⟨.hbm, 666, rfl⟩
abbrev main_c_8 : Ref sig .tc := ⟨.hbm, 667, rfl⟩
abbrev main_v66 : Ref sig .tc := ⟨.hbm, 668, rfl⟩
abbrev main_v67 : Ref sig .tc := ⟨.hbm, 669, rfl⟩
abbrev main_v68 : Ref sig .tc := ⟨.hbm, 670, rfl⟩
abbrev main_call37_c : Ref sig .tc := ⟨.hbm, 671, rfl⟩
abbrev main_call37_v0 : Ref sig .tc := ⟨.hbm, 672, rfl⟩
abbrev main_call37_v1 : Ref sig .tc := ⟨.hbm, 673, rfl⟩
abbrev main_call37_c_0 : Ref sig .tc := ⟨.hbm, 674, rfl⟩
abbrev main_call37_v2 : Ref sig .tc := ⟨.hbm, 675, rfl⟩
abbrev main_call37_v3 : Ref sig .tc := ⟨.hbm, 676, rfl⟩
abbrev main_call37_v4 : Ref sig .tc := ⟨.hbm, 677, rfl⟩
abbrev main_call37_v5 : Ref sig .tc := ⟨.hbm, 678, rfl⟩
abbrev main_call37_c_1 : Ref sig .tc := ⟨.hbm, 679, rfl⟩
abbrev main_call37_c_2 : Ref sig .tc := ⟨.hbm, 680, rfl⟩
abbrev main_call37_v6 : Ref sig .tc := ⟨.hbm, 681, rfl⟩
abbrev main_call37_v7 : Ref sig .tc := ⟨.hbm, 682, rfl⟩
abbrev main_call37_v8 : Ref sig .tc := ⟨.hbm, 683, rfl⟩
abbrev main_call37_v9 : Ref sig .tc := ⟨.hbm, 684, rfl⟩
abbrev main_call37_v10 : Ref sig .tc := ⟨.hbm, 685, rfl⟩
abbrev main_call37_v11 : Ref sig .tc := ⟨.hbm, 686, rfl⟩
abbrev main_call37_c_3 : Ref sig .tc := ⟨.hbm, 687, rfl⟩
abbrev main_call37_v12 : Ref sig .tc := ⟨.hbm, 688, rfl⟩
abbrev main_call37_v13 : Ref sig .tc := ⟨.hbm, 689, rfl⟩
abbrev main_call37_v14 : Ref sig .tc := ⟨.hbm, 690, rfl⟩
abbrev main_call37_cst : Ref sig .tc := ⟨.hbm, 691, rfl⟩
abbrev main_call37_v15 : Ref sig .tc := ⟨.hbm, 692, rfl⟩
abbrev main_v69 : Ref sig .tc := ⟨.hbm, 693, rfl⟩
abbrev main_call38_c : Ref sig .tc := ⟨.hbm, 694, rfl⟩
abbrev main_call38_v0 : Ref sig .tc := ⟨.hbm, 695, rfl⟩
abbrev main_call38_v1 : Ref sig .tc := ⟨.hbm, 696, rfl⟩
abbrev main_call38_c_0 : Ref sig .tc := ⟨.hbm, 697, rfl⟩
abbrev main_call38_v2 : Ref sig .tc := ⟨.hbm, 698, rfl⟩
abbrev main_call38_v3 : Ref sig .tc := ⟨.hbm, 699, rfl⟩
abbrev main_call38_v4 : Ref sig .tc := ⟨.hbm, 700, rfl⟩
abbrev main_call38_v5 : Ref sig .tc := ⟨.hbm, 701, rfl⟩
abbrev main_call38_c_1 : Ref sig .tc := ⟨.hbm, 702, rfl⟩
abbrev main_call38_c_2 : Ref sig .tc := ⟨.hbm, 703, rfl⟩
abbrev main_call38_v6 : Ref sig .tc := ⟨.hbm, 704, rfl⟩
abbrev main_call38_v7 : Ref sig .tc := ⟨.hbm, 705, rfl⟩
abbrev main_call38_v8 : Ref sig .tc := ⟨.hbm, 706, rfl⟩
abbrev main_call38_v9 : Ref sig .tc := ⟨.hbm, 707, rfl⟩
abbrev main_call38_v10 : Ref sig .tc := ⟨.hbm, 708, rfl⟩
abbrev main_call38_v11 : Ref sig .tc := ⟨.hbm, 709, rfl⟩
abbrev main_call38_c_3 : Ref sig .tc := ⟨.hbm, 710, rfl⟩
abbrev main_call38_v12 : Ref sig .tc := ⟨.hbm, 711, rfl⟩
abbrev main_call38_v13 : Ref sig .tc := ⟨.hbm, 712, rfl⟩
abbrev main_call38_v14 : Ref sig .tc := ⟨.hbm, 713, rfl⟩
abbrev main_call38_cst : Ref sig .tc := ⟨.hbm, 714, rfl⟩
abbrev main_call38_v15 : Ref sig .tc := ⟨.hbm, 715, rfl⟩
abbrev main_v70 : Ref sig .tc := ⟨.hbm, 716, rfl⟩
abbrev main_v71 : Ref sig .tc := ⟨.hbm, 717, rfl⟩
abbrev main_v72 : Ref sig .tc := ⟨.hbm, 718, rfl⟩
abbrev main_call39_cst : Ref sig .tc := ⟨.hbm, 719, rfl⟩
abbrev main_call39_v0 : Ref sig .tc := ⟨.hbm, 720, rfl⟩
abbrev main_v73 : Ref sig .tc := ⟨.hbm, 721, rfl⟩
abbrev main_call40_c : Ref sig .tc := ⟨.hbm, 722, rfl⟩
abbrev main_call40_v0 : Ref sig .tc := ⟨.hbm, 723, rfl⟩
abbrev main_call40_v1 : Ref sig .tc := ⟨.hbm, 724, rfl⟩
abbrev main_call40_c_0 : Ref sig .tc := ⟨.hbm, 725, rfl⟩
abbrev main_call40_v2 : Ref sig .tc := ⟨.hbm, 726, rfl⟩
abbrev main_call40_v3 : Ref sig .tc := ⟨.hbm, 727, rfl⟩
abbrev main_call40_v4 : Ref sig .tc := ⟨.hbm, 728, rfl⟩
abbrev main_call40_v5 : Ref sig .tc := ⟨.hbm, 729, rfl⟩
abbrev main_call40_c_1 : Ref sig .tc := ⟨.hbm, 730, rfl⟩
abbrev main_call40_c_2 : Ref sig .tc := ⟨.hbm, 731, rfl⟩
abbrev main_call40_v6 : Ref sig .tc := ⟨.hbm, 732, rfl⟩
abbrev main_call40_v7 : Ref sig .tc := ⟨.hbm, 733, rfl⟩
abbrev main_call40_v8 : Ref sig .tc := ⟨.hbm, 734, rfl⟩
abbrev main_call40_v9 : Ref sig .tc := ⟨.hbm, 735, rfl⟩
abbrev main_call40_v10 : Ref sig .tc := ⟨.hbm, 736, rfl⟩
abbrev main_call40_v11 : Ref sig .tc := ⟨.hbm, 737, rfl⟩
abbrev main_call40_c_3 : Ref sig .tc := ⟨.hbm, 738, rfl⟩
abbrev main_call40_v12 : Ref sig .tc := ⟨.hbm, 739, rfl⟩
abbrev main_call40_v13 : Ref sig .tc := ⟨.hbm, 740, rfl⟩
abbrev main_call40_v14 : Ref sig .tc := ⟨.hbm, 741, rfl⟩
abbrev main_call40_cst : Ref sig .tc := ⟨.hbm, 742, rfl⟩
abbrev main_call40_v15 : Ref sig .tc := ⟨.hbm, 743, rfl⟩
abbrev main_v74 : Ref sig .tc := ⟨.hbm, 744, rfl⟩
abbrev main_call41_c : Ref sig .tc := ⟨.hbm, 745, rfl⟩
abbrev main_call41_v0 : Ref sig .tc := ⟨.hbm, 746, rfl⟩
abbrev main_call41_v1 : Ref sig .tc := ⟨.hbm, 747, rfl⟩
abbrev main_call41_c_0 : Ref sig .tc := ⟨.hbm, 748, rfl⟩
abbrev main_call41_v2 : Ref sig .tc := ⟨.hbm, 749, rfl⟩
abbrev main_call41_v3 : Ref sig .tc := ⟨.hbm, 750, rfl⟩
abbrev main_call41_v4 : Ref sig .tc := ⟨.hbm, 751, rfl⟩
abbrev main_call41_v5 : Ref sig .tc := ⟨.hbm, 752, rfl⟩
abbrev main_call41_c_1 : Ref sig .tc := ⟨.hbm, 753, rfl⟩
abbrev main_call41_c_2 : Ref sig .tc := ⟨.hbm, 754, rfl⟩
abbrev main_call41_v6 : Ref sig .tc := ⟨.hbm, 755, rfl⟩
abbrev main_call41_v7 : Ref sig .tc := ⟨.hbm, 756, rfl⟩
abbrev main_call41_v8 : Ref sig .tc := ⟨.hbm, 757, rfl⟩
abbrev main_call41_v9 : Ref sig .tc := ⟨.hbm, 758, rfl⟩
abbrev main_call41_v10 : Ref sig .tc := ⟨.hbm, 759, rfl⟩
abbrev main_call41_v11 : Ref sig .tc := ⟨.hbm, 760, rfl⟩
abbrev main_call41_c_3 : Ref sig .tc := ⟨.hbm, 761, rfl⟩
abbrev main_call41_v12 : Ref sig .tc := ⟨.hbm, 762, rfl⟩
abbrev main_call41_v13 : Ref sig .tc := ⟨.hbm, 763, rfl⟩
abbrev main_call41_v14 : Ref sig .tc := ⟨.hbm, 764, rfl⟩
abbrev main_call41_cst : Ref sig .tc := ⟨.hbm, 765, rfl⟩
abbrev main_call41_v15 : Ref sig .tc := ⟨.hbm, 766, rfl⟩
abbrev main_v75 : Ref sig .tc := ⟨.hbm, 767, rfl⟩
abbrev main_v76 : Ref sig .tc := ⟨.hbm, 768, rfl⟩
abbrev main_v77 : Ref sig .tc := ⟨.hbm, 769, rfl⟩
abbrev main_call42_c : Ref sig .tc := ⟨.hbm, 770, rfl⟩
abbrev main_call42_v0 : Ref sig .tc := ⟨.hbm, 771, rfl⟩
abbrev main_call42_v1 : Ref sig .tc := ⟨.hbm, 772, rfl⟩
abbrev main_call42_c_0 : Ref sig .tc := ⟨.hbm, 773, rfl⟩
abbrev main_call42_v2 : Ref sig .tc := ⟨.hbm, 774, rfl⟩
abbrev main_call42_v3 : Ref sig .tc := ⟨.hbm, 775, rfl⟩
abbrev main_call42_v4 : Ref sig .tc := ⟨.hbm, 776, rfl⟩
abbrev main_call42_v5 : Ref sig .tc := ⟨.hbm, 777, rfl⟩
abbrev main_call42_c_1 : Ref sig .tc := ⟨.hbm, 778, rfl⟩
abbrev main_call42_c_2 : Ref sig .tc := ⟨.hbm, 779, rfl⟩
abbrev main_call42_v6 : Ref sig .tc := ⟨.hbm, 780, rfl⟩
abbrev main_call42_v7 : Ref sig .tc := ⟨.hbm, 781, rfl⟩
abbrev main_call42_v8 : Ref sig .tc := ⟨.hbm, 782, rfl⟩
abbrev main_call42_v9 : Ref sig .tc := ⟨.hbm, 783, rfl⟩
abbrev main_call42_v10 : Ref sig .tc := ⟨.hbm, 784, rfl⟩
abbrev main_call42_v11 : Ref sig .tc := ⟨.hbm, 785, rfl⟩
abbrev main_call42_c_3 : Ref sig .tc := ⟨.hbm, 786, rfl⟩
abbrev main_call42_v12 : Ref sig .tc := ⟨.hbm, 787, rfl⟩
abbrev main_call42_v13 : Ref sig .tc := ⟨.hbm, 788, rfl⟩
abbrev main_call42_v14 : Ref sig .tc := ⟨.hbm, 789, rfl⟩
abbrev main_call42_cst : Ref sig .tc := ⟨.hbm, 790, rfl⟩
abbrev main_call42_v15 : Ref sig .tc := ⟨.hbm, 791, rfl⟩
abbrev main_v78 : Ref sig .tc := ⟨.hbm, 792, rfl⟩
abbrev main_call43_c : Ref sig .tc := ⟨.hbm, 793, rfl⟩
abbrev main_call43_v0 : Ref sig .tc := ⟨.hbm, 794, rfl⟩
abbrev main_call43_v1 : Ref sig .tc := ⟨.hbm, 795, rfl⟩
abbrev main_call43_c_0 : Ref sig .tc := ⟨.hbm, 796, rfl⟩
abbrev main_call43_v2 : Ref sig .tc := ⟨.hbm, 797, rfl⟩
abbrev main_call43_v3 : Ref sig .tc := ⟨.hbm, 798, rfl⟩
abbrev main_call43_v4 : Ref sig .tc := ⟨.hbm, 799, rfl⟩
abbrev main_call43_v5 : Ref sig .tc := ⟨.hbm, 800, rfl⟩
abbrev main_call43_c_1 : Ref sig .tc := ⟨.hbm, 801, rfl⟩
abbrev main_call43_c_2 : Ref sig .tc := ⟨.hbm, 802, rfl⟩
abbrev main_call43_v6 : Ref sig .tc := ⟨.hbm, 803, rfl⟩
abbrev main_call43_v7 : Ref sig .tc := ⟨.hbm, 804, rfl⟩
abbrev main_call43_v8 : Ref sig .tc := ⟨.hbm, 805, rfl⟩
abbrev main_call43_v9 : Ref sig .tc := ⟨.hbm, 806, rfl⟩
abbrev main_call43_v10 : Ref sig .tc := ⟨.hbm, 807, rfl⟩
abbrev main_call43_v11 : Ref sig .tc := ⟨.hbm, 808, rfl⟩
abbrev main_call43_c_3 : Ref sig .tc := ⟨.hbm, 809, rfl⟩
abbrev main_call43_v12 : Ref sig .tc := ⟨.hbm, 810, rfl⟩
abbrev main_call43_v13 : Ref sig .tc := ⟨.hbm, 811, rfl⟩
abbrev main_call43_v14 : Ref sig .tc := ⟨.hbm, 812, rfl⟩
abbrev main_call43_cst : Ref sig .tc := ⟨.hbm, 813, rfl⟩
abbrev main_call43_v15 : Ref sig .tc := ⟨.hbm, 814, rfl⟩
abbrev main_v79 : Ref sig .tc := ⟨.hbm, 815, rfl⟩
abbrev main_v80 : Ref sig .tc := ⟨.hbm, 816, rfl⟩
abbrev main_v81 : Ref sig .tc := ⟨.hbm, 817, rfl⟩
abbrev main_call44_v0 : Ref sig .tc := ⟨.hbm, 818, rfl⟩
abbrev main_call44_cst : Ref sig .tc := ⟨.hbm, 819, rfl⟩
abbrev main_call44_c : Ref sig .tc := ⟨.hbm, 820, rfl⟩
abbrev main_call44_v1_0 : Ref sig .tc := ⟨.hbm, 821, rfl⟩
abbrev main_v82 : Ref sig .tc := ⟨.hbm, 822, rfl⟩
abbrev main_c_9 : Ref sig .tc := ⟨.hbm, 823, rfl⟩
abbrev main_c_10 : Ref sig .tc := ⟨.hbm, 824, rfl⟩
abbrev main_call45_v0 : Ref sig .tc := ⟨.hbm, 825, rfl⟩
abbrev main_call45_v1 : Ref sig .tc := ⟨.hbm, 826, rfl⟩
abbrev main_call45_v2 : Ref sig .tc := ⟨.hbm, 827, rfl⟩
abbrev main_call45_v3 : Ref sig .tc := ⟨.hbm, 828, rfl⟩
abbrev main_call45_v4 : Ref sig .tc := ⟨.hbm, 829, rfl⟩
abbrev main_v83 : Ref sig .tc := ⟨.hbm, 830, rfl⟩
abbrev main_call46_c : Ref sig .tc := ⟨.hbm, 831, rfl⟩
abbrev main_call46_v0 : Ref sig .tc := ⟨.hbm, 832, rfl⟩
abbrev main_call46_v1 : Ref sig .tc := ⟨.hbm, 833, rfl⟩
abbrev main_call46_c_0 : Ref sig .tc := ⟨.hbm, 834, rfl⟩
abbrev main_call46_v2 : Ref sig .tc := ⟨.hbm, 835, rfl⟩
abbrev main_call46_v3 : Ref sig .tc := ⟨.hbm, 836, rfl⟩
abbrev main_call46_v4 : Ref sig .tc := ⟨.hbm, 837, rfl⟩
abbrev main_call46_v5 : Ref sig .tc := ⟨.hbm, 838, rfl⟩
abbrev main_call46_c_1 : Ref sig .tc := ⟨.hbm, 839, rfl⟩
abbrev main_call46_c_2 : Ref sig .tc := ⟨.hbm, 840, rfl⟩
abbrev main_call46_v6 : Ref sig .tc := ⟨.hbm, 841, rfl⟩
abbrev main_call46_v7 : Ref sig .tc := ⟨.hbm, 842, rfl⟩
abbrev main_call46_v8 : Ref sig .tc := ⟨.hbm, 843, rfl⟩
abbrev main_call46_v9 : Ref sig .tc := ⟨.hbm, 844, rfl⟩
abbrev main_call46_v10 : Ref sig .tc := ⟨.hbm, 845, rfl⟩
abbrev main_call46_v11 : Ref sig .tc := ⟨.hbm, 846, rfl⟩
abbrev main_call46_c_3 : Ref sig .tc := ⟨.hbm, 847, rfl⟩
abbrev main_call46_v12 : Ref sig .tc := ⟨.hbm, 848, rfl⟩
abbrev main_call46_v13 : Ref sig .tc := ⟨.hbm, 849, rfl⟩
abbrev main_call46_v14 : Ref sig .tc := ⟨.hbm, 850, rfl⟩
abbrev main_call46_c_4 : Ref sig .tc := ⟨.hbm, 851, rfl⟩
abbrev main_call46_v15 : Ref sig .tc := ⟨.hbm, 852, rfl⟩
abbrev main_v84 : Ref sig .tc := ⟨.hbm, 853, rfl⟩
abbrev main_v85 : Ref sig .tc := ⟨.hbm, 854, rfl⟩
abbrev main_call47_c : Ref sig .tc := ⟨.hbm, 855, rfl⟩
abbrev main_call47_v0 : Ref sig .tc := ⟨.hbm, 856, rfl⟩
abbrev main_call47_v1 : Ref sig .tc := ⟨.hbm, 857, rfl⟩
abbrev main_call47_c_0 : Ref sig .tc := ⟨.hbm, 858, rfl⟩
abbrev main_call47_v2 : Ref sig .tc := ⟨.hbm, 859, rfl⟩
abbrev main_call47_v3 : Ref sig .tc := ⟨.hbm, 860, rfl⟩
abbrev main_call47_v4 : Ref sig .tc := ⟨.hbm, 861, rfl⟩
abbrev main_call47_v5 : Ref sig .tc := ⟨.hbm, 862, rfl⟩
abbrev main_call47_c_1 : Ref sig .tc := ⟨.hbm, 863, rfl⟩
abbrev main_call47_c_2 : Ref sig .tc := ⟨.hbm, 864, rfl⟩
abbrev main_call47_v6 : Ref sig .tc := ⟨.hbm, 865, rfl⟩
abbrev main_call47_v7 : Ref sig .tc := ⟨.hbm, 866, rfl⟩
abbrev main_call47_v8 : Ref sig .tc := ⟨.hbm, 867, rfl⟩
abbrev main_call47_v9 : Ref sig .tc := ⟨.hbm, 868, rfl⟩
abbrev main_call47_v10 : Ref sig .tc := ⟨.hbm, 869, rfl⟩
abbrev main_call47_v11 : Ref sig .tc := ⟨.hbm, 870, rfl⟩
abbrev main_call47_c_3 : Ref sig .tc := ⟨.hbm, 871, rfl⟩
abbrev main_call47_v12 : Ref sig .tc := ⟨.hbm, 872, rfl⟩
abbrev main_call47_v13 : Ref sig .tc := ⟨.hbm, 873, rfl⟩
abbrev main_call47_c_4 : Ref sig .tc := ⟨.hbm, 874, rfl⟩
abbrev main_call47_v14 : Ref sig .tc := ⟨.hbm, 875, rfl⟩
abbrev main_v86 : Ref sig .tc := ⟨.hbm, 876, rfl⟩
abbrev main_v87 : Ref sig .tc := ⟨.hbm, 877, rfl⟩
abbrev main_c_11 : Ref sig .tc := ⟨.hbm, 878, rfl⟩
abbrev main_v88 : Ref sig .tc := ⟨.hbm, 879, rfl⟩
abbrev main_v89 : Ref sig .tc := ⟨.hbm, 880, rfl⟩
abbrev main_v90 : Ref sig .tc := ⟨.hbm, 881, rfl⟩
abbrev main_v91 : Ref sig .tc := ⟨.hbm, 882, rfl⟩
abbrev main_v92 : Ref sig .tc := ⟨.hbm, 883, rfl⟩
abbrev main_v93 : Ref sig .tc := ⟨.hbm, 884, rfl⟩
abbrev main_v94 : Ref sig .tc := ⟨.hbm, 885, rfl⟩

abbrev nD : Nat := 1
abbrev τ : Topo := Topo.v7x

variable {F : FTy → Type} [FloatOps F]
-- ==== Proof.Pre.lean ====
/-
  What the precondition says: every token is a row number of the embedding table, and the children table is the
  four-fold tree on agents 0 to 84.
-/
module

public import proofs.«01_k».proof.Defs
public import proofs.«01_k».proof.Proof.Gen.Pre_tree
public import Idealize.ShloMosaic.Lib.ReduceAll
public import Idealize.ShloMosaic.Lib.ValueIdxCore
public import Idealize.ShloMosaic.Lib.WordCmp

@[expose] public section

noncomputable section

namespace Cert.Proof.Pre

open Cert.Pre_tree Idealize.ShloMosaic Idealize.ShloMosaic.ValueIdx Idealize.ShloMosaic.WordCmp

variable [Facts] {F : FTy → Type} [FloatOps F]

instance : Subsingleton S_.Idx := ⟨fun _ _ => funext fun k => k.elim0⟩

/-- The children of agent `n`, as the tree has them. -/
def child (n : ℕ) (k : ℕ) : BitVec 32 := if n < 21 then BitVec.ofNat 32 (4 * n + 1 + k) else 4294967295#32

variable {x0 : IVec S1024 32} {x1 : FVec F S1000x128 .f32} {x2 : FVec F S2000x128x128 .f32} {x3 : FVec F S2000x128 .f32}
  {x4 : FVec F S2000x128x128 .f32} {x5 : FVec F S2000x128 .f32} {x6 : FVec F S2000x128x4 .f32} {x7 : FVec F S2000x4 .f32}
  {x8 : FVec F S128x1000 .f32} {x9 : FVec F S1000 .f32} {x10 : IVec S2000x4 32}

/-- The two halves of the precondition, each still a conjunction over an array. -/
theorem halves (h : fn x0 x1 x2 x3 x4 x5 x6 x7 x8 x9 x10 = fun _ => 1#1) :
    (∀ i, andi (cmpi .sge x0 (broadcastInDim S1024 ![] Facts.bcast_S_S1024 (constantI S_ 32 0#32)))
        (cmpi .slt x0 (broadcastInDim S1024 ![] Facts.bcast_S_S1024 (constantI S_ 32 1000#32))) i = 1#1)
    ∧ ∀ i, cmpi .eq x10 (fn_where (F := F) (cmpi .slt (iotaInDim S2000x4 32 0) (broadcastInDim S2000x4 ![] Facts.bcast_S_S2000x4 (constantI S_ 32 21#32)))
        (addi (addi (muli (broadcastInDim S2000x4 ![] Facts.bcast_S_S2000x4 (constantI S_ 32 4#32)) (iotaInDim S2000x4 32 0))
          (broadcastInDim S2000x4 ![] Facts.bcast_S_S2000x4 (constantI S_ 32 1#32))) (iotaInDim S2000x4 32 1))
        (constantI S_ 32 4294967295#32)) i = 1#1 := by
  have e := congrFun h (fun k => k.elim0)
  obtain ⟨e1, e2⟩ := IntOp.andi_eq_one.1 e
  exact ⟨Host.reduce_andi_all _ _ _ _ _ e1, Host.reduce_andi_all _ _ _ _ _ e2⟩

/-- Every token is a row number. -/
theorem token_lt (h : fn x0 x1 x2 x3 x4 x5 x6 x7 x8 x9 x10 = fun _ => 1#1) (i : S1024.Idx) : (x0 i).toNat < 1000 := by
  have e := (halves h).1 i
  simp only [andi, cmpi, broadcastInDim, constantI, IntOp.cmpi, andi_ofBool, ofBool_eq_one_iff, Bool.and_eq_true,
    BitVec.sle_eq_decide, BitVec.slt_eq_decide, decide_eq_true_eq, BitVec.toInt_eq_toNat_cond, BitVec.toNat_ofNat,
    Nat.reducePow, Nat.reduceMod] at e
  omega

/-- The children table is the tree. -/
theorem children (h : fn x0 x1 x2 x3 x4 x5 x6 x7 x8 x9 x10 = fun _ => 1#1) (n : Fin 2000) (k : Fin 4) :
    x10 (ix2 n k) = child n.val k.val := by
  have e := (halves h).2 (ix2 n k)
  have hb : ∀ a b : BitVec 32, IntOp.cmpi .eq a b = 1#1 → a = b := fun a b hab => by
    simpa [IntOp.cmpi, ofBool_eq_one_iff] using hab
  refine (hb _ _ e).trans ?_
  have hn := n.isLt
  show Scalar.select (IntOp.cmpi .slt (BitVec.ofNat 32 n.val) 21#32)
    (4#32 * BitVec.ofNat 32 n.val + 1#32 + BitVec.ofNat 32 k.val) 4294967295#32 = _
  have hc : IntOp.cmpi .slt (BitVec.ofNat 32 n.val) 21#32 = if n.val < 21 then 1#1 else 0#1 := by
    have hm : n.val % 2 ^ 32 = n.val := Nat.mod_eq_of_lt (by omega)
    simp only [IntOp.cmpi, BitVec.slt_eq_decide, BitVec.toInt_eq_toNat_cond, BitVec.toNat_ofNat, hm]
    by_cases h21 : n.val < 21
    · rw [if_pos h21, decide_eq_true (by omega)]; rfl
    · rw [if_neg h21, decide_eq_false (by omega)]; rfl
  rw [hc]; unfold child
  split
  · show 4#32 * BitVec.ofNat 32 n.val + 1#32 + BitVec.ofNat 32 k.val = _
    apply BitVec.eq_of_toNat_eq
    simp only [BitVec.toNat_add, BitVec.toNat_mul, BitVec.toNat_ofNat]; omega
  · rfl

end Cert.Proof.Pre
-- ==== Proof.KernelIdeal.Setup.lean ====
/-
  The set-up of the kernel's run: the launch configuration, the ghost state, the buffers the SparseCore call moves, and how
  the 1024 rows are dealt to the 32 vector subcores. Tile `(c, s)` works on block `2 * s + c` of 32 rows.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.ShareLeaves
public import Idealize.ShloMosaic.Lib.ValueIdxCore
public import Idealize.ShloMosaic.Lib.Pipeline.Kit
public import Idealize.ShloMosaic.Lib.Pipeline.Regions
public import Idealize.ShloMosaic.Lib.Tactic

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- The launch's side conditions on its four semaphores and on the shared buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

example : (EP (F := F)).LandsIn (upEmb : UEmb _ (MT nD τ sig (HIx 1) (Elt F) ℕ UU ℕ)) := inferInstance

/-! ## The buffers and the blocks -/

variable (m : (ℓ : Loc nD τ sig) → Buf (Elt F) ℓ)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

local notation "iV" => (Memref.whole Cert.KernelIdeal.main_arg0_scv : Memref Cert.KernelIdeal.sig Kind.scVector Space.hbm Cert.KernelIdeal.S1024 EltTy.i32)
local notation "xV" => (Memref.whole Cert.KernelIdeal.main_arg1_scv : Memref Cert.KernelIdeal.sig Kind.scVector Space.hbm Cert.KernelIdeal.S1000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

theorem idiv : 32 ∣ S1024.size 0 := ⟨32, rfl⟩
theorem odiv : 32 ∣ S1024x128.size 0 := ⟨32, rfl⟩

/-- Block `w` of the indices, and block `w` of the gathered rows. -/
abbrev iBlk (w : Fin 32) : Rect S1024 := Rect.part (s := S1024) (a₀ := 0) idiv w
abbrev oBlk (w : Fin 32) : Rect S1024x128 := Rect.part (s := S1024x128) (a₀ := 0) odiv w
abbrev iSet (w : Fin 32) : Finset S1024.Idx := ((iV).view.slice (iBlk w)).set
abbrev oSet (w : Fin 32) : Finset S1024x128.Idx := ((oV).view.slice (oBlk w)).set

/-- The block of tile `s` of core `c`. -/
def wid (c : Fin 2) (s : Fin 16) : Fin 32 := ⟨2 * s.val + c.val, by omega⟩

/-- The pairs (core, tile) are the blocks. -/
def widEquiv : Fin 2 × Fin 16 ≃ Fin 32 where
  toFun p := wid p.1 p.2
  invFun w := (⟨w.val % 2, by omega⟩, ⟨w.val / 2, by omega⟩)
  left_inv p := by ext <;> simp [wid] <;> omega
  right_inv w := by ext; simp [wid]; omega

/-- A separating conjunction over the blocks is one over the cores of one over the tiles. -/
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

/-- What the SparseCore call leaves: row `n` is the table's row named by word `n` of the indices. -/
def embOut (idx : S1024.Idx → Elt F .i32) (x : S1000x128.Idx → Elt F .f32) : S1024x128.Idx → Elt F .f32 := fun j =>
  x (ix2 ⟨(idx (ix1 (j 0))).toNat % 1000, Nat.mod_lt _ (by decide)⟩ (j 1))

variable [FloatOps F]

/-! ## What the handshakes carry -/

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev embOf (d : Dev nD) : Buf (Elt F) (oLoc d) := embOut (m (iLoc d)) (m (xLoc d))
abbrev xq (w : Fin 32) : PosShare TreeShare := leaf 5 fullShare w

/-- A tile's part: its block of the indices, its share of the table, its block of the output at `f`. -/
def part (d : Dev nD) (w : Fin 32) (f : Buf (Elt F) (oLoc d)) : sProp 𝕄 :=
  iprop((iLoc d ↦[iSet w]{fullShare} m (iLoc d)) ∗ (xLoc d ↦{xq w} m (xLoc d)) ∗ oLoc d ↦[oSet w]{fullShare} f)

instance part_storable (d : Dev nD) (w : Fin 32) (f : Buf (Elt F) (oLoc d)) : BI.Storable (upEmb : UEmb _ 𝕄) (part m d w f) := by
  unfold part; infer_instance

/-- Every core takes and returns its tiles' parts; the output's blocks come back holding the gathered rows. -/
def P : (K (F := F)).Pay (nD := nD) (Val := Elt F) (Name := ℕ) (U := UU) where
  st := fun q d c => match q with | 0 => bigSep Finset.univ fun i : Fin 16 => part m d (wid (Fin.cast nCore_zero c) i) (m (oLoc d))
  dn := fun q d c => match q with | 0 => bigSep Finset.univ fun i : Fin 16 => part m d (wid (Fin.cast nCore_zero c) i) (embOf m d)
  go := fun q d c i => match q with | 0 => part m d (wid (Fin.cast nCore_zero c) (Fin.cast nSub_zero i)) (m (oLoc d))
  td := fun q d c i => match q with | 0 => part m d (wid (Fin.cast nCore_zero c) (Fin.cast nSub_zero i)) (embOf m d)
  x := fun _ _ => iprop(emp)

instance P_storable : (P (F := F) m).IsStorable where
  st q d c := match q with
    | 0 => (inferInstance : BI.Storable (upEmb : UEmb _ 𝕄) (bigSep Finset.univ fun i : Fin 16 => part m d (wid (Fin.cast nCore_zero c) i) (m (oLoc d))))
  dn q d c := match q with
    | 0 => (inferInstance : BI.Storable (upEmb : UEmb _ 𝕄) (bigSep Finset.univ fun i : Fin 16 => part m d (wid (Fin.cast nCore_zero c) i) (embOf m d)))
  go q d c i := match q with
    | 0 => (inferInstance : BI.Storable (upEmb : UEmb _ 𝕄) (part m d (wid (Fin.cast nCore_zero c) (Fin.cast nSub_zero i)) (m (oLoc d))))
  td q d c i := match q with
    | 0 => (inferInstance : BI.Storable (upEmb : UEmb _ 𝕄) (part m d (wid (Fin.cast nCore_zero c) (Fin.cast nSub_zero i)) (embOf m d)))

/-- A core's parts are its tiles' parts, going in and coming back. -/
theorem vecSplit : (K (F := F)).VecSplit' (P m) 0 := by
  intro d c
  show (bigSep Finset.univ fun i : Fin 16 => part m d (wid (Fin.cast nCore_zero c) i) (m (oLoc d))) ⊢ |={Set.univ}=> iprop(
      (bigSep Finset.univ fun i : Fin 16 => part m d (wid (Fin.cast nCore_zero c) i) (m (oLoc d)))
      ∗ ((bigSep Finset.univ fun i : Fin 16 => part m d (wid (Fin.cast nCore_zero c) i) (embOf m d))
          -∗ bigSep Finset.univ fun i : Fin 16 => part m d (wid (Fin.cast nCore_zero c) i) (embOf m d)))
  iintro H; imodintro
  isplitl [H]; · iexact H
  iintro H; iexact H

/-! ## The blocks make up the arrays -/

omit [FloatOps F] in
theorem iSet_eq (w : Fin 32) : iSet w = (iBlk w).set := by
  show ((View.whole (main_arg0_scv : Ref sig .scVector)).slice (iBlk w)).set = _
  rw [View.set_slice]; exact Finset.map_refl
omit [FloatOps F] in
theorem oSet_eq (w : Fin 32) : oSet w = (oBlk w).set := by
  show ((View.whole (main_v0_scv : Ref sig .scVector)).slice (oBlk w)).set = _
  rw [View.set_slice]; exact Finset.map_refl

/-- The three arrays whole are the blocks' parts together. -/
theorem parts_eq (d : Dev nD) (f : Buf (Elt F) (oLoc d)) :
    iprop(iPts m d ∗ xPts m d ∗ oPts d f) = bigSep Finset.univ fun w : Fin 32 => part m d w f := by
  have hi : (iLoc d ↦{fullShare} m (iLoc d) : sProp 𝕄) = bigSep Finset.univ fun w : Fin 32 => iLoc d ↦[iSet w]{fullShare} m (iLoc d) := by
    rw [← pointsTo_biUnion Finset.univ (ℓ := iLoc d) iSet (fun i _ j _ h => by rw [iSet_eq, iSet_eq]; exact Rect.part_disjoint idiv h),
      (Finset.biUnion_congr rfl fun i _ => iSet_eq i).trans (Rect.biUnion_part idiv)]; try rfl
  have ho : (oLoc d ↦{fullShare} f : sProp 𝕄) = bigSep Finset.univ fun w : Fin 32 => oLoc d ↦[oSet w]{fullShare} f := by
    rw [← pointsTo_biUnion Finset.univ (ℓ := oLoc d) oSet (fun i _ j _ h => by rw [oSet_eq, oSet_eq]; exact Rect.part_disjoint odiv h),
      (Finset.biUnion_congr rfl fun i _ => oSet_eq i).trans (Rect.biUnion_part odiv)]; try rfl
  unfold iPts xPts oPts part
  rw [hi, ho, pointsTo_leaves Finset.univ (m (xLoc d)) 5 fullShare, bigSep_sep', bigSep_sep']; try rfl

theorem st_eq (d : Dev nD) :
    (bigSep Finset.univ fun c : Fin ((K (F := F)).nCore 0) => (P m).st 0 d c) = iprop(iPts m d ∗ xPts m d ∗ oPts d (m (oLoc d))) := by
  rw [parts_eq, bigSep_wid]; rfl
theorem dn_eq (d : Dev nD) :
    (bigSep Finset.univ fun c : Fin ((K (F := F)).nCore 0) => (P m).dn 0 d c) = iprop(iPts m d ∗ xPts m d ∗ oPts d (embOf m d)) := by
  rw [parts_eq, bigSep_wid]; rfl

end Cert.Proof.KernelIdeal

end
-- ==== Proof.KernelIdeal.Tile.lean ====
/-
  One vector subcore's task: its 32 indices are copied in, the table rows they name are gathered, and the gathered block is
  copied to the output. Stated at a symbolic tile, with the value the block ends at.
-/
module

public import proofs.«01_k».proof.Proof.KernelIdeal.Setup

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S1024 EltTy.i32)
local notation "xV" => (Memref.whole Cert.KernelIdeal.main_arg1_scv : Memref Cert.KernelIdeal.sig Kind.scVector Space.hbm Cert.KernelIdeal.S1000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

/-- What the run asks of the launch memory: every index names a row of the table. -/
def InRange : Prop := ∀ (d : Dev nD) (j : S1024.Idx), (m (iLoc d) j).toNat < 1000

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)
abbrev c2 (L : grid0.Coords) : Fin 2 := L 0
abbrev j16 (L : grid0.Coords) : Fin 16 := L 1
/-- The tile's block number. -/
abbrev wL (L : grid0.Coords) : Fin 32 := wid (c2 L) (j16 L)

/-- The tile's block of the indices and of the output as the task addresses them, and the table. -/
abbrev iK (L : grid0.Coords) : Memref sig .scVector .hbm S32 .i32 :=
  (iV).slice (Rect.unit (s := S1024) (k0_off1 L) S32.size (k0_off1_inb L)) (fun _ => rfl)
abbrev oK (L : grid0.Coords) : Memref sig .scVector .hbm S32x128 .f32 :=
  (oV).slice (Rect.unit (s := S1024x128) (k0_off2 L) S32x128.size (k0_off2_inb L)) (fun _ => rfl)
abbrev xK : Memref sig .scVector .hbm S1000x128 .f32 :=
  (xV).slice (Rect.unit (s := S1000x128) ![0, 0] S1000x128.size inb_S1000x128_S1000x128_0_0) (fun _ => rfl)

omit [FloatOps F] in
theorem iRect_eq : Rect.unit (s := S1024) (k0_off1 L) S32.size (k0_off1_inb L) = iBlk (wL L) := by
  unfold iBlk Rect.part Rect.block
  congr 1 <;> funext a
  · rw [k0_off1_eq]
    match a with
    | 0 => simp [Shape.partIx, Shape.partSize, wid]; change 64 * (L 1).val + 32 * (L 0).val = (2 * (L 1).val + (L 0).val) * 32; omega
  · match a with
    | 0 => simp [Shape.partSize]
omit [FloatOps F] in
theorem oRect_eq : Rect.unit (s := S1024x128) (k0_off2 L) S32x128.size (k0_off2_inb L) = oBlk (wL L) := by
  unfold oBlk Rect.part Rect.block
  congr 1 <;> funext a
  · rw [k0_off2_eq]
    match a with
    | 0 => simp [Shape.partIx, Shape.partSize, wid]; change 64 * (L 1).val + 32 * (L 0).val = (2 * (L 1).val + (L 0).val) * 32; omega
    | 1 => simp [Shape.partIx, Shape.partSize]
  · match a with
    | 0 => simp [Shape.partSize]
    | 1 => simp [Shape.partSize]

omit [FloatOps F] in
theorem set_iK : (iK L).view.set = iSet (wL L) := by
  show ((iV).view.slice (Rect.unit (s := S1024) (k0_off1 L) S32.size (k0_off1_inb L))).set = ((iV).view.slice (iBlk (wL L))).set
  exact iRect_eq L ▸ rfl
omit [FloatOps F] in
theorem set_oK : (oK L).view.set = oSet (wL L) := by
  show ((oV).view.slice (Rect.unit (s := S1024x128) (k0_off2 L) S32x128.size (k0_off2_inb L))).set = ((oV).view.slice (oBlk (wL L))).set
  exact oRect_eq L ▸ rfl

omit [FloatOps F] in
theorem pts_iK (f : Buf (Elt F) (iLoc d)) :
    ((iK L).view.loc (thr d L) ↦[(iK L).view.set]{fullShare} f : sProp 𝕄) = iLoc d ↦[iSet (wL L)]{fullShare} f := by rw [set_iK]
omit [FloatOps F] in
theorem pts_oK (f : Buf (Elt F) (oLoc d)) :
    ((oK L).view.loc (thr d L) ↦[(oK L).view.set]{fullShare} f : sProp 𝕄) = oLoc d ↦[oSet (wL L)]{fullShare} f := by rw [set_oK]
omit [FloatOps F] in
theorem pts_xV (q : PosShare TreeShare) (f : Buf (Elt F) (xLoc d)) :
    ((xK).view.loc (thr d L) ↦{q} f : sProp 𝕄) = xLoc d ↦{q} f := rfl
omit [FloatOps F] in
theorem pts_sV (f : Buf (Elt F) ((thr d L).loc cc0_scratch0)) :
    ((sV).view.loc (thr d L) ↦{fullShare} f : sProp 𝕄) = (thr d L).loc cc0_scratch0 ↦{fullShare} f := rfl
omit [FloatOps F] in
theorem pts_rV (f : Buf (Elt F) ((thr d L).loc cc0_scratch1)) :
    ((rV).view.loc (thr d L) ↦{fullShare} f : sProp 𝕄) = (thr d L).loc cc0_scratch1 ↦{fullShare} f := rfl

/-! ## The tile's own buffers and semaphores -/

abbrev cellG (d : Dev nD) (L : grid0.Coords) : GSem nD τ sig := (thr d L, .dma cc0_scratch2.sem)
abbrev cellA (d : Dev nD) (L : grid0.Coords) : GSem nD τ sig := (thr d L, .dma cc0_scoped0.sem)
abbrev cellB (d : Dev nD) (L : grid0.Coords) : GSem nD τ sig := (thr d L, .dma cc0_scoped1.sem)

omit [FloatOps F] in
/-- The task's three semaphores among the tile's own, at zero. -/
theorem ownSems0_V :
    (ownSems0 (thr d L) : sProp 𝕄)
      = iprop(semVal (cellG d L) 0 ∗ semVal (cellA d L) 0 ∗ semVal (cellB d L) 0
          ∗ bigSep ((((ownCells (thr d L)).erase (cellG d L)).erase (cellA d L)).erase (cellB d L)) fun g => semVal g 0) := by
  unfold SparseCore.Cfg.ownSems0
  rw [SparseCore.bigSep_erase' ((mem_ownCells (g := cellG d L)).mpr ⟨rfl, by
      show (SemLoc.dma cc0_scratch2.sem : SemLoc sig).isScoped .scVector = true; decide⟩),
    SparseCore.bigSep_erase' (Finset.mem_erase.mpr ⟨by simp [cellG, cellA]; decide, (mem_ownCells (g := cellA d L)).mpr ⟨rfl, by
      show (SemLoc.dma cc0_scoped0.sem : SemLoc sig).isScoped .scVector = true; decide⟩⟩),
    SparseCore.bigSep_erase' (Finset.mem_erase.mpr ⟨by simp [cellA, cellB]; decide, Finset.mem_erase.mpr ⟨by simp [cellG, cellB]; decide,
      (mem_ownCells (g := cellB d L)).mpr ⟨rfl, by show (SemLoc.dma cc0_scoped1.sem : SemLoc sig).isScoped .scVector = true; decide⟩⟩⟩)]

omit [FloatOps F] in
/-- The task's two scratch buffers among the tile's own, at some contents. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## What the task computes -/

omit [FloatOps F] in
/-- The indices the task fetched name rows of the table. -/
theorem fetched_lt (hpre : InRange m) (fs : Buf (Elt F) ((thr d L).loc cc0_scratch0)) (pay : S32.Idx → Elt F .i32)
    (hpay : pay = (iK L).view.read (Elt F) (m (iLoc d))) :
    ∀ x, ((sV).view.read (Elt F) (View.write (Elt F) (sV).view fs pay Finset.univ) x).toNat < S1000x128.size gathers_S1000x128_S32x128.axis := by
  subst hpay; intro x
  rw [View.write_whole_univ]
  simp only [Memref.view_whole, View.read_whole]
  rw [show ∀ j, (iK L).view.read (Elt F) (m (iLoc d)) j = m (iLoc d) ((iK L).view.emb j) from fun j => (View.read_apply _ _).trans (cast_eq _ _)]
  exact hpre d _

omit [FloatOps F] in
/-- Reading a slice of the whole indices at `x` is reading the array where the slice puts `x`. -/
theorem read_iK (f : Buf (Elt F) (iLoc d)) (x : S32.Idx) : (iK L).view.read (Elt F) f x = f ((iK L).view.emb x) :=
  (View.read_apply _ _).trans (cast_eq _ _)
omit [FloatOps F] in
theorem read_xK (f : Buf (Elt F) (xLoc d)) (x : S1000x128.Idx) : (xK).view.read (Elt F) f x = f ((xK).view.emb x) :=
  (View.read_apply _ _).trans (cast_eq _ _)

omit [FloatOps F] in
/-- Where the blocks sit in their arrays: row `x` of the tile's block is row `32 * block + x`. -/
theorem emb_iK (x : S32.Idx) : ((iK L).view.emb x 0).val = 64 * (L 1).val + 32 * (L 0).val + (x 0).val := by
  show k0_off1 L 0 + 1 * (x 0).val = _
  rw [k0_off1_eq]; simp
omit [FloatOps F] in
theorem emb_oK0 (x : S32x128.Idx) : ((oK L).view.emb x 0).val = 64 * (L 1).val + 32 * (L 0).val + (x 0).val := by
  show k0_off2 L 0 + 1 * (x 0).val = _
  rw [k0_off2_eq]; simp
omit [FloatOps F] in
theorem emb_oK1 (x : S32x128.Idx) : ((oK L).view.emb x 1).val = (x 1).val := by
  show k0_off2 L 1 + 1 * (x 1).val = _
  rw [k0_off2_eq]; simp
omit [FloatOps F] in
theorem emb_xK (x : S1000x128.Idx) : (xK).view.emb x = x := by
  funext a; apply Fin.ext
  match a with
  | ⟨0, _⟩ => show 0 + 1 * (x 0).val = _; simp
  | ⟨1, _⟩ => show 0 + 1 * (x 1).val = _; simp

omit [FloatOps F] in
/-- The gather reads entry `z` of its result at the row named for `z`'s row, in `z`'s column. -/
theorem gather_idx (r : Fin 32 → Fin 1000) (z : S32x128.Idx) :
    (gathers_S1000x128_S32x128).idx r z = (ix2 (r (z 0)) (z 1) : S1000x128.Idx) := by
  funext a
  match a with
  | ⟨0, _⟩ => exact Shape.Gathers.idx_axis gathers_S1000x128_S32x128 r z
  | ⟨1, _⟩ => exact Fin.ext (Shape.Gathers.idx_of_ne gathers_S1000x128_S32x128 r z 1 (by decide))

omit [FloatOps F] in
/-- Position `k` of a list of 32 is its index `k`. -/
theorem unflat32 (k : Fin 32) : S32.rowMajor.symm k = ix1 k := by
  funext a
  match a with
  | ⟨0, _⟩ => exact Fin.ext ((by decide : ∀ k : Fin 32, (S32.rowMajor.symm k 0).val = k.val) k)

omit [FloatOps F] in
/-- The fetched indices read back: word `k` is the word of the tile's block at `k`. -/
theorem read_fetched (fs : Buf (Elt F) ((thr d L).loc cc0_scratch0)) (k : Fin 32) :
    (sV).view.read (Elt F) (View.write (Elt F) (sV).view fs ((iK L).view.read (Elt F) (m (iLoc d))) Finset.univ) (S32.rowMajor.symm k)
      = m (iLoc d) ((iK L).view.emb (ix1 k)) := by
  rw [View.write_whole_univ]
  simp only [Memref.view_whole, View.read_whole]
  rw [unflat32]
  exact read_iK d L _ _

omit [FloatOps F] in
/-- The gathered block read back: row `r k` of the table at row `k`. -/
theorem read_gathered (fr : Buf (Elt F) ((thr d L).loc cc0_scratch1)) (r : Fin 32 → Fin 1000) (z : S32x128.Idx) :
    (rV).view.read (Elt F) ((rV).view.write (Elt F) fr (SparseCore.gatherPayload gathers_S1000x128_S32x128
      ((xK).view.read (Elt F) (m (xLoc d))) r) Finset.univ) z = m (xLoc d) (ix2 (r (z 0)) (z 1)) := by
  rw [View.write_whole_univ]
  simp only [Memref.view_whole, View.read_whole]
  unfold SparseCore.gatherPayload
  rw [read_xK, emb_xK, gather_idx]

/-- Where the whole gather reads its entry `j`. -/
def embPos (d : Dev nD) (j : S1024x128.Idx) : S1000x128.Idx :=
  ix2 ⟨(m (iLoc d) (ix1 (j 0))).toNat % 1000, Nat.mod_lt _ (by decide)⟩ (j 1)

omit [FloatOps F] in
/-- What the task leaves in its block of the output is what the whole gather has there. -/
theorem written_eq (hpre : InRange m) (fs : Buf (Elt F) ((thr d L).loc cc0_scratch0)) (fr : Buf (Elt F) ((thr d L).loc cc0_scratch1))
    (pay : S32.Idx → Elt F .i32) (hpay : pay = (iK L).view.read (Elt F) (m (iLoc d)))
    (hin : ∀ x, ((sV).view.read (Elt F) (View.write (Elt F) (sV).view fs pay Finset.univ) x).toNat < S1000x128.size gathers_S1000x128_S32x128.axis)
    (out : S32x128.Idx → Elt F .f32)
    (hout : out = (rV).view.read (Elt F) ((rV).view.write (Elt F) fr (SparseCore.gatherPayload gathers_S1000x128_S32x128
      ((xK).view.read (Elt F) (m (xLoc d)))
      (SparseCore.rows ((sV).view.read (Elt F) (View.write (Elt F) (sV).view fs pay Finset.univ)) rfl hin)) Finset.univ)) :
    ∀ i ∈ (oK L).view.set, (oK L).view.writes (Elt F) (m (oLoc d)) [⟨Rect.whole S32x128, out⟩] i = embOf m d i := by
  subst hpay
  intro i hi
  obtain ⟨z, _, rfl⟩ := Finset.mem_map.mp hi
  have h1 : (oK L).view.read (Elt F) ((oK L).view.writes (Elt F) (m (oLoc d)) [⟨Rect.whole S32x128, out⟩]) z = out z := by
    have := View.read_writes_cons_emb (v := (oK L).view) (Val := Elt F) (m (oLoc d)) (Rect.whole S32x128) out [] z
    rw [show (Rect.whole S32x128).emb z = z from Rect.emb_whole_apply _ _] at this
    exact this
  have h2 : (oK L).view.read (Elt F) ((oK L).view.writes (Elt F) (m (oLoc d)) [⟨Rect.whole S32x128, out⟩]) z
      = (oK L).view.writes (Elt F) (m (oLoc d)) [⟨Rect.whole S32x128, out⟩] ((oK L).view.emb z) :=
    (View.read_apply _ _).trans (cast_eq _ _)
  refine (h2.symm.trans h1).trans ?_
  rw [hout]
  refine (read_gathered m d L fr _ z).trans ?_
  show m (xLoc d) _ = m (xLoc d) (embPos m d ((oK L).view.emb z))
  congr 1
  unfold embPos
  have he : (iK L).view.emb (ix1 (z 0)) = ix1 ((oK L).view.emb z 0) := by
    funext a
    match a with
    | ⟨0, _⟩ => exact Fin.ext ((emb_iK L _).trans (emb_oK0 L z).symm)
  congr 1
  · apply Fin.ext
    refine (congrArg BitVec.toNat ((read_fetched m d L fs (z 0)).trans (congrArg (m (iLoc d)) he))).trans ?_
    exact (Nat.mod_eq_of_lt (hpre d _)).symm
  · exact Fin.ext (emb_oK1 L z).symm

set_option maxHeartbeats 4000000 in
/-- The task at tile `L`: the fetch of the indices, the gather and the write-out, each with its wait; the output's block ends
    holding the table's rows its indices name. -/
theorem tile_body (hF : (K (F := F)).Facts) (hpre : InRange m) (O : CellTallies nD τ sig (HIx 1)) (W : Waits sig (HIx 1)) (hO : ∀ g, O g none = 0) :
    iprop(levAts (K (F := F)).L (K (F := F)).lev ∗ emp ∗ part m d (wL L) (m (oLoc d))
        ∗ scopedBufs (thr d L) ∗ scopedSems0 (thr d L) ∗ owes (thr d L) O W)
      ⊢ wp frame (wpE (defs₀ (F := F)) 𝒱₀ (thr d L) none) Set.univ
          (cc0_emb_gather L iV (Memref.isWhole_whole _) xV (Memref.isWhole_whole _) oV (Memref.isWhole_whole _)
            sV (Memref.isWhole_whole _) rV (Memref.isWhole_whole _) cc0_scratch2 cc0_scoped0 cc0_scoped1)
          fun _ => iprop(part m d (wL L) (embOf m d)
            ∗ scopedBufs (thr d L) ∗ scopedSems0 (thr d L)
            ∗ ∃ W', ⌜∀ p ∈ W', p ∈ W ∨ p.2 = none⌝ ∗ owes (thr d L) O W') := by
  simp only [cc0_emb_gather_eq_skeleton]; unfold cc0_emb_gather_skel part
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iK (F := F) d L _).symm) $$ Hi
  ihave Ho' := (Entails.of_eq (pts_oK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  have hN : ∀ h : S1000x128.Gathers 0 S32x128, ∑ j, ((rV).slice (S32x128.rowRect h.axis' j) (S32x128.stride_rowRect h.axis' j)).view.dmaCredit
      = (rV).view.dmaCredit := by decide
  iapply (SparseCore.wp_gatherFromWhole countersEmb 𝒱₀ (thr d L) none (hg := gathers_S1000x128_S32x128) (default : HIx 1)
      (rV).view.dmaCredit (hN _) (by decide) (fetched_lt m d L hpre fs _ rfl)) $$ [Hx' Hr' Hs' HsemG]
  · isplitl [Hx']; · iexact Hx'
    isplitl [Hr']; · iexact Hr'
    isplitl [Hs']; · iexact Hs'
    iexact HsemG
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hx', Hs'⟩, HsemG, HO⟩
  sl_exec
  sl_step
  isplitl [Hi' Hx' Ho']
  · isplitl [Hi']; · iapply (Entails.of_eq (pts_iK (F := F) d L _)); iexact Hi'
    isplitl [Hx']; · iexact Hx'
    iapply (Entails.of_eq (pts_oK (F := F) d L _))
    iapply (Entails.of_eq (pointsTo_congr (written_eq m d L hpre fs fr _ rfl (fetched_lt m d L hpre fs _ rfl) _ rfl)))
    iexact Ho'
  isplitl [Hs' Hr' Hbufs]
  · isplitl [Hs']; · iexists _; iexact Hs'
    isplitl [Hr']; · iexists _; iexact Hr'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.KernelIdeal

end
-- ==== Proof.KernelIdeal.Body.lean ====
/-
  The TensorCore region: what the fused body leaves in its output window, the body's triple, the region's proof data and
  the segment of a run that it makes.
-/
module

public import proofs.«01_k».proof.Proof.KernelIdeal.Setup
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.FrameBody
public import Idealize.ShloMosaic.Lib.Pipeline.Frame
public import Idealize.ShloMosaic.Lib.Claim

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## What the body computes -/

variable (F) in
/-- What the fused body finds in its nineteen input windows. -/
@[ext] structure Ins where
  /-- the gathered rows -/
  x : Vec F S1024x128 .f32
  /-- level 0: first weights, side by side -/
  wa : Vec F S128x128 .bf16
  /-- their biases -/
  ba : Vec F S1x128 .f32
  /-- the routing weights -/
  ra : Vec F S128x4 .bf16
  /-- their biases -/
  ca : Vec F S1x4 .f32
  /-- level 1, likewise -/
  wb : Vec F S128x512 .bf16
  bb : Vec F S1x512 .f32
  rb : Vec F S512x4 .bf16
  cb : Vec F S4x4 .f32
  /-- level 2, likewise -/
  wc : Vec F S128x2048 .bf16
  bc : Vec F S1x2048 .f32
  rc : Vec F S2048x4 .bf16
  cc : Vec F S16x4 .f32
  /-- level 3: first weights -/
  wd : Vec F S128x8192 .bf16
  /-- their biases -/
  bd : Vec F S1x8192 .f32
  /-- second weights, stacked -/
  we : Vec F S8192x128 .bf16
  /-- their biases -/
  be : Vec F S64x128 .f32
  /-- the output layer's weights -/
  wo : Vec F S128x1000 .bf16
  /-- its biases -/
  bo : Vec F S1x1000 .f32

/-- The gathered rows as the products take them. -/
def aX (i : Ins F) := k1_pay2 (F := F) (View.ld i.x (Rect.unit (s := S1024x128) ![0, 0] S1024x128.size inb_S1024x128_S1024x128_0_0))
/-- The agent that each row is at on level 1, counted from 0 over all agents. -/
def aCur1 (i : Ins F) := k1_pay3 (F := F) (View.ld i.x (Rect.unit (s := S1024x128) ![0, 0] S1024x128.size inb_S1024x128_S1024x128_0_0)) (View.ld i.wa (Rect.unit (s := S128x128) ![0, 0] S128x128.size inb_S128x128_S128x128_0_0)) (View.ld i.ba (Rect.unit (s := S1x128) ![0, 0] S1x128.size inb_S1x128_S1x128_0_0)) (View.ld i.ra (Rect.unit (s := S128x4) ![0, 0] S128x4.size inb_S128x4_S128x4_0_0)) (View.ld i.ca (Rect.unit (s := S1x4) ![0, 0] S1x4.size inb_S1x4_S1x4_0_0))
/-- Level 1's first weights. -/
def aWb (i : Ins F) := k1_pay4 (F := F) (View.ld i.wb (Rect.unit (s := S128x512) ![0, 0] S128x512.size inb_S128x512_S128x512_0_0))
/-- Level 1's routing scores. -/
def aRoute1 (i : Ins F) := k1_pay5 (F := F) (aX i) (aCur1 i) (aWb i) (View.ld i.bb (Rect.unit (s := S1x512) ![0, 0] S1x512.size inb_S1x512_S1x512_0_0)) (View.ld i.rb (Rect.unit (s := S512x4) ![0, 0] S512x4.size inb_S512x4_S512x4_0_0)) (View.ld i.cb (Rect.unit (s := S4x4) ![0, 0] S4x4.size inb_S4x4_S4x4_0_0))
/-- Four times the agent, less what the comparison adds. -/
def aBase1 (i : Ins F) := k1_pay6 (aCur1 i)
/-- The comparison of the four scores, part by part. -/
def aBest1 (i : Ins F) := k1_pay7 (F := F) (aX i) (aCur1 i) (aWb i) (View.ld i.bb (Rect.unit (s := S1x512) ![0, 0] S1x512.size inb_S1x512_S1x512_0_0)) (View.ld i.rb (Rect.unit (s := S512x4) ![0, 0] S512x4.size inb_S512x4_S512x4_0_0)) (View.ld i.cb (Rect.unit (s := S4x4) ![0, 0] S4x4.size inb_S4x4_S4x4_0_0))
/-- Its second score. -/
def aBest1b (i : Ins F) := k1_pay8 (F := F) (aX i) (aCur1 i) (aWb i) (View.ld i.bb (Rect.unit (s := S1x512) ![0, 0] S1x512.size inb_S1x512_S1x512_0_0)) (View.ld i.rb (Rect.unit (s := S512x4) ![0, 0] S512x4.size inb_S512x4_S512x4_0_0)) (View.ld i.cb (Rect.unit (s := S4x4) ![0, 0] S4x4.size inb_S4x4_S4x4_0_0))
/-- Its first test. -/
def aBest1c (i : Ins F) := k1_pay9 (F := F) (aX i) (aCur1 i) (aWb i) (View.ld i.bb (Rect.unit (s := S1x512) ![0, 0] S1x512.size inb_S1x512_S1x512_0_0)) (View.ld i.rb (Rect.unit (s := S512x4) ![0, 0] S512x4.size inb_S512x4_S512x4_0_0)) (View.ld i.cb (Rect.unit (s := S4x4) ![0, 0] S4x4.size inb_S4x4_S4x4_0_0))
/-- Its first choice. -/
def aBest1d (i : Ins F) := k1_pay10 (F := F) (aX i) (aCur1 i) (aWb i) (View.ld i.bb (Rect.unit (s := S1x512) ![0, 0] S1x512.size inb_S1x512_S1x512_0_0)) (View.ld i.rb (Rect.unit (s := S512x4) ![0, 0] S512x4.size inb_S512x4_S512x4_0_0)) (View.ld i.cb (Rect.unit (s := S4x4) ![0, 0] S4x4.size inb_S4x4_S4x4_0_0))
/-- The agent that each row is at on level 2. -/
def aCur2 (i : Ins F) := k1_pay11 (F := F) (aRoute1 i) (aBase1 i) (aBest1 i) (aBest1b i) (aBest1c i) (aBest1d i)
/-- Level 2's one-hot rows. -/
def aHot2 (i : Ins F) := k1_pay12 (F := F) (aRoute1 i) (aBase1 i) (aBest1 i) (aBest1b i) (aBest1c i) (aBest1d i)
/-- Level 2's routing product. -/
def aDot2 (i : Ins F) := k1_pay13 (F := F) (aX i) (aRoute1 i) (aBase1 i) (aBest1 i) (aBest1b i) (aBest1c i) (aBest1d i) (View.ld i.wc (Rect.unit (s := S128x2048) ![0, 0] S128x2048.size inb_S128x2048_S128x2048_0_0)) (View.ld i.bc (Rect.unit (s := S1x2048) ![0, 0] S1x2048.size inb_S1x2048_S1x2048_0_0)) (View.ld i.rc (Rect.unit (s := S2048x4) ![0, 0] S2048x4.size inb_S2048x4_S2048x4_0_0))
/-- Level 2's routing biases. -/
def aCc (i : Ins F) := k1_pay14 (F := F) (View.ld i.cc (Rect.unit (s := S16x4) ![0, 0] S16x4.size inb_S16x4_S16x4_0_0))
/-- The agent that each row is at on level 3. -/
def aCur3 (i : Ins F) := k1_pay15 (F := F) (aCur2 i) (aHot2 i) (aDot2 i) (aCc i)
/-- The second layer's biases on level 3, where its sum starts. -/
def aAcc0 (i : Ins F) := k1_pay16 (F := F) (aCur2 i) (aHot2 i) (aDot2 i) (aCc i) (View.ld i.be (Rect.unit (s := S64x128) ![0, 0] S64x128.size inb_S64x128_S64x128_0_0))
/-- The first sixteen agents' hidden rows on level 3, before the mask. -/
def aHid0 (i : Ins F) := k1_pay17 (F := F) (aX i) (View.ld i.wd (Rect.unit (s := S128x8192) ![0, 0] S128x2048.size inb_S128x8192_S128x2048_0_0)) (View.ld i.bd (Rect.unit (s := S1x8192) ![0, 0] S1x2048.size inb_S1x8192_S1x2048_0_0))
/-- The second layer after thirty-two agents. -/
def aAcc2 (i : Ins F) := k1_pay18 (F := F) (aX i) (aCur3 i) (aAcc0 i) (aHid0 i) (View.ld i.we (Rect.unit (s := S8192x128) ![0, 0] S2048x128.size inb_S8192x128_S2048x128_0_0)) (View.ld i.wd (Rect.unit (s := S128x8192) ![0, 2048] S128x2048.size inb_S128x8192_S128x2048_0_2048)) (View.ld i.bd (Rect.unit (s := S1x8192) ![0, 2048] S1x2048.size inb_S1x8192_S1x2048_0_2048)) (View.ld i.we (Rect.unit (s := S8192x128) ![2048, 0] S2048x128.size inb_S8192x128_S2048x128_2048_0))
/-- The third part of the first weights. -/
def aWd2 (i : Ins F) := k1_pay19 (F := F) (View.ld i.wd (Rect.unit (s := S128x8192) ![0, 4096] S128x2048.size inb_S128x8192_S128x2048_0_4096))
/-- The second layer after forty-eight agents. -/
def aAcc3 (i : Ins F) := k1_pay20 (F := F) (aX i) (aCur3 i) (aAcc2 i) (aWd2 i) (View.ld i.bd (Rect.unit (s := S1x8192) ![0, 4096] S1x2048.size inb_S1x8192_S1x2048_0_4096)) (View.ld i.we (Rect.unit (s := S8192x128) ![4096, 0] S2048x128.size inb_S8192x128_S2048x128_4096_0))
/-- The last sixteen agents' hidden rows, masked. -/
def aHid3 (i : Ins F) := k1_pay21 (F := F) (aX i) (aCur3 i) (View.ld i.wd (Rect.unit (s := S128x8192) ![0, 6144] S128x2048.size inb_S128x8192_S128x2048_0_6144)) (View.ld i.bd (Rect.unit (s := S1x8192) ![0, 6144] S1x2048.size inb_S1x8192_S1x2048_0_6144))
/-- What the body stores. -/
def aOut (i : Ins F) := k1_pay1 (F := F) (aAcc3 i) (aHid3 i) (View.ld i.we (Rect.unit (s := S8192x128) ![6144, 0] S2048x128.size inb_S8192x128_S2048x128_6144_0)) (View.ld i.wo (Rect.unit (s := S128x1000) ![0, 0] S128x1000.size inb_S128x1000_S128x1000_0_0)) (View.ld i.bo (Rect.unit (s := S1x1000) ![0, 0] S1x1000.size inb_S1x1000_S1x1000_0_0))

/-- The rectangle that the body stores to: all of the output. -/
abbrev rOut : Rect S1024x1000 := Rect.unit (s := S1024x1000) ![0, 0] S1024x1000.size inb_S1024x1000_S1024x1000_0_0

/-- The output window's buffer after the body. -/
def tcOut (i : Ins F) : Vec F S1024x1000 .f32 := View.canon [⟨rOut, aOut i⟩]

/-- The store covers the output window. -/
theorem rOut_cover (p : Vec F S1024x1000 .f32) (y : S1024x1000.Idx) :
    ∃ pc ∈ ([⟨rOut, p⟩] : List (View.Piece (Elt F) S1024x1000 .f32)), y ∈ pc.1.set :=
  View.cover_of_tiled [⟨rOut, p⟩] S1024x1000.size (by rfl) y

/-! ## The body's triple -/

variable (c : Dev nD) (E : Set ℕ)
variable (a0 : Memref sig .tc .vmem S1024x128 .f32) (h0 : a0.IsWhole)
variable (a1 : Memref sig .tc .vmem S128x128 .bf16) (h1 : a1.IsWhole)
variable (a2 : Memref sig .tc .vmem S1x128 .f32) (h2 : a2.IsWhole)
variable (a3 : Memref sig .tc .vmem S128x4 .bf16) (h3 : a3.IsWhole)
variable (a4 : Memref sig .tc .vmem S1x4 .f32) (h4 : a4.IsWhole)
variable (a5 : Memref sig .tc .vmem S128x512 .bf16) (h5 : a5.IsWhole)
variable (a6 : Memref sig .tc .vmem S1x512 .f32) (h6 : a6.IsWhole)
variable (a7 : Memref sig .tc .vmem S512x4 .bf16) (h7 : a7.IsWhole)
variable (a8 : Memref sig .tc .vmem S4x4 .f32) (h8 : a8.IsWhole)
variable (a9 : Memref sig .tc .vmem S128x2048 .bf16) (h9 : a9.IsWhole)
variable (a10 : Memref sig .tc .vmem S1x2048 .f32) (h10 : a10.IsWhole)
variable (a11 : Memref sig .tc .vmem S2048x4 .bf16) (h11 : a11.IsWhole)
variable (a12 : Memref sig .tc .vmem S16x4 .f32) (h12 : a12.IsWhole)
variable (a13 : Memref sig .tc .vmem S128x8192 .bf16) (h13 : a13.IsWhole)
variable (a14 : Memref sig .tc .vmem S1x8192 .f32) (h14 : a14.IsWhole)
variable (a15 : Memref sig .tc .vmem S8192x128 .bf16) (h15 : a15.IsWhole)
variable (a16 : Memref sig .tc .vmem S64x128 .f32) (h16 : a16.IsWhole)
variable (a17 : Memref sig .tc .vmem S128x1000 .bf16) (h17 : a17.IsWhole)
variable (a18 : Memref sig .tc .vmem S1x1000 .f32) (h18 : a18.IsWhole)
variable (a19 : Memref sig .tc .vmem S1024x1000 .f32) (h19 : a19.IsWhole)
variable (i : Ins F)

/-- The first part: level 0. -/
theorem part1_wp (Q : _ → sProp 𝕄) :
    iprop(owns (c : Thread nD τ) a0 fullShare i.x ∗ owns (c : Thread nD τ) a1 fullShare i.wa ∗ owns (c : Thread nD τ) a2 fullShare i.ba ∗ owns (c : Thread nD τ) a3 fullShare i.ra ∗ owns (c : Thread nD τ) a4 fullShare i.ca ∗ owns (c : Thread nD τ) a5 fullShare i.wb ∗ (∀ r, iprop(⌜r = ⟨aX i, aCur1 i, aWb i⟩⌝ ∗ owns (c : Thread nD τ) a0 fullShare i.x ∗ owns (c : Thread nD τ) a1 fullShare i.wa ∗ owns (c : Thread nD τ) a2 fullShare i.ba ∗ owns (c : Thread nD τ) a3 fullShare i.ra ∗ owns (c : Thread nD τ) a4 fullShare i.ca ∗ owns (c : Thread nD τ) a5 fullShare i.wb) -∗ Q r))
      ⊢ wp frame (wpE (defs₀ (F := F)) 𝒱₀ c none) E (k1_part1 a0 h0 a1 h1 a2 h2 a3 h3 a4 h4 a5 h5 a6 h6 a7 h7 a8 h8 a9 h9 a10 h10 a11 h11 a12 h12 a13 h13 a14 h14 a15 h15 a16 h16 a17 h17 a18 h18 a19 h19 ) Q := by
  rw [k1_part1_eq_skeleton]; unfold k1_part1_skel owns
  cases i; dsimp only
  iintro ⟨⟨%f0, %g0, H0⟩, ⟨%f1, %g1, H1⟩, ⟨%f2, %g2, H2⟩, ⟨%f3, %g3, H3⟩, ⟨%f4, %g4, H4⟩, ⟨%f5, %g5, H5⟩, Hk⟩
  subst g0 g1 g2 g3 g4 g5
  sl_exec
  sl_step
  iapply Hk
  isplitr; (· ipureintro; rfl)
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  iexists f5; isplitr; (· ipureintro; rfl); iexact H5

/-- The second part: level 1's scores. -/
theorem part2_wp (Q : _ → sProp 𝕄) :
    iprop(owns (c : Thread nD τ) a6 fullShare i.bb ∗ owns (c : Thread nD τ) a7 fullShare i.rb ∗ owns (c : Thread nD τ) a8 fullShare i.cb ∗ (∀ r, iprop(⌜r = ⟨aRoute1 i, aBase1 i, aBest1 i, aBest1b i, aBest1c i, aBest1d i⟩⌝ ∗ owns (c : Thread nD τ) a6 fullShare i.bb ∗ owns (c : Thread nD τ) a7 fullShare i.rb ∗ owns (c : Thread nD τ) a8 fullShare i.cb) -∗ Q r))
      ⊢ wp frame (wpE (defs₀ (F := F)) 𝒱₀ c none) E (k1_part2 a0 h0 a1 h1 a2 h2 a3 h3 a4 h4 a5 h5 a6 h6 a7 h7 a8 h8 a9 h9 a10 h10 a11 h11 a12 h12 a13 h13 a14 h14 a15 h15 a16 h16 a17 h17 a18 h18 a19 h19 (aX i) (aCur1 i) (aWb i)) Q := by
  rw [k1_part2_eq_skeleton]; unfold k1_part2_skel owns
  cases i; dsimp only
  iintro ⟨⟨%f6, %g6, H6⟩, ⟨%f7, %g7, H7⟩, ⟨%f8, %g8, H8⟩, Hk⟩
  subst g6 g7 g8
  sl_exec
  sl_step
  iapply Hk
  isplitr; (· ipureintro; rfl)
  isplitl [H6]; · iexists f6; isplitr; (· ipureintro; rfl); iexact H6
  isplitl [H7]; · iexists f7; isplitr; (· ipureintro; rfl); iexact H7
  iexists f8; isplitr; (· ipureintro; rfl); iexact H8

/-- The third part: level 2's product. -/
theorem part3_wp (Q : _ → sProp 𝕄) :
    iprop(owns (c : Thread nD τ) a9 fullShare i.wc ∗ owns (c : Thread nD τ) a10 fullShare i.bc ∗ owns (c : Thread nD τ) a11 fullShare i.rc ∗ owns (c : Thread nD τ) a12 fullShare i.cc ∗ (∀ r, iprop(⌜r = ⟨aCur2 i, aHot2 i, aDot2 i, aCc i⟩⌝ ∗ owns (c : Thread nD τ) a9 fullShare i.wc ∗ owns (c : Thread nD τ) a10 fullShare i.bc ∗ owns (c : Thread nD τ) a11 fullShare i.rc ∗ owns (c : Thread nD τ) a12 fullShare i.cc) -∗ Q r))
      ⊢ wp frame (wpE (defs₀ (F := F)) 𝒱₀ c none) E (k1_part3 a0 h0 a1 h1 a2 h2 a3 h3 a4 h4 a5 h5 a6 h6 a7 h7 a8 h8 a9 h9 a10 h10 a11 h11 a12 h12 a13 h13 a14 h14 a15 h15 a16 h16 a17 h17 a18 h18 a19 h19 (aX i) (aRoute1 i) (aBase1 i) (aBest1 i) (aBest1b i) (aBest1c i) (aBest1d i)) Q := by
  rw [k1_part3_eq_skeleton]; unfold k1_part3_skel owns
  cases i; dsimp only
  iintro ⟨⟨%f9, %g9, H9⟩, ⟨%f10, %g10, H10⟩, ⟨%f11, %g11, H11⟩, ⟨%f12, %g12, H12⟩, Hk⟩
  subst g9 g10 g11 g12
  sl_exec
  sl_step
  iapply Hk
  isplitr; (· ipureintro; rfl)
  isplitl [H9]; · iexists f9; isplitr; (· ipureintro; rfl); iexact H9
  isplitl [H10]; · iexists f10; isplitr; (· ipureintro; rfl); iexact H10
  isplitl [H11]; · iexists f11; isplitr; (· ipureintro; rfl); iexact H11
  iexists f12; isplitr; (· ipureintro; rfl); iexact H12

/-- The fourth part: level 3's agent and its first sixteen hidden rows. -/
theorem part4_wp (Q : _ → sProp 𝕄) :
    iprop(owns (c : Thread nD τ) a16 fullShare i.be ∗ owns (c : Thread nD τ) a13 fullShare i.wd ∗ owns (c : Thread nD τ) a14 fullShare i.bd ∗ (∀ r, iprop(⌜r = ⟨aCur3 i, aAcc0 i, aHid0 i⟩⌝ ∗ owns (c : Thread nD τ) a16 fullShare i.be ∗ owns (c : Thread nD τ) a13 fullShare i.wd ∗ owns (c : Thread nD τ) a14 fullShare i.bd) -∗ Q r))
      ⊢ wp frame (wpE (defs₀ (F := F)) 𝒱₀ c none) E (k1_part4 a0 h0 a1 h1 a2 h2 a3 h3 a4 h4 a5 h5 a6 h6 a7 h7 a8 h8 a9 h9 a10 h10 a11 h11 a12 h12 a13 h13 a14 h14 a15 h15 a16 h16 a17 h17 a18 h18 a19 h19 (aX i) (aCur2 i) (aHot2 i) (aDot2 i) (aCc i)) Q := by
  rw [k1_part4_eq_skeleton]; unfold k1_part4_skel owns
  cases i; dsimp only
  iintro ⟨⟨%f16, %g16, H16⟩, ⟨%f13, %g13, H13⟩, ⟨%f14, %g14, H14⟩, Hk⟩
  subst g16 g13 g14
  sl_exec
  sl_step
  iapply Hk
  isplitr; (· ipureintro; rfl)
  isplitl [H16]; · iexists f16; isplitr; (· ipureintro; rfl); iexact H16
  isplitl [H13]; · iexists f13; isplitr; (· ipureintro; rfl); iexact H13
  iexists f14; isplitr; (· ipureintro; rfl); iexact H14

/-- The fifth part: thirty-two agents summed. -/
theorem part5_wp (Q : _ → sProp 𝕄) :
    iprop(owns (c : Thread nD τ) a15 fullShare i.we ∗ owns (c : Thread nD τ) a13 fullShare i.wd ∗ owns (c : Thread nD τ) a14 fullShare i.bd ∗ (∀ r, iprop(⌜r = ⟨aAcc2 i, aWd2 i⟩⌝ ∗ owns (c : Thread nD τ) a15 fullShare i.we ∗ owns (c : Thread nD τ) a13 fullShare i.wd ∗ owns (c : Thread nD τ) a14 fullShare i.bd) -∗ Q r))
      ⊢ wp frame (wpE (defs₀ (F := F)) 𝒱₀ c none) E (k1_part5 a0 h0 a1 h1 a2 h2 a3 h3 a4 h4 a5 h5 a6 h6 a7 h7 a8 h8 a9 h9 a10 h10 a11 h11 a12 h12 a13 h13 a14 h14 a15 h15 a16 h16 a17 h17 a18 h18 a19 h19 (aX i) (aCur3 i) (aAcc0 i) (aHid0 i)) Q := by
  rw [k1_part5_eq_skeleton]; unfold k1_part5_skel owns
  cases i; dsimp only
  iintro ⟨⟨%f15, %g15, H15⟩, ⟨%f13, %g13, H13⟩, ⟨%f14, %g14, H14⟩, Hk⟩
  subst g15 g13 g14
  sl_exec
  sl_step
  iapply Hk
  isplitr; (· ipureintro; rfl)
  isplitl [H15]; · iexists f15; isplitr; (· ipureintro; rfl); iexact H15
  isplitl [H13]; · iexists f13; isplitr; (· ipureintro; rfl); iexact H13
  iexists f14; isplitr; (· ipureintro; rfl); iexact H14

/-- The sixth part: forty-eight agents summed. -/
theorem part6_wp (Q : _ → sProp 𝕄) :
    iprop(owns (c : Thread nD τ) a14 fullShare i.bd ∗ owns (c : Thread nD τ) a15 fullShare i.we ∗ owns (c : Thread nD τ) a13 fullShare i.wd ∗ (∀ r, iprop(⌜r = ⟨aAcc3 i, aHid3 i⟩⌝ ∗ owns (c : Thread nD τ) a14 fullShare i.bd ∗ owns (c : Thread nD τ) a15 fullShare i.we ∗ owns (c : Thread nD τ) a13 fullShare i.wd) -∗ Q r))
      ⊢ wp frame (wpE (defs₀ (F := F)) 𝒱₀ c none) E (k1_part6 a0 h0 a1 h1 a2 h2 a3 h3 a4 h4 a5 h5 a6 h6 a7 h7 a8 h8 a9 h9 a10 h10 a11 h11 a12 h12 a13 h13 a14 h14 a15 h15 a16 h16 a17 h17 a18 h18 a19 h19 (aX i) (aCur3 i) (aAcc2 i) (aWd2 i)) Q := by
  rw [k1_part6_eq_skeleton]; unfold k1_part6_skel owns
  cases i; dsimp only
  iintro ⟨⟨%f14, %g14, H14⟩, ⟨%f15, %g15, H15⟩, ⟨%f13, %g13, H13⟩, Hk⟩
  subst g14 g15 g13
  sl_exec
  sl_step
  iapply Hk
  isplitr; (· ipureintro; rfl)
  isplitl [H14]; · iexists f14; isplitr; (· ipureintro; rfl); iexact H14
  isplitl [H15]; · iexists f15; isplitr; (· ipureintro; rfl); iexact H15
  iexists f13; isplitr; (· ipureintro; rfl); iexact H13

/-- On whole windows that hold `i`, the body runs to its end, leaves them as they were and leaves `tcOut i` in the output window. -/
theorem sound_kernel (Q : PUnit → sProp 𝕄) :
    iprop(owns (c : Thread nD τ) a0 fullShare i.x ∗ owns (c : Thread nD τ) a1 fullShare i.wa ∗ owns (c : Thread nD τ) a2 fullShare i.ba ∗ owns (c : Thread nD τ) a3 fullShare i.ra ∗ owns (c : Thread nD τ) a4 fullShare i.ca ∗ owns (c : Thread nD τ) a5 fullShare i.wb ∗ owns (c : Thread nD τ) a6 fullShare i.bb ∗ owns (c : Thread nD τ) a7 fullShare i.rb ∗ owns (c : Thread nD τ) a8 fullShare i.cb ∗ owns (c : Thread nD τ) a9 fullShare i.wc ∗ owns (c : Thread nD τ) a10 fullShare i.bc ∗ owns (c : Thread nD τ) a11 fullShare i.rc ∗ owns (c : Thread nD τ) a12 fullShare i.cc ∗ owns (c : Thread nD τ) a13 fullShare i.wd ∗ owns (c : Thread nD τ) a14 fullShare i.bd ∗ owns (c : Thread nD τ) a15 fullShare i.we ∗ owns (c : Thread nD τ) a16 fullShare i.be ∗ owns (c : Thread nD τ) a17 fullShare i.wo ∗ owns (c : Thread nD τ) a18 fullShare i.bo ∗ (∃ d, owns (c : Thread nD τ) a19 fullShare d)
        ∗ (iprop(owns (c : Thread nD τ) a0 fullShare i.x ∗ owns (c : Thread nD τ) a1 fullShare i.wa ∗ owns (c : Thread nD τ) a2 fullShare i.ba ∗ owns (c : Thread nD τ) a3 fullShare i.ra ∗ owns (c : Thread nD τ) a4 fullShare i.ca ∗ owns (c : Thread nD τ) a5 fullShare i.wb ∗ owns (c : Thread nD τ) a6 fullShare i.bb ∗ owns (c : Thread nD τ) a7 fullShare i.rb ∗ owns (c : Thread nD τ) a8 fullShare i.cb ∗ owns (c : Thread nD τ) a9 fullShare i.wc ∗ owns (c : Thread nD τ) a10 fullShare i.bc ∗ owns (c : Thread nD τ) a11 fullShare i.rc ∗ owns (c : Thread nD τ) a12 fullShare i.cc ∗ owns (c : Thread nD τ) a13 fullShare i.wd ∗ owns (c : Thread nD τ) a14 fullShare i.bd ∗ owns (c : Thread nD τ) a15 fullShare i.we ∗ owns (c : Thread nD τ) a16 fullShare i.be ∗ owns (c : Thread nD τ) a17 fullShare i.wo ∗ owns (c : Thread nD τ) a18 fullShare i.bo ∗ owns (c : Thread nD τ) a19 fullShare (tcOut i)) -∗ Q ⟨⟩))
      ⊢ wp frame (wpE (defs₀ (F := F)) 𝒱₀ c none) E (cc1__fused_body a0 h0 a1 h1 a2 h2 a3 h3 a4 h4 a5 h5 a6 h6 a7 h7 a8 h8 a9 h9 a10 h10 a11 h11 a12 h12 a13 h13 a14 h14 a15 h15 a16 h16 a17 h17 a18 h18 a19 h19) Q := by
  rw [cc1__fused_body_eq_skeleton]; unfold cc1__fused_body_skel
  iintro ⟨H0, H1, H2, H3, H4, H5, H6, H7, H8, H9, H10, H11, H12, H13, H14, H15, H16, H17, H18, H19, Hk⟩
  rw [wp_bind]
  iapply (part1_wp c E a0 h0 a1 h1 a2 h2 a3 h3 a4 h4 a5 h5 a6 h6 a7 h7 a8 h8 a9 h9 a10 h10 a11 h11 a12 h12 a13 h13 a14 h14 a15 h15 a16 h16 a17 h17 a18 h18 a19 h19 i _)
  isplitl [H0]; · iexact H0
  isplitl [H1]; · iexact H1
  isplitl [H2]; · iexact H2
  isplitl [H3]; · iexact H3
  isplitl [H4]; · iexact H4
  isplitl [H5]; · iexact H5
  iintro %r ⟨%hr, H0, H1, H2, H3, H4, H5⟩
  subst hr; dsimp only
  rw [wp_bind]
  iapply (part2_wp c E a0 h0 a1 h1 a2 h2 a3 h3 a4 h4 a5 h5 a6 h6 a7 h7 a8 h8 a9 h9 a10 h10 a11 h11 a12 h12 a13 h13 a14 h14 a15 h15 a16 h16 a17 h17 a18 h18 a19 h19 i _)
  isplitl [H6]; · iexact H6
  isplitl [H7]; · iexact H7
  isplitl [H8]; · iexact H8
  iintro %r ⟨%hr, H6, H7, H8⟩
  subst hr; dsimp only
  rw [wp_bind]
  iapply (part3_wp c E a0 h0 a1 h1 a2 h2 a3 h3 a4 h4 a5 h5 a6 h6 a7 h7 a8 h8 a9 h9 a10 h10 a11 h11 a12 h12 a13 h13 a14 h14 a15 h15 a16 h16 a17 h17 a18 h18 a19 h19 i _)
  isplitl [H9]; · iexact H9
  isplitl [H10]; · iexact H10
  isplitl [H11]; · iexact H11
  isplitl [H12]; · iexact H12
  iintro %r ⟨%hr, H9, H10, H11, H12⟩
  subst hr; dsimp only
  rw [wp_bind]
  iapply (part4_wp c E a0 h0 a1 h1 a2 h2 a3 h3 a4 h4 a5 h5 a6 h6 a7 h7 a8 h8 a9 h9 a10 h10 a11 h11 a12 h12 a13 h13 a14 h14 a15 h15 a16 h16 a17 h17 a18 h18 a19 h19 i _)
  isplitl [H16]; · iexact H16
  isplitl [H13]; · iexact H13
  isplitl [H14]; · iexact H14
  iintro %r ⟨%hr, H16, H13, H14⟩
  subst hr; dsimp only
  rw [wp_bind]
  iapply (part5_wp c E a0 h0 a1 h1 a2 h2 a3 h3 a4 h4 a5 h5 a6 h6 a7 h7 a8 h8 a9 h9 a10 h10 a11 h11 a12 h12 a13 h13 a14 h14 a15 h15 a16 h16 a17 h17 a18 h18 a19 h19 i _)
  isplitl [H15]; · iexact H15
  isplitl [H13]; · iexact H13
  isplitl [H14]; · iexact H14
  iintro %r ⟨%hr, H15, H13, H14⟩
  subst hr; dsimp only
  rw [wp_bind]
  iapply (part6_wp c E a0 h0 a1 h1 a2 h2 a3 h3 a4 h4 a5 h5 a6 h6 a7 h7 a8 h8 a9 h9 a10 h10 a11 h11 a12 h12 a13 h13 a14 h14 a15 h15 a16 h16 a17 h17 a18 h18 a19 h19 i _)
  isplitl [H14]; · iexact H14
  isplitl [H15]; · iexact H15
  isplitl [H13]; · iexact H13
  iintro %r ⟨%hr, H14, H15, H13⟩
  subst hr; dsimp only
  unfold owns
  cases i; dsimp only
  icases H15 with ⟨%f15, %g15, H15⟩
  icases H17 with ⟨%f17, %g17, H17⟩
  icases H18 with ⟨%f18, %g18, H18⟩
  icases H19 with ⟨%d19, %f19, -, H19⟩
  subst g15 g17 g18
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists f15; isplitr; (· ipureintro; rfl); iexact H15
  isplitl [H16]; · iexact H16
  isplitl [H17]; · iexists f17; isplitr; (· ipureintro; rfl); iexact H17
  isplitl [H18]; · iexists f18; isplitr; (· ipureintro; rfl); iexact H18
  iexists _; isplitr
  swap; · iexact H19
  ipureintro
  exact View.read_writes_eq_canon _ _ _ (rOut_cover _)

end Cert.Proof.KernelIdeal

end
-- ==== Proof.KernelIdeal.Region.lean ====
/-
  The TensorCore region: its proof data, the body's obligation, and the segment of a run that it makes.
-/
module

public import proofs.«01_k».proof.Proof.KernelIdeal.Body
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.FrameBody
public import Idealize.ShloMosaic.Lib.Pipeline.Frame
public import Idealize.ShloMosaic.Lib.Claim

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The region's proof data -/

variable (W : Dev nD → Valuation τ sig (Elt F))

/-- What a fetch of window `w` reads, its array being as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- What the body finds in the input windows. -/
def insOf (c : Dev nD) (t : Fin cfg1.N) : Ins F :=
  ⟨iblk W c 0 t, iblk W c 1 t, iblk W c 2 t, iblk W c 3 t, iblk W c 4 t, iblk W c 5 t, iblk W c 6 t, iblk W c 7 t, iblk W c 8 t, iblk W c 9 t, iblk W c 10 t, iblk W c 11 t, iblk W c 12 t, iblk W c 13 t, iblk W c 14 t, iblk W c 15 t, iblk W c 16 t, iblk W c 17 t, iblk W c 18 t⟩

/-- The region's proof data: its arrays as it finds them; the body leaves each input window as it was and the output window
    at `tcOut`; the invariant is the scoped buffers that no window stages; nothing is owed. -/
def dats (_ : Fin 1) (c : Dev nD) : Dat τ (Elt F) (HIx 1) ℕ UU ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => iblk W c 9 t
    | ⟨10, _⟩ => iblk W c 10 t
    | ⟨11, _⟩ => iblk W c 11 t
    | ⟨12, _⟩ => iblk W c 12 t
    | ⟨13, _⟩ => iblk W c 13 t
    | ⟨14, _⟩ => iblk W c 14 t
    | ⟨15, _⟩ => iblk W c 15 t
    | ⟨16, _⟩ => iblk W c 16 t
    | ⟨17, _⟩ => iblk W c 17 t
    | ⟨18, _⟩ => iblk W c 18 t
    | ⟨19, _⟩ => tcOut (insOf W c t)
    | ⟨_ + 20, h⟩ => absurd h (Nat.not_lt.2 (Nat.le_add_left _ _))
  Φ _ := Pipeline.scopedRest spec1 c
  q _ := fullShare
  owed _ := 0

/-- The arrays are as the region finds them. -/
theorem A_eq (c : Dev nD) (w : Fin cfg1.W) : (dats W 0 c).A w = W c (Proc.devRef .tc (Pipeline.arrRef spec1 w)) := by
  dsimp only [dats]

/-- What the body leaves in the output window. -/
theorem after_out (c : Dev nD) (t : Fin cfg1.N) : (dats W 0 c).after 19 t = tcOut (insOf W c t) := by dsimp only [dats]

/-- Each input window holds its block when the body runs. -/
theorem before_in (c : Dev nD) (w : Fin cfg1.W) (t : Fin cfg1.N) (hf : (cfg1.win w).fetch t = true)
    (B : (cfg1.win w).block.Idx → Elt F (cfg1.win w).elt) (hB : ∀ d, (cfg1.win w).fill (cfg1.grid.coords t) d (iblk W c w t) = B) (d) :
    (dats W 0 c).before w t d = B :=
  ((dats W 0 c).before_fetched w t hf d).trans (by
    unfold Pipeline.Dat.fetched Pipeline.Dat.blockOf; rw [A_eq]; exact hB d)

theorem before_0 (c : Dev nD) (t : Fin cfg1.N) (d) : (dats W 0 c).before 0 t d = (insOf W c t).x := before_in W c 0 t (fetch1_0 t) _ (fun _ => rfl) d
theorem after_0 (c : Dev nD) (t : Fin cfg1.N) : (dats W 0 c).after 0 t = (insOf W c t).x := by dsimp only [dats, insOf]
theorem before_1 (c : Dev nD) (t : Fin cfg1.N) (d) : (dats W 0 c).before 1 t d = (insOf W c t).wa := before_in W c 1 t (fetch1_1 t) _ (fun _ => rfl) d
theorem after_1 (c : Dev nD) (t : Fin cfg1.N) : (dats W 0 c).after 1 t = (insOf W c t).wa := by dsimp only [dats, insOf]
theorem before_2 (c : Dev nD) (t : Fin cfg1.N) (d) : (dats W 0 c).before 2 t d = (insOf W c t).ba := before_in W c 2 t (fetch1_2 t) _ (fun _ => rfl) d
theorem after_2 (c : Dev nD) (t : Fin cfg1.N) : (dats W 0 c).after 2 t = (insOf W c t).ba := by dsimp only [dats, insOf]
theorem before_3 (c : Dev nD) (t : Fin cfg1.N) (d) : (dats W 0 c).before 3 t d = (insOf W c t).ra := before_in W c 3 t (fetch1_3 t) _ (fun _ => rfl) d
theorem after_3 (c : Dev nD) (t : Fin cfg1.N) : (dats W 0 c).after 3 t = (insOf W c t).ra := by dsimp only [dats, insOf]
theorem before_4 (c : Dev nD) (t : Fin cfg1.N) (d) : (dats W 0 c).before 4 t d = (insOf W c t).ca := before_in W c 4 t (fetch1_4 t) _ (fun _ => rfl) d
theorem after_4 (c : Dev nD) (t : Fin cfg1.N) : (dats W 0 c).after 4 t = (insOf W c t).ca := by dsimp only [dats, insOf]
theorem before_5 (c : Dev nD) (t : Fin cfg1.N) (d) : (dats W 0 c).before 5 t d = (insOf W c t).wb := before_in W c 5 t (fetch1_5 t) _ (fun _ => rfl) d
theorem after_5 (c : Dev nD) (t : Fin cfg1.N) : (dats W 0 c).after 5 t = (insOf W c t).wb := by dsimp only [dats, insOf]
theorem before_6 (c : Dev nD) (t : Fin cfg1.N) (d) : (dats W 0 c).before 6 t d = (insOf W c t).bb := before_in W c 6 t (fetch1_6 t) _ (fun _ => rfl) d
theorem after_6 (c : Dev nD) (t : Fin cfg1.N) : (dats W 0 c).after 6 t = (insOf W c t).bb := by dsimp only [dats, insOf]
theorem before_7 (c : Dev nD) (t : Fin cfg1.N) (d) : (dats W 0 c).before 7 t d = (insOf W c t).rb := before_in W c 7 t (fetch1_7 t) _ (fun _ => rfl) d
theorem after_7 (c : Dev nD) (t : Fin cfg1.N) : (dats W 0 c).after 7 t = (insOf W c t).rb := by dsimp only [dats, insOf]
theorem before_8 (c : Dev nD) (t : Fin cfg1.N) (d) : (dats W 0 c).before 8 t d = (insOf W c t).cb := before_in W c 8 t (fetch1_8 t) _ (fun _ => rfl) d
theorem after_8 (c : Dev nD) (t : Fin cfg1.N) : (dats W 0 c).after 8 t = (insOf W c t).cb := by dsimp only [dats, insOf]
theorem before_9 (c : Dev nD) (t : Fin cfg1.N) (d) : (dats W 0 c).before 9 t d = (insOf W c t).wc := before_in W c 9 t (fetch1_9 t) _ (fun _ => rfl) d
theorem after_9 (c : Dev nD) (t : Fin cfg1.N) : (dats W 0 c).after 9 t = (insOf W c t).wc := by dsimp only [dats, insOf]
theorem before_10 (c : Dev nD) (t : Fin cfg1.N) (d) : (dats W 0 c).before 10 t d = (insOf W c t).bc := before_in W c 10 t (fetch1_10 t) _ (fun _ => rfl) d
theorem after_10 (c : Dev nD) (t : Fin cfg1.N) : (dats W 0 c).after 10 t = (insOf W c t).bc := by dsimp only [dats, insOf]
theorem before_11 (c : Dev nD) (t : Fin cfg1.N) (d) : (dats W 0 c).before 11 t d = (insOf W c t).rc := before_in W c 11 t (fetch1_11 t) _ (fun _ => rfl) d
theorem after_11 (c : Dev nD) (t : Fin cfg1.N) : (dats W 0 c).after 11 t = (insOf W c t).rc := by dsimp only [dats, insOf]
theorem before_12 (c : Dev nD) (t : Fin cfg1.N) (d) : (dats W 0 c).before 12 t d = (insOf W c t).cc := before_in W c 12 t (fetch1_12 t) _ (fun _ => rfl) d
theorem after_12 (c : Dev nD) (t : Fin cfg1.N) : (dats W 0 c).after 12 t = (insOf W c t).cc := by dsimp only [dats, insOf]
theorem before_13 (c : Dev nD) (t : Fin cfg1.N) (d) : (dats W 0 c).before 13 t d = (insOf W c t).wd := before_in W c 13 t (fetch1_13 t) _ (fun _ => rfl) d
theorem after_13 (c : Dev nD) (t : Fin cfg1.N) : (dats W 0 c).after 13 t = (insOf W c t).wd := by dsimp only [dats, insOf]
theorem before_14 (c : Dev nD) (t : Fin cfg1.N) (d) : (dats W 0 c).before 14 t d = (insOf W c t).bd := before_in W c 14 t (fetch1_14 t) _ (fun _ => rfl) d
theorem after_14 (c : Dev nD) (t : Fin cfg1.N) : (dats W 0 c).after 14 t = (insOf W c t).bd := by dsimp only [dats, insOf]
theorem before_15 (c : Dev nD) (t : Fin cfg1.N) (d) : (dats W 0 c).before 15 t d = (insOf W c t).we := before_in W c 15 t (fetch1_15 t) _ (fun _ => rfl) d
theorem after_15 (c : Dev nD) (t : Fin cfg1.N) : (dats W 0 c).after 15 t = (insOf W c t).we := by dsimp only [dats, insOf]
theorem before_16 (c : Dev nD) (t : Fin cfg1.N) (d) : (dats W 0 c).before 16 t d = (insOf W c t).be := before_in W c 16 t (fetch1_16 t) _ (fun _ => rfl) d
theorem after_16 (c : Dev nD) (t : Fin cfg1.N) : (dats W 0 c).after 16 t = (insOf W c t).be := by dsimp only [dats, insOf]
theorem before_17 (c : Dev nD) (t : Fin cfg1.N) (d) : (dats W 0 c).before 17 t d = (insOf W c t).wo := before_in W c 17 t (fetch1_17 t) _ (fun _ => rfl) d
theorem after_17 (c : Dev nD) (t : Fin cfg1.N) : (dats W 0 c).after 17 t = (insOf W c t).wo := by dsimp only [dats, insOf]
theorem before_18 (c : Dev nD) (t : Fin cfg1.N) (d) : (dats W 0 c).before 18 t d = (insOf W c t).bo := before_in W c 18 t (fetch1_18 t) _ (fun _ => rfl) d
theorem after_18 (c : Dev nD) (t : Fin cfg1.N) : (dats W 0 c).after 18 t = (insOf W c t).bo := by dsimp only [dats, insOf]

/-! ## The body's obligation -/

/-- What the body is called with. -/
def bodyPre (c : Dev nD) (t : Fin cfg1.N) : sProp 𝕄 :=
  iprop((dats W 0 c).Φ t.castSucc ∗ (dats W 0 c).owesAt none t.castSucc ∗ (∃ d, owns (c : Thread nD τ) (st1_0 t) fullShare ((dats W 0 c).before 0 t d)) ∗ (∃ d, owns (c : Thread nD τ) (st1_1 t) fullShare ((dats W 0 c).before 1 t d)) ∗ (∃ d, owns (c : Thread nD τ) (st1_2 t) fullShare ((dats W 0 c).before 2 t d)) ∗ (∃ d, owns (c : Thread nD τ) (st1_3 t) fullShare ((dats W 0 c).before 3 t d)) ∗ (∃ d, owns (c : Thread nD τ) (st1_4 t) fullShare ((dats W 0 c).before 4 t d)) ∗ (∃ d, owns (c : Thread nD τ) (st1_5 t) fullShare ((dats W 0 c).before 5 t d)) ∗ (∃ d, owns (c : Thread nD τ) (st1_6 t) fullShare ((dats W 0 c).before 6 t d)) ∗ (∃ d, owns (c : Thread nD τ) (st1_7 t) fullShare ((dats W 0 c).before 7 t d)) ∗ (∃ d, owns (c : Thread nD τ) (st1_8 t) fullShare ((dats W 0 c).before 8 t d)) ∗ (∃ d, owns (c : Thread nD τ) (st1_9 t) fullShare ((dats W 0 c).before 9 t d)) ∗ (∃ d, owns (c : Thread nD τ) (st1_10 t) fullShare ((dats W 0 c).before 10 t d)) ∗ (∃ d, owns (c : Thread nD τ) (st1_11 t) fullShare ((dats W 0 c).before 11 t d)) ∗ (∃ d, owns (c : Thread nD τ) (st1_12 t) fullShare ((dats W 0 c).before 12 t d)) ∗ (∃ d, owns (c : Thread nD τ) (st1_13 t) fullShare ((dats W 0 c).before 13 t d)) ∗ (∃ d, owns (c : Thread nD τ) (st1_14 t) fullShare ((dats W 0 c).before 14 t d)) ∗ (∃ d, owns (c : Thread nD τ) (st1_15 t) fullShare ((dats W 0 c).before 15 t d)) ∗ (∃ d, owns (c : Thread nD τ) (st1_16 t) fullShare ((dats W 0 c).before 16 t d)) ∗ (∃ d, owns (c : Thread nD τ) (st1_17 t) fullShare ((dats W 0 c).before 17 t d)) ∗ (∃ d, owns (c : Thread nD τ) (st1_18 t) fullShare ((dats W 0 c).before 18 t d)) ∗ (∃ d, owns (c : Thread nD τ) (st1_19 t) fullShare ((dats W 0 c).before 19 t d)))

/-- What it returns. -/
def bodyPost (c : Dev nD) (t : Fin cfg1.N) : sProp 𝕄 :=
  iprop((dats W 0 c).Φ t.succ ∗ (dats W 0 c).owesAt none t.succ ∗ owns (c : Thread nD τ) (st1_0 t) fullShare ((dats W 0 c).after 0 t) ∗ owns (c : Thread nD τ) (st1_1 t) fullShare ((dats W 0 c).after 1 t) ∗ owns (c : Thread nD τ) (st1_2 t) fullShare ((dats W 0 c).after 2 t) ∗ owns (c : Thread nD τ) (st1_3 t) fullShare ((dats W 0 c).after 3 t) ∗ owns (c : Thread nD τ) (st1_4 t) fullShare ((dats W 0 c).after 4 t) ∗ owns (c : Thread nD τ) (st1_5 t) fullShare ((dats W 0 c).after 5 t) ∗ owns (c : Thread nD τ) (st1_6 t) fullShare ((dats W 0 c).after 6 t) ∗ owns (c : Thread nD τ) (st1_7 t) fullShare ((dats W 0 c).after 7 t) ∗ owns (c : Thread nD τ) (st1_8 t) fullShare ((dats W 0 c).after 8 t) ∗ owns (c : Thread nD τ) (st1_9 t) fullShare ((dats W 0 c).after 9 t) ∗ owns (c : Thread nD τ) (st1_10 t) fullShare ((dats W 0 c).after 10 t) ∗ owns (c : Thread nD τ) (st1_11 t) fullShare ((dats W 0 c).after 11 t) ∗ owns (c : Thread nD τ) (st1_12 t) fullShare ((dats W 0 c).after 12 t) ∗ owns (c : Thread nD τ) (st1_13 t) fullShare ((dats W 0 c).after 13 t) ∗ owns (c : Thread nD τ) (st1_14 t) fullShare ((dats W 0 c).after 14 t) ∗ owns (c : Thread nD τ) (st1_15 t) fullShare ((dats W 0 c).after 15 t) ∗ owns (c : Thread nD τ) (st1_16 t) fullShare ((dats W 0 c).after 16 t) ∗ owns (c : Thread nD τ) (st1_17 t) fullShare ((dats W 0 c).after 17 t) ∗ owns (c : Thread nD τ) (st1_18 t) fullShare ((dats W 0 c).after 18 t) ∗ owns (c : Thread nD τ) (st1_19 t) fullShare ((dats W 0 c).after 19 t))

/-- The body's triple at the grid's point. -/
theorem sound_body (c : Dev nD) (t : Fin cfg1.N) :
    bodyPre W c t ⊢ wp frame (wpE (defs₀ (F := F)) 𝒱₀ c none) Set.univ (bodyAt1 t) (fun _ => bodyPost W c t) := by
  unfold bodyPre bodyPost bodyAt1
  simp only [before_0, before_1, before_2, before_3, before_4, before_5, before_6, before_7, before_8, before_9, before_10, before_11, before_12, before_13, before_14, before_15, before_16, before_17, before_18]
  rw [show (dats W 0 c).Φ t.succ = (dats W 0 c).Φ t.castSucc from rfl,
    show (dats W 0 c).owesAt none t.succ = (dats W 0 c).owesAt none t.castSucc from rfl,
    after_0, after_1, after_2, after_3, after_4, after_5, after_6, after_7, after_8, after_9, after_10, after_11, after_12, after_13, after_14, after_15, after_16, after_17, after_18, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ _ _ _ _ _ _ _ _ _ _ _ _ _ _ _ _ _ _ _ _ _ _ _ _ _ _ _ _ _ _ _ _ _ _ _ _ _ _ _ _ (insOf W c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body table's row is the body. -/
theorem defs₀_row (t : Fin cfg1.N) : defs₀ (F := F) .tc cfg1.body (cfg1.bodyArgs t (cfg1.slots t)) = bodyAt1 t := rfl

/-- The library's body obligation. -/
theorem body_obligation (c : Dev nD) : BodyObligation (dats W 0 c) (defs₀ (F := F)) 𝒱₀ none Set.univ := fun t => by
  rw [bigSep_W1, bigSep_W1, defs₀_row]
  exact triple_restated (sound_body W c t) rfl .rfl fun _ => .rfl

/-- The same for windows whose unread parts are forgotten: there are none. -/
theorem body_obligation_loose (c : Dev nD) : Pipeline.BodyObligationLoose (dats W 0 c) (defs₀ (F := F)) 𝒱₀ none Set.univ :=
  (body_obligation W c).loose

/-! ## The segment of the run -/

/-- The pipelines' admissible tables: there are none. -/
abbrev adm : (p : Fin 1) → (pcfgs (F := F) p).Adm := fun _ => (cfgs _).toPCfg_adm

/-- Nothing is owed over the region, and its waits' index lies at level 0. -/
theorem levelCut : Pipeline.LevelCut (nD := nD) (pcfgs (F := F)) adm none (K (F := F)).L (K (F := F)).lev 0 (fun _ => 0) (fun _ => 0) where
  hι _ _ _ := Finset.mem_univ _
  hιb _ _ _ := le_refl _
  hD _ _ _ h := absurd h (Nat.lt_irrefl 0)

/-- The invariant is the scoped buffers that no window stages, and nothing beside them. -/
theorem Φ_in (c : Dev nD) (t : Fin (cfg1.N + 1)) : iprop((Pipeline.scopedRest spec1 c : sProp 𝕄) ∗ emp) ⊢ (dats W 0 c).Φ t := by
  dsimp only [dats]; exact sep_emp_elim

theorem Φ_out (c : Dev nD) (t : Fin (cfg1.N + 1)) : (dats W 0 c).Φ t ⊢ iprop((Pipeline.scopedRest spec1 c : sProp 𝕄) ∗ emp) := by
  dsimp only [dats]; exact sep_emp_intro

/-- The region between held unscoped buffers: it finds them at `W c` and leaves them at `afterRegion`. -/
def seg : Pipeline.RegionSeg (pcfgs (F := F)) adm (dats W) none (defs₀ (F := F)) 𝒱₀ (K (F := F)).L (K (F := F)).lev 0 :=
  Pipeline.RegionSeg.ofHeldIn (pcfgs (F := F)) adm (dats W) none (defs₀ (F := F)) 𝒱₀ (K (F := F)).L (K (F := F)).lev 0 (fun _ => 0)
    (Pipeline.ucRefs τ sig) (fun _ => iprop(emp)) (fun _ => iprop(emp)) launch1.toP rfl
    (body_obligation_loose W) (fun _ _ => rfl) (fun _ => rfl) (fun c => (dats W 0 c).share_full fun _ => rfl)
    (fun c => Φ_in W c 0) (fun c => Φ_out W c (Fin.last cfg1.N))
    (fun _ => 0) levelCut (fun _ => iprop(emp)) W (fun c w => A_eq W c w)

end Cert.Proof.KernelIdeal

end
-- ==== Proof.KernelIdeal.Host.lean ====
/-
  The host operations between the SparseCore's call and the TensorCore's, as a list: they cut each level's weights out of
  the tables and lay them side by side.
-/
module

public import proofs.«01_k».proof.Proof.KernelIdeal.Setup
public import Idealize.ShloMosaic.Lib.Pipeline.Frame

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The host operations, in order. -/
def hostOps : List (HloOp τ sig (Elt F)) :=
  [StableHlo.unary main_arg2 main_v1 ((extractStridedSlice S1x128x128 ![0, 0, 0] · slices_S2000x128x128_S1x128x128_0_0_0) : (⟨S2000x128x128, .f32⟩ : BufTy).Contents (Elt F) → (⟨S1x128x128, .f32⟩ : BufTy).Contents (Elt F)),
    StableHlo.reshape main_v1 main_v2 (rfl : (.f32 : EltTy) = .f32) shapeCasts_S1x128x128_S128x128,
    StableHlo.unary main_v2 main_v3 ((truncf .bf16 · bitsLt_bf16_f32) : (⟨S128x128, .f32⟩ : BufTy).Contents (Elt F) → (⟨S128x128, .bf16⟩ : BufTy).Contents (Elt F)),
    StableHlo.unary main_arg3 main_v4 ((extractStridedSlice S1x128 ![0, 0] · slices_S2000x128_S1x128_0_0) : (⟨S2000x128, .f32⟩ : BufTy).Contents (Elt F) → (⟨S1x128, .f32⟩ : BufTy).Contents (Elt F)),
    StableHlo.reshape main_v4 main_v5 (rfl : (.f32 : EltTy) = .f32) shapeCasts_S1x128_S128,
    StableHlo.unary main_v5 main_v6 (broadcastInDim S1x128 ![1] bcast_S128_S1x128_1 : (⟨S128, .f32⟩ : BufTy).Contents (Elt F) → (⟨S1x128, .f32⟩ : BufTy).Contents (Elt F)),
    StableHlo.unary main_arg6 main_v7 ((extractStridedSlice S1x128x4 ![0, 0, 0] · slices_S2000x128x4_S1x128x4_0_0_0) : (⟨S2000x128x4, .f32⟩ : BufTy).Contents (Elt F) → (⟨S1x128x4, .f32⟩ : BufTy).Contents (Elt F)),
    StableHlo.reshape main_v7 main_v8 (rfl : (.f32 : EltTy) = .f32) shapeCasts_S1x128x4_S128x4,
    StableHlo.unary main_v8 main_v9 ((truncf .bf16 · bitsLt_bf16_f32) : (⟨S128x4, .f32⟩ : BufTy).Contents (Elt F) → (⟨S128x4, .bf16⟩ : BufTy).Contents (Elt F)),
    StableHlo.unary main_arg7 main_v10 ((extractStridedSlice S1x4 ![0, 0] · slices_S2000x4_S1x4_0_0) : (⟨S2000x4, .f32⟩ : BufTy).Contents (Elt F) → (⟨S1x4, .f32⟩ : BufTy).Contents (Elt F)),
    StableHlo.reshape main_v10 main_v11 (rfl : (.f32 : EltTy) = .f32) shapeCasts_S1x4_S4,
    StableHlo.unary main_v11 main_v12 (broadcastInDim S1x4 ![1] bcast_S4_S1x4_1 : (⟨S4, .f32⟩ : BufTy).Contents (Elt F) → (⟨S1x4, .f32⟩ : BufTy).Contents (Elt F)),
    StableHlo.unary main_arg2 main_v13 ((extractStridedSlice S4x128x128 ![1, 0, 0] · slices_S2000x128x128_S4x128x128_1_0_0) : (⟨S2000x128x128, .f32⟩ : BufTy).Contents (Elt F) → (⟨S4x128x128, .f32⟩ : BufTy).Contents (Elt F)),
    StableHlo.unary main_v13 main_v14 ((transpose S128x4x128 [1, 0, 2] · transposes_S4x128x128_S128x4x128_1_0_2) : (⟨S4x128x128, .f32⟩ : BufTy).Contents (Elt F) → (⟨S128x4x128, .f32⟩ : BufTy).Contents (Elt F)),
    StableHlo.reshape main_v14 main_v15 (rfl : (.f32 : EltTy) = .f32) shapeCasts_S128x4x128_S128x512,
    StableHlo.unary main_v15 main_v16 ((truncf .bf16 · bitsLt_bf16_f32) : (⟨S128x512, .f32⟩ : BufTy).Contents (Elt F) → (⟨S128x512, .bf16⟩ : BufTy).Contents (Elt F)),
    StableHlo.unary main_arg3 main_v17 ((extractStridedSlice S4x128 ![1, 0] · slices_S2000x128_S4x128_1_0) : (⟨S2000x128, .f32⟩ : BufTy).Contents (Elt F) → (⟨S4x128, .f32⟩ : BufTy).Contents (Elt F)),
    StableHlo.reshape main_v17 main_v18 (rfl : (.f32 : EltTy) = .f32) shapeCasts_S4x128_S1x512,
    StableHlo.unary main_arg6 main_v19 ((extractStridedSlice S4x128x4 ![1, 0, 0] · slices_S2000x128x4_S4x128x4_1_0_0) : (⟨S2000x128x4, .f32⟩ : BufTy).Contents (Elt F) → (⟨S4x128x4, .f32⟩ : BufTy).Contents (Elt F)),
    StableHlo.reshape main_v19 main_v20 (rfl : (.f32 : EltTy) = .f32) shapeCasts_S4x128x4_S512x4,
    StableHlo.unary main_v20 main_v21 ((truncf .bf16 · bitsLt_bf16_f32) : (⟨S512x4, .f32⟩ : BufTy).Contents (Elt F) → (⟨S512x4, .bf16⟩ : BufTy).Contents (Elt F)),
    StableHlo.unary main_arg7 main_v22 ((extractStridedSlice S4x4 ![1, 0] · slices_S2000x4_S4x4_1_0) : (⟨S2000x4, .f32⟩ : BufTy).Contents (Elt F) → (⟨S4x4, .f32⟩ : BufTy).Contents (Elt F)),
    StableHlo.unary main_arg2 main_v23 ((extractStridedSlice S16x128x128 ![5, 0, 0] · slices_S2000x128x128_S16x128x128_5_0_0) : (⟨S2000x128x128, .f32⟩ : BufTy).Contents (Elt F) → (⟨S16x128x128, .f32⟩ : BufTy).Contents (Elt F)),
    StableHlo.unary main_v23 main_v24 ((transpose S128x16x128 [1, 0, 2] · transposes_S16x128x128_S128x16x128_1_0_2) : (⟨S16x128x128, .f32⟩ : BufTy).Contents (Elt F) → (⟨S128x16x128, .f32⟩ : BufTy).Contents (Elt F)),
    StableHlo.reshape main_v24 main_v25 (rfl : (.f32 : EltTy) = .f32) shapeCasts_S128x16x128_S128x2048,
    StableHlo.unary main_v25 main_v26 ((truncf .bf16 · bitsLt_bf16_f32) : (⟨S128x2048, .f32⟩ : BufTy).Contents (Elt F) → (⟨S128x2048, .bf16⟩ : BufTy).Contents (Elt F)),
    StableHlo.unary main_arg3 main_v27 ((extractStridedSlice S16x128 ![5, 0] · slices_S2000x128_S16x128_5_0) : (⟨S2000x128, .f32⟩ : BufTy).Contents (Elt F) → (⟨S16x128, .f32⟩ : BufTy).Contents (Elt F)),
    StableHlo.reshape main_v27 main_v28 (rfl : (.f32 : EltTy) = .f32) shapeCasts_S16x128_S1x2048,
    StableHlo.unary main_arg6 main_v29 ((extractStridedSlice S16x128x4 ![5, 0, 0] · slices_S2000x128x4_S16x128x4_5_0_0) : (⟨S2000x128x4, .f32⟩ : BufTy).Contents (Elt F) → (⟨S16x128x4, .f32⟩ : BufTy).Contents (Elt F)),
    StableHlo.reshape main_v29 main_v30 (rfl : (.f32 : EltTy) = .f32) shapeCasts_S16x128x4_S2048x4,
    StableHlo.unary main_v30 main_v31 ((truncf .bf16 · bitsLt_bf16_f32) : (⟨S2048x4, .f32⟩ : BufTy).Contents (Elt F) → (⟨S2048x4, .bf16⟩ : BufTy).Contents (Elt F)),
    StableHlo.unary main_arg7 main_v32 ((extractStridedSlice S16x4 ![5, 0] · slices_S2000x4_S16x4_5_0) : (⟨S2000x4, .f32⟩ : BufTy).Contents (Elt F) → (⟨S16x4, .f32⟩ : BufTy).Contents (Elt F)),
    StableHlo.unary main_arg2 main_v33 ((extractStridedSlice S64x128x128 ![21, 0, 0] · slices_S2000x128x128_S64x128x128_21_0_0) : (⟨S2000x128x128, .f32⟩ : BufTy).Contents (Elt F) → (⟨S64x128x128, .f32⟩ : BufTy).Contents (Elt F)),
    StableHlo.unary main_v33 main_v34 ((transpose S128x64x128 [1, 0, 2] · transposes_S64x128x128_S128x64x128_1_0_2) : (⟨S64x128x128, .f32⟩ : BufTy).Contents (Elt F) → (⟨S128x64x128, .f32⟩ : BufTy).Contents (Elt F)),
    StableHlo.reshape main_v34 main_v35 (rfl : (.f32 : EltTy) = .f32) shapeCasts_S128x64x128_S128x8192,
    StableHlo.unary main_v35 main_v36 ((truncf .bf16 · bitsLt_bf16_f32) : (⟨S128x8192, .f32⟩ : BufTy).Contents (Elt F) → (⟨S128x8192, .bf16⟩ : BufTy).Contents (Elt F)),
    StableHlo.unary main_arg3 main_v37 ((extractStridedSlice S64x128 ![21, 0] · slices_S2000x128_S64x128_21_0) : (⟨S2000x128, .f32⟩ : BufTy).Contents (Elt F) → (⟨S64x128, .f32⟩ : BufTy).Contents (Elt F)),
    StableHlo.reshape main_v37 main_v38 (rfl : (.f32 : EltTy) = .f32) shapeCasts_S64x128_S1x8192,
    StableHlo.unary main_arg4 main_v39 ((extractStridedSlice S64x128x128 ![21, 0, 0] · slices_S2000x128x128_S64x128x128_21_0_0) : (⟨S2000x128x128, .f32⟩ : BufTy).Contents (Elt F) → (⟨S64x128x128, .f32⟩ : BufTy).Contents (Elt F)),
    StableHlo.reshape main_v39 main_v40 (rfl : (.f32 : EltTy) = .f32) shapeCasts_S64x128x128_S8192x128,
    StableHlo.unary main_v40 main_v41 ((truncf .bf16 · bitsLt_bf16_f32) : (⟨S8192x128, .f32⟩ : BufTy).Contents (Elt F) → (⟨S8192x128, .bf16⟩ : BufTy).Contents (Elt F)),
    StableHlo.unary main_arg5 main_v42 ((extractStridedSlice S64x128 ![21, 0] · slices_S2000x128_S64x128_21_0) : (⟨S2000x128, .f32⟩ : BufTy).Contents (Elt F) → (⟨S64x128, .f32⟩ : BufTy).Contents (Elt F)),
    StableHlo.unary main_arg8 main_v43 ((truncf .bf16 · bitsLt_bf16_f32) : (⟨S128x1000, .f32⟩ : BufTy).Contents (Elt F) → (⟨S128x1000, .bf16⟩ : BufTy).Contents (Elt F)),
    StableHlo.unary main_arg9 main_v44 (broadcastInDim S1x1000 ![1] bcast_S1000_S1x1000_1 : (⟨S1000, .f32⟩ : BufTy).Contents (Elt F) → (⟨S1x1000, .f32⟩ : BufTy).Contents (Elt F))]

set_option maxRecDepth 8192 in
/-- They touch the TensorCore's tensors only. -/
theorem hostOps_sub : (hostOps (F := F)).Forall fun op => op.bufs ⊆ StableHlo.tcRefs τ sig := by
  simp only [hostOps, List.forall_cons, List.Forall, StableHlo.unary_bufs_sub, StableHlo.reshape_bufs_sub, and_self]

set_option maxRecDepth 8192 in
/-- They allocate nothing. -/
theorem hostOps_fresh : (hostOps (F := F)).Forall fun op => op.fresh = ∅ := by
  simp only [hostOps, List.forall_cons, List.Forall]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.Proof.KernelIdeal

end
-- ==== Proof.KernelIdeal.Run.lean ====
/-
  The run of the whole program from its parts: the tiles' obligation, `@main` on the TensorCore, the launch, and what every
  final memory holds.
-/
module

public import proofs.«01_k».proof.Proof.KernelIdeal.Tile
public import proofs.«01_k».proof.Proof.KernelIdeal.Region
public import proofs.«01_k».proof.Proof.KernelIdeal.Host

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "iV" => (Memref.whole Cert.KernelIdeal.main_arg0_scv : Memref Cert.KernelIdeal.sig Kind.scVector Space.hbm Cert.KernelIdeal.S1024 EltTy.i32)
local notation "xV" => (Memref.whole Cert.KernelIdeal.main_arg1_scv : Memref Cert.KernelIdeal.sig Kind.scVector Space.hbm Cert.KernelIdeal.S1000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

variable (m : (ℓ : Loc nD τ sig) → Buf (Elt F) ℓ) (ρ : Dev nD → PrngReg)

/-! ## The tiles' obligation -/

/-- A tile's place in the grid. -/
def coordsV (c : Fin (grid0.bound 0)) (s : Fin (grid0.bound 1)) : grid0.Coords := fun
  | 0 => c
  | 1 => s
  | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_emb_gather (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

/-- A wait recorded without an index is one recorded without an index or at the call's. -/
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right Or.inl
  · iexact HO

set_option maxRecDepth 16384 in
/-- Every tile of the call keeps its promise: it takes its block's pieces and gives them back with the rows gathered. -/
theorem tileObl (hF : (K (F := F)).Facts) (hpre : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => weaken_waits)

/-! ## The contents along `@main` -/

/-- The launch contents; -/
def W₀ (d : Dev nD) : Valuation τ sig (Elt F) := fun b => m (d, b)

/-- after the SparseCore's call the first operand of the TensorCore's call is the gathered rows; -/
def W₁ (d : Dev nD) : Valuation τ sig (Elt F) := Function.update (W₀ m d) (Proc.devRef .tc main_v0) (embOf m d)

/-- then the host operations; -/
def W₂ (d : Dev nD) : Valuation τ sig (Elt F) := StableHlo.after (hostOps (F := F)) (W₁ m d)

/-- and the TensorCore's call. -/
def W₃ (d : Dev nD) : Valuation τ sig (Elt F) := Pipeline.afterRegion (dats (W₂ m) 0 d) (W₂ m d)

/-! ## The three tensors of the SparseCore's call among the unscoped ones -/

/-- The call's tensors. -/
def callRefs : Finset (DevRef τ sig) := {Proc.devRef .tc main_arg0, Proc.devRef .tc main_arg1, Proc.devRef .tc main_v0}

theorem callRefs_sub : callRefs ⊆ Pipeline.ucRefs τ sig := by
  intro b hb
  simp only [callRefs, Finset.mem_insert, Finset.mem_singleton] at hb
  rcases hb with rfl | rfl | rfl <;> exact Pipeline.devRef_mem_ucRefs rfl

theorem held_callRefs (d : Dev nD) (V : Valuation τ sig (Elt F)) :
    (StableHlo.held (d.tc : Thread nD τ) callRefs V : sProp 𝕄)
      = iprop((iLoc d ↦{fullShare} V (Proc.devRef .tc main_arg0)) ∗ (xLoc d ↦{fullShare} V (Proc.devRef .tc main_arg1))
          ∗ (oLoc d ↦{fullShare} V (Proc.devRef .tc main_v0))) := by
  unfold StableHlo.held callRefs
  rw [SparseCore.bigSep_insert' (by decide), SparseCore.bigSep_insert' (by decide), bigSep_singleton]

/-- Outside the gathered rows nothing has changed by the call. -/
theorem W₁_off (d : Dev nD) : ∀ b ∈ Pipeline.ucRefs τ sig \ callRefs, W₁ m d b = W₀ m d b := by
  intro b hb
  refine Function.update_of_ne (fun e => (Finset.mem_sdiff.mp hb).2 ?_) _ _
  subst e; simp only [callRefs, Finset.mem_insert, true_or, or_true, Finset.mem_singleton]

theorem held_W₀ (d : Dev nD) : (StableHlo.held (d.tc : Thread nD τ) (Pipeline.ucRefs τ sig) (W₀ m d) : sProp 𝕄)
    = iprop((iPts m d ∗ xPts m d ∗ oPts d (m (oLoc d))) ∗ StableHlo.held (d.tc : Thread nD τ) (Pipeline.ucRefs τ sig \ callRefs) (W₀ m d)) := by
  rw [StableHlo.held_sub_split _ callRefs_sub, held_callRefs]; rfl

theorem held_W₁ (d : Dev nD) : (StableHlo.held (d.tc : Thread nD τ) (Pipeline.ucRefs τ sig) (W₁ m d) : sProp 𝕄)
    = iprop((iPts m d ∗ xPts m d ∗ oPts d (embOf m d)) ∗ StableHlo.held (d.tc : Thread nD τ) (Pipeline.ucRefs τ sig \ callRefs) (W₀ m d)) := by
  rw [StableHlo.held_sub_split _ callRefs_sub, held_callRefs, StableHlo.held_congr _ (W₁_off m d)]
  rw [show W₁ m d (Proc.devRef .tc main_arg0) = m (iLoc d) from Function.update_of_ne (by decide) _ _,
    show W₁ m d (Proc.devRef .tc main_arg1) = m (xLoc d) from Function.update_of_ne (by decide) _ _,
    show W₁ m d (Proc.devRef .tc main_v0) = embOf m d from Function.update_self _ _ _]

/-! ## `@main` after the SparseCore's call -/

/-- The thread's state between the segments: the unscoped buffers at `V`, and nothing owed. -/
def st (V : Dev nD → Valuation τ sig (Elt F)) (d : Dev nD) : sProp 𝕄 :=
  iprop(StableHlo.held (d.tc : Thread nD τ) (Pipeline.ucRefs τ sig) (V d) ∗ ∃ Wd, owes (d.tc : Thread nD τ) (0 : CellTallies nD τ sig (HIx 1)) Wd)

/-- The host operations as a segment. -/
def hostSeg : Pipeline.HostSeg (Name := ℕ) (U := UU) (pcfgs (F := F)) (defs₀ (F := F)) 𝒱₀ (K (F := F)).L (K (F := F)).lev :=
  Pipeline.HostSeg.ofOps _ _ _ _ _ (Pipeline.ucRefs τ sig) hostOps
    (fun op hop => Pipeline.sub_ucRefs op (List.forall_iff_forall_mem.mp hostOps_sub op hop))
    (fun op hop => List.forall_iff_forall_mem.mp hostOps_fresh op hop) (W₁ m)
    (fun d => iprop(∃ Wd, owes (d.tc : Thread nD τ) (0 : CellTallies nD τ sig (HIx 1)) Wd))

/-- What follows the SparseCore's call. -/
def segs : List (Pipeline.Seg (pcfgs (F := F)) adm (dats (W₂ m)) none (defs₀ (F := F)) 𝒱₀ (K (F := F)).L (K (F := F)).lev) :=
  [.host (hostSeg m), .region (seg (W₂ m))]

theorem segs_chain : Pipeline.Seg.Chains (st (W₁ m)) (segs m) (st (W₃ m)) := by
  refine ⟨fun c => .rfl, fun c => ?_, fun c => ?_⟩
  · refine BI.Entails.trans ?_ (Pipeline.RegionSeg.ofHeldIn_pre (Pipeline.arrRefs_sub_ucRefs _ launch1.win.arr_unscoped) c)
    show iprop(StableHlo.held (c.tc : Thread nD τ) (Pipeline.ucRefs τ sig) (W₂ m c) ∗ ∃ Wd, owes (c.tc : Thread nD τ) (0 : CellTallies nD τ sig (HIx 1)) Wd) ⊢ _
    iintro ⟨H, HO⟩
    isplitl [H]; · iexact H
    isplitl [HO]; · iexact HO
    isplitr; · iempintro
    iempintro
  · refine BI.Entails.trans (Pipeline.RegionSeg.ofHeldIn_post (Pipeline.arrRefs_sub_ucRefs _ launch1.win.arr_unscoped) c) ?_
    show iprop(StableHlo.held (c.tc : Thread nD τ) (Pipeline.ucRefs τ sig) (W₃ m c)
      ∗ ((∃ Wd, owes (c.tc : Thread nD τ) (0 : CellTallies nD τ sig (HIx 1)) Wd) ∗ emp ∗ emp)) ⊢ (st (W₃ m) c : sProp 𝕄)
    unfold st
    iintro ⟨H, HO, -, -⟩
    isplitl [H]; · iexact H
    iexact HO

/-- `@main` is the SparseCore's call followed by the segments. -/
theorem main_eq (d : Dev nD) : main (F := F) d = ((K (F := F)).run d 0 >>= fun _ => SparseCore.liftProg (Q := 1) (Pipeline.Seg.run (segs m))) := rfl

/-! ## The ghost state of the launch -/

/-- The handshakes' rounds, and the pipeline's. -/
def u₀ : UU := (initOf (K (F := F)).hsCells (K (F := F)).hsToks,
  (initOf (Pipeline.cells (nD := nD) (τ := τ) cfgs cellOf_inj) (Pipeline.launchToks (nD := nD) (τ := τ) cfgs cellOf_inj), (1 : Counters)))

/-- What the pipeline's region needs on device `d`. -/
def G (d : Dev nD) : sProp 𝕄 := Pipeline.ghostOn (pcfgs (F := F)) adm EP Finset.univ d

theorem G_eq (d : Dev nD) : (G (F := F) d : sProp 𝕄) = iprop((bigSep Finset.univ fun p => Pipeline.cellsGhost cfgs EP p d)
    ∗ bigSep Finset.univ fun p => Pipeline.toksInit cfgs EP p d) := by
  unfold G Pipeline.ghostOn Pipeline.PerCore.ghostOn
  exact bigSep_sep' _ _ _

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks)
    (initOf (Pipeline.cells (nD := nD) (τ := τ) cfgs cellOf_inj) (Pipeline.launchToks (nD := nD) (τ := τ) cfgs cellOf_inj), (1 : Counters))) $$ Hu
  icases H with ⟨HH, HR⟩
  ihave HR' := (own_pair_emb embR (initOf (Pipeline.cells (nD := nD) (τ := τ) cfgs cellOf_inj) (Pipeline.launchToks (nD := nD) (τ := τ) cfgs cellOf_inj)) (1 : Counters)) $$ HR
  icases HR' with ⟨HP, -⟩
  imod (Pipeline.fund_ghost cfgs EP cellOf_inj) $$ HP with ⟨HC, HT⟩
  imodintro
  isplitl [HH]; · iexact HH
  isplitl [HC HT]
  · rw [bigSep_congr fun (d : Dev nD) _ => G_eq d, bigSep_sep']
    isplitl [HC]; · iexact HC
    iexact HT
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## `@main` on the TensorCore -/

/-- What `@main` leaves: every unscoped buffer at its last contents. -/
abbrev FIN (d : Dev nD) : sProp 𝕄 := StableHlo.held (d.tc : Thread nD τ) (Pipeline.ucRefs τ sig) (W₃ m d)

/-- The thread's handshake state after the last call, but for what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

/-- After the last call the thread owes nothing; -/
theorem tcSt_out (d : Dev nD) : ((K (F := F)).tcSt EH d 1 : sProp 𝕄)
    ⊢ iprop((∃ Wd, owes (d.tc : Thread nD τ) (0 : CellTallies nD τ sig (HIx 1)) Wd) ∗ tcRest d) := by
  unfold SparseCore.Cfg.tcSt
  rw [(K (F := F)).Otc_end d (le_refl 1)]
  iintro ⟨⟨%W, -, HO⟩, HR⟩
  isplitl [HO]; · iexists W; iexact HO
  unfold tcRest; iexact HR

/-- Every level lies below the next call's. -/
theorem wbelow_one (d : Dev nD) (W : Waits sig (HIx 1)) : (K (F := F)).WBelow (SparseCore.T d) W (8 * 1) := by
  rintro ⟨s, ι⟩ -
  match ι with
  | none => exact Nat.zero_le _
  | some q =>
    have h := (K (F := F)).lev_some_le ((SparseCore.T d), s) q
    have hq := q.isLt
    show (K (F := F)).lev (SparseCore.T d, s) (some q) ≤ 8 * 1
    omega

/-- and whatever it has waited for lies below the levels to come. -/
theorem tcSt_in (d : Dev nD) : iprop((∃ Wd, owes (d.tc : Thread nD τ) (0 : CellTallies nD τ sig (HIx 1)) Wd) ∗ tcRest d)
    ⊢ ((K (F := F)).tcSt EH d 1 : sProp 𝕄) := by
  unfold SparseCore.Cfg.tcSt
  rw [(K (F := F)).Otc_end d (le_refl 1)]
  iintro ⟨⟨%W, HO⟩, HR⟩
  isplitl [HO]
  · iexists W
    isplitr
    · ipureintro
      exact wbelow_one (F := F) d W
    · iexact HO
  unfold tcRest; iexact HR

/-- `@main` on device `d`'s TensorCore: the rows gathered by the SparseCore's call, the host operations, the TensorCore's call. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq m d, wp_bind]
  unfold SparseCore.Cfg.tcRes SparseCore.Cfg.tcEnd
  rw [show (unscopedBufs d (fun b => m ((SparseCore.T d).loc b)) : sProp 𝕄) = _ from Pipeline.unscopedBufs_held d (W₀ m d), held_W₀]
  iintro ⟨#Hctx, Hst, ⟨Hb, ⟨Hc, Hrest⟩, Hts, -⟩, HG⟩
  iapply ((K (F := F)).wp_run (D (F := F)) 𝒱 (EH := EH) (P := P m) κ d 0) $$ [Hst Hc Hrest Hb Hts HG]
  isplitr; · iexact Hctx
  isplitl [Hst]; · iexact Hst
  isplitl [Hc]
  · rw [st_eq]; iexact Hc
  iintro ⟨Hst, Hdn⟩
  ihave Hdn' := (Entails.of_eq (dn_eq m d)) $$ Hdn
  ihave Hst' := (show ((K (F := F)).tcSt EH d ((0 : Fin 1).val + 1) : sProp 𝕄) ⊢ _ from tcSt_out (F := F) d) $$ Hst
  icases Hst' with ⟨HO, HR⟩
  ihave Hlev := (SparseCore.Cfg.ctx_levAts κ) $$ Hctx
  iapply ((K (F := F)).wp_liftProg (D (F := F)) 𝒱 (SparseCore.T d) Set.univ none _ _)
  iapply (Pipeline.wp_segs (pcfgs (F := F)) adm (dats (W₂ m)) none cellOf_inj EP (defs₀ (F := F)) 𝒱₀ (K (F := F)).L (K (F := F)).lev d (segs m)
    Finset.univ (st (W₁ m)) (st (W₃ m)) (List.nodup_singleton 0) (fun p _ => Finset.mem_univ p) (segs_chain m))
  isplitl [HR Hts]
  · iintro ⟨Hb, Hst⟩
    unfold st
    icases Hst with ⟨Hh, HO⟩
    isplitl [HO HR]
    · iapply (tcSt_in (F := F) d)
      isplitl [HO]; · iexact HO
      iexact HR
    isplitl [Hh]; · iexact Hh
    isplitl [Hb]; · iexact Hb
    iexact Hts
  isplitl [Hb]; · iexact Hb
  isplitl [Hdn' Hrest HO]
  · unfold st
    rw [held_W₁]
    isplitl [Hdn' Hrest]
    · isplitl [Hdn']; · iexact Hdn'
      iexact Hrest
    iexact HO
  isplitl [Hlev]; · iexact Hlev
  unfold G; iexact HG

/-! ## The run -/

/-- What a final memory holds of device `d`. -/
def fq (d : Dev nD) (s' : Phys nD τ sig (Elt F)) : Prop := ∀ b ∈ Pipeline.ucRefs τ sig, s'.mem.mem (d, b) = W₃ m d b

theorem hfin (d : Dev nD) (s' : Phys nD τ sig (Elt F)) : iprop(FIN m d ∗ SI s') ⊢ (⌜fq m d s'⌝ : sProp 𝕄) := by
  iintro ⟨Hh, HSI⟩
  ihave Hr := (pointsTo_read_all (Pipeline.ucRefs τ sig) (fun b => ((d : Dev nD), b)) (fun b => W₃ m d b) s') $$ [Hh HSI]
  · isplitl [Hh]; (· unfold FIN StableHlo.held; iexact Hh); iexact HSI
  icases Hr with ⟨%h, -⟩
  ipureintro; exact h

/-- Every weakly fair execution ends, with every unscoped buffer at its last contents and every semaphore at zero. -/
theorem run_main [∀ e, Nonempty (Elt F e)] (hpre : InRange m) :
    θ_run (Cert.KernelIdeal.defs (F := F)) (Cert.KernelIdeal.threads (F := F)) ⟨m, fun _ => 0, ρ⟩
      (fun r => (∀ d : Dev nD, ∀ b ∈ Pipeline.ucRefs τ sig, r.2.mem (d, b) = W₃ m d b) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main G (FIN m) (u₀ (F := F)) (sep_elim_left.trans (hu₀ m)) (hmain m ρ) (fq m) (hfin m) _ (fun _ h hz => ⟨h, hz⟩)

end Cert.Proof.KernelIdeal

end
-- ==== Proof.KernelIdeal.Frame.lean ====
/-
  What the run says: the arguments end as they began, and the result is the TensorCore call's output. The precondition
  bounds the token indices that the gather reads.
-/
module

public import Idealize.ShloMosaic.Lib.Pipeline.ValueKit.Geometry
public import proofs.«01_k».proof.Proof.KernelIdeal.Run
public import proofs.«01_k».proof.Defs
public import proofs.«01_k».proof.Proof.Gen.Pre_tree

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- The tensors that the host operations write, in order. -/
def hostWrites : List (Ref sig .tc) := [main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44]

theorem hostOps_writes : (hostOps (F := F)).map HloOp.writes = hostWrites.map fun r => {Proc.devRef (τ := τ) .tc r} := rfl

/-- No argument is written by the call on the SparseCore, by a host operation or by the call on the TensorCore. -/
theorem W₃_arg (d : Dev nD) (r : Ref sig .tc) (hv : r ≠ main_v0) (hh : r ∉ hostWrites) (hw : ∀ w : Fin 20, Pipeline.arrRef spec1 w ≠ r) :
    W₃ m d (Proc.devRef .tc r) = m ((d.tc : Thread nD τ).loc r) := by
  refine (Pipeline.afterRegion_of_not_arr (dats (W₂ m) 0 d) (W₂ m d) fun w e => hw w e.symm).trans ?_
  refine (StableHlo.after_of_writes_sub hostOps (W₁ m d) (StableHlo.forall_writes_sub_of_map hostOps_writes) hh).trans ?_
  exact Function.update_of_ne (fun e => hv (Proc.devRef_injective _ e)) _ _

/-- An index placed at offset zero with stride one is the index. -/
theorem whole_read {s : Shape} {α : Type} (X : s.Idx → α) (i j : s.Idx) (n : Fin s.rank → ℕ) (h : ∀ a, (i a : ℕ) = 0 * n a + 1 * (j a : ℕ)) :
    X i = X j :=
  congrArg X (funext fun a => Fin.ext ((h a).trans (by rw [Nat.zero_mul, Nat.zero_add, Nat.one_mul])))

/-- The input windows hold the whole arrays. -/
theorem insOf_eq (V : Dev nD → Valuation τ sig (Elt F)) (d : Dev nD) (t : Fin cfg1.N) : insOf V d t =
    ⟨V d (Proc.devRef .tc main_v0), V d (Proc.devRef .tc main_v3), V d (Proc.devRef .tc main_v6), V d (Proc.devRef .tc main_v9),
      V d (Proc.devRef .tc main_v12), V d (Proc.devRef .tc main_v16), V d (Proc.devRef .tc main_v18), V d (Proc.devRef .tc main_v21),
      V d (Proc.devRef .tc main_v22), V d (Proc.devRef .tc main_v26), V d (Proc.devRef .tc main_v28), V d (Proc.devRef .tc main_v31),
      V d (Proc.devRef .tc main_v32), V d (Proc.devRef .tc main_v36), V d (Proc.devRef .tc main_v38), V d (Proc.devRef .tc main_v41),
      V d (Proc.devRef .tc main_v42), V d (Proc.devRef .tc main_v43), V d (Proc.devRef .tc main_v44)⟩ := by
  have r (b : Ref sig .tc) (e : b.ty.shape.Idx → b.ty.shape.Idx) (n : Fin b.ty.shape.rank → ℕ)
      (h : ∀ j a, (e j a : ℕ) = 0 * n a + 1 * (j a : ℕ)) : (fun j => V d (Proc.devRef .tc b) (e j)) = V d (Proc.devRef .tc b) :=
    funext fun j => whole_read _ _ _ n (h j)
  exact Ins.ext (r main_v0 _ _ fun _ _ => rfl) (r main_v3 _ _ fun _ _ => rfl) (r main_v6 _ _ fun _ _ => rfl) (r main_v9 _ _ fun _ _ => rfl)
    (r main_v12 _ _ fun _ _ => rfl) (r main_v16 _ _ fun _ _ => rfl) (r main_v18 _ _ fun _ _ => rfl) (r main_v21 _ _ fun _ _ => rfl)
    (r main_v22 _ _ fun _ _ => rfl) (r main_v26 _ _ fun _ _ => rfl) (r main_v28 _ _ fun _ _ => rfl) (r main_v31 _ _ fun _ _ => rfl)
    (r main_v32 _ _ fun _ _ => rfl) (r main_v36 _ _ fun _ _ => rfl) (r main_v38 _ _ fun _ _ => rfl) (r main_v41 _ _ fun _ _ => rfl)
    (r main_v42 _ _ fun _ _ => rfl) (r main_v43 _ _ fun _ _ => rfl) (r main_v44 _ _ fun _ _ => rfl)

/-- The result's array at the end is what the body leaves in the output window. -/
theorem arrAt_out {d : Dev nD} (dat : Pipeline.Dat τ (Elt F) (HIx 1) ℕ UU ℕ cfg1 d) (G : Vec F S1024x1000 .f32) (h : ∀ t, dat.after 19 t = G) :
    dat.arrAt 19 cfg1.N = G := by
  refine dat.arrAt_eq_of_covers 19 G (by decide +kernel) fun t hf y => ?_
  exact (congrFun (h t) y).trans (whole_read G _ _ _ fun _ => rfl).symm

/-- The result buffer at the end: the output block of the TensorCore's call, written back. -/
theorem W₃_out (d : Dev nD) : W₃ m d (Proc.devRef .tc main_v45) = tcOut (insOf (W₂ m) d t1_0) :=
  (Pipeline.afterRegion_arr (dats (W₂ m) 0 d) (W₂ m d) launch1.win.arr_inj 19).trans
    (arrAt_out (dats (W₂ m) 0 d) _ fun t => (after_out (W₂ m) d t).trans (by rw [fin_N1 t]))

/-- The tensors of the program's arguments. -/
def argRefs : List (Ref sig .tc) :=
  [main_arg0, main_arg1, main_arg2, main_arg3, main_arg4, main_arg5, main_arg6, main_arg7, main_arg8, main_arg9, main_arg10]

theorem argRefs_kept : ∀ r ∈ argRefs, r ≠ main_v0 ∧ r ∉ hostWrites ∧ (∀ w : Fin 20, Pipeline.arrRef spec1 w ≠ r) ∧ Proc.devRef .tc r ∈ Pipeline.ucRefs τ sig := by
  decide +kernel

/-- Every weakly fair execution ends with the arguments as they began and the output of the TensorCore's call as the result, and
    with every semaphore at zero. -/
theorem run_args [∀ e, Nonempty (Elt F e)] (hpre : InRange m) :
    θ_run (Cert.KernelIdeal.defs (F := F)) (Cert.KernelIdeal.threads (F := F)) ⟨m, fun _ => 0, ρ⟩
      (fun r => (∀ d : Dev nD, r.2.mem ((d.tc : Thread nD τ).loc main_v45) = tcOut (insOf (W₂ m) d t1_0)
        ∧ ∀ a ∈ argRefs, r.2.mem ((d.tc : Thread nD τ).loc a) = m ((d.tc : Thread nD τ).loc a)) ∧ r.2.sem = fun _ => 0) := by
  refine (θ_run _ _ _).mono (fun r h => ⟨fun d => ⟨?_, fun a ha => ?_⟩, h.2⟩) (run_main m ρ hpre)
  · exact (h.1 d _ (Pipeline.devRef_mem_ucRefs rfl)).trans (W₃_out m d)
  · obtain ⟨h1, h2, h3, h4⟩ := argRefs_kept a ha
    exact (h.1 d _ h4).trans (W₃_arg m d a h1 h2 h3)

end Cert.Proof.KernelIdeal
-- ==== Proof.Lines.lean ====
/-
  Straight lines of host operations in single-assignment form. Where every operation writes a buffer allocated after the
  buffers that it and the operations before it touch, the final contents satisfy every operation's equation at once.
-/
module

public import Idealize.ShloMosaic.Lib.StableHlo.RunHlo

@[expose] public section

noncomputable section

namespace Cert.Proof.Lines

open Idealize.ShloMosaic Idealize.ShloMosaic.StableHlo Idealize.SL.Sem

variable {nD : Nat} {τ : Topo} {sig : RefSig} {Val : EltTy → Type} {Λ : Labels}

variable (sig Val) in
/-- One host operation between typed buffers. -/
inductive Line where
  | nul {T : BufTy} (y : TRef sig T) (v : T.Contents Val)
  | un {A T : BufTy} (a : TRef sig A) (y : TRef sig T) (f : A.Contents Val → T.Contents Val)
  | bin {A B T : BufTy} (a : TRef sig A) (b : TRef sig B) (y : TRef sig T) (f : A.Contents Val → B.Contents Val → T.Contents Val)
  | ter {A B C T : BufTy} (a : TRef sig A) (b : TRef sig B) (c : TRef sig C) (y : TRef sig T)
      (f : A.Contents Val → B.Contents Val → C.Contents Val → T.Contents Val)
  | quat {A B C D T : BufTy} (a : TRef sig A) (b : TRef sig B) (c : TRef sig C) (d : TRef sig D) (y : TRef sig T)
      (f : A.Contents Val → B.Contents Val → C.Contents Val → D.Contents Val → T.Contents Val)
  | resh {A T : BufTy} (a : TRef sig A) (y : TRef sig T) (he : A.elt = T.elt) (hn : A.shape.ShapeCasts T.shape)

/-- What the contents `V` hold in a typed buffer. -/
def rd {T : BufTy} (V : Valuation τ sig Val) (x : TRef sig T) : T.Contents Val := x.ofBuf (V (Proc.devRef .tc x.ref))

namespace Line

/-- The host operation. -/
def op : Line sig Val → HloOp τ sig Val
  | nul y v => TRef.nullary y v
  | un a y f => TRef.unary a y f
  | bin a b y f => TRef.binary a b y f
  | ter a b c y f => TRef.ternary a b c y f
  | quat a b c d y f => TRef.quaternary a b c d y f
  | resh a y he hn => TRef.reshape a y he hn

/-- The buffer that it writes. -/
def out : Line sig Val → Ref sig .tc
  | nul y _ | un _ y _ | bin _ _ y _ | ter _ _ _ y _ | quat _ _ _ _ y _ | resh _ y _ _ => y.ref

/-- The buffers that it reads. -/
def ins : Line sig Val → List (Ref sig .tc)
  | nul _ _ => []
  | un a _ _ | resh a _ _ _ => [a.ref]
  | bin a b _ _ => [a.ref, b.ref]
  | ter a b c _ _ => [a.ref, b.ref, c.ref]
  | quat a b c d _ _ => [a.ref, b.ref, c.ref, d.ref]

/-- Its equation, of contents. -/
def Eqn (V : Valuation τ sig Val) : Line sig Val → Prop
  | nul y v => rd V y = v
  | un a y f => rd V y = f (rd V a)
  | bin a b y f => rd V y = f (rd V a) (rd V b)
  | ter a b c y f => rd V y = f (rd V a) (rd V b) (rd V c)
  | quat a b c d y f => rd V y = f (rd V a) (rd V b) (rd V c) (rd V d)
  | resh a y he hn => rd V y = fun i => he ▸ shapeCast _ (rd V a) hn i

theorem writes_op (l : Line sig Val) : (l.op : HloOp τ sig Val).writes = {Proc.devRef .tc l.out} := by
  cases l <;> rfl

theorem bufs_op (l : Line sig Val) : (l.op : HloOp τ sig Val).bufs ⊆ tcRefs τ sig := by
  cases l
  case nul y v => exact nullary_bufs_sub (Val := Val) _ _ y.dev
  case un a y f => exact unary_bufs_sub (Val := Val) _ _ (fun u => y.toBuf (f (a.ofBuf u))) a.dev y.dev
  case bin a b y f => exact binary_bufs_sub (Val := Val) _ _ _ (fun u v => y.toBuf (f (a.ofBuf u) (b.ofBuf v))) a.dev b.dev y.dev
  case ter a b c y f => exact ternary_bufs_sub (Val := Val) _ _ _ _ (fun u v w => y.toBuf (f (a.ofBuf u) (b.ofBuf v) (c.ofBuf w))) a.dev b.dev c.dev y.dev
  case quat a b c d y f => exact quaternary_bufs_sub (Val := Val) _ _ _ _ _ (fun t u v w => y.toBuf (f (a.ofBuf t) (b.ofBuf u) (c.ofBuf v) (d.ofBuf w))) a.dev b.dev c.dev d.dev y.dev
  case resh a y he hn => exact reshape_bufs_sub (Val := Val) _ _ _ _ a.dev y.dev

theorem fresh_op (l : Line sig Val) : (l.op : HloOp τ sig Val).fresh = ∅ := by
  cases l <;> rfl

/-- The operation leaves every other buffer alone. -/
theorem result_ne (l : Line sig Val) (V : Valuation τ sig Val) {r : Ref sig .tc} (h : r ≠ l.out) :
    l.op.result V (Proc.devRef .tc r) = V (Proc.devRef .tc r) :=
  HloOp.result_of_not_mem _ _ (by rw [writes_op, Finset.mem_singleton]; exact fun e => h (Proc.devRef_injective _ e))

theorem rd_congr {T : BufTy} {V V' : Valuation τ sig Val} (x : TRef sig T) (h : V (Proc.devRef .tc x.ref) = V' (Proc.devRef .tc x.ref)) :
    rd V x = rd V' x := congrArg x.ofBuf h

/-- The equation speaks of the buffers read and written alone. -/
theorem eqn_congr (l : Line sig Val) {V V' : Valuation τ sig Val} (ho : V (Proc.devRef .tc l.out) = V' (Proc.devRef .tc l.out))
    (hi : ∀ r ∈ l.ins, V (Proc.devRef .tc r) = V' (Proc.devRef .tc r)) (h : l.Eqn V) : l.Eqn V' := by
  cases l <;> simp only [Eqn, ins, out, List.forall_mem_cons] at h hi ho ⊢
  · rw [← rd_congr _ ho]; exact h
  · rw [← rd_congr _ ho, ← rd_congr _ hi.1]; exact h
  · rw [← rd_congr _ ho, ← rd_congr _ hi.1, ← rd_congr _ hi.2.1]; exact h
  · rw [← rd_congr _ ho, ← rd_congr _ hi.1, ← rd_congr _ hi.2.1, ← rd_congr _ hi.2.2.1]; exact h
  · rw [← rd_congr _ ho, ← rd_congr _ hi.1, ← rd_congr _ hi.2.1, ← rd_congr _ hi.2.2.1, ← rd_congr _ hi.2.2.2.1]; exact h
  · rw [← rd_congr _ ho, ← rd_congr _ hi.1]; exact h

theorem ofBuf_toBuf {T : BufTy} (x : TRef sig T) (v : T.Contents Val) : x.ofBuf (x.toBuf v) = v := by
  obtain ⟨r, rfl, _, _⟩ := x; rfl

/-- What the operation writes, from what it reads. -/
theorem eqn_result (l : Line sig Val) (V : Valuation τ sig Val) (h : l.out ∉ l.ins) : l.Eqn (l.op.result V) := by
  have k : ∀ r ∈ l.ins, l.op.result V (Proc.devRef .tc r) = V (Proc.devRef .tc r) :=
    fun r hr => l.result_ne V fun e => h (e ▸ hr)
  cases l <;> simp only [ins, List.forall_mem_cons] at k
  case nul y v =>
    exact (congrArg y.ofBuf (nullary_result _ _ y.dev V)).trans (ofBuf_toBuf y v)
  case un a y f =>
    show _ = f _
    rw [rd_congr a k.1]
    exact (congrArg y.ofBuf (unary_result a.ref y.ref (fun u => y.toBuf (f (a.ofBuf u))) a.dev y.dev V)).trans (ofBuf_toBuf y _)
  case bin a b y f =>
    show _ = f _ _
    rw [rd_congr a k.1, rd_congr b k.2.1]
    exact (congrArg y.ofBuf (binary_result a.ref b.ref y.ref (fun u v => y.toBuf (f (a.ofBuf u) (b.ofBuf v))) a.dev b.dev y.dev V)).trans (ofBuf_toBuf y _)
  case ter a b c y f =>
    show _ = f _ _ _
    rw [rd_congr a k.1, rd_congr b k.2.1, rd_congr c k.2.2.1]
    exact (congrArg y.ofBuf (ternary_result a.ref b.ref c.ref y.ref (fun u v w => y.toBuf (f (a.ofBuf u) (b.ofBuf v) (c.ofBuf w))) a.dev b.dev c.dev y.dev V)).trans (ofBuf_toBuf y _)
  case quat a b c d y f =>
    show _ = f _ _ _ _
    rw [rd_congr a k.1, rd_congr b k.2.1, rd_congr c k.2.2.1, rd_congr d k.2.2.2.1]
    exact (congrArg y.ofBuf (quaternary_result a.ref b.ref c.ref d.ref y.ref (fun t u v w => y.toBuf (f (a.ofBuf t) (b.ofBuf u) (c.ofBuf v) (d.ofBuf w))) a.dev b.dev c.dev d.dev y.dev V)).trans (ofBuf_toBuf y _)
  case resh a y he hn =>
    simp only [Eqn]
    rw [rd_congr a k.1]
    obtain ⟨a, rfl, _, _⟩ := a
    obtain ⟨y, rfl, _, _⟩ := y
    exact reshape_result a y he hn ⟨‹_›, ‹_›⟩ ⟨‹_›, ‹_›⟩ V

end Line

/-- The line's program is the sequence of its operations. -/
def IsLines (p : Prog (TpuEff nD τ sig Val Λ .tc) PUnit) (ls : List (Line sig Val)) : Prop := p = seq (ls.map Line.op)

theorem IsLines.nil : IsLines (nD := nD) (τ := τ) (Λ := Λ) (pure ⟨⟩ : Prog (TpuEff nD τ sig Val Λ .tc) PUnit) ([] : List (Line sig Val)) := rfl

theorem IsLines.cons {o : HloOp τ sig Val} {l : Line sig Val} {k : Prog (TpuEff nD τ sig Val Λ .tc) PUnit}
    {ls : List (Line sig Val)} (ho : o = l.op) (h : IsLines k ls) :
    IsLines ((hlo rfl o fun _ => .ret (⟨⟩ : PUnit)) >>= fun _ => k) (l :: ls) := by
  unfold IsLines at h ⊢; rw [h, ho]; rfl

theorem IsLines.append {p k : Prog (TpuEff nD τ sig Val Λ .tc) PUnit} {l₁ l₂ : List (Line sig Val)}
    (h₁ : IsLines p l₁) (h₂ : IsLines k l₂) : IsLines (p >>= fun _ => k) (l₁ ++ l₂) := by
  unfold IsLines at *; rw [h₁, h₂, List.map_append, seq_append]

theorem IsLines.call {p k : Prog (TpuEff nD τ sig Val Λ .tc) PUnit} {l : Line sig Val} {ls : List (Line sig Val)}
    (h₁ : IsLines p [l]) (h₂ : IsLines k ls) : IsLines (p >>= fun _ => k) (l :: ls) := h₁.append h₂

/-- Every operation writes a buffer numbered `lo` or more, above those that it reads and below those written later. -/
def ordered : ℕ → List (Line sig Val) → Bool
  | _, [] => true
  | lo, l :: ls => decide (lo ≤ l.out.idx.val) && (l.ins.all fun r => decide (r.idx.val < l.out.idx.val)) && ordered (l.out.idx.val + 1) ls

theorem ordered_out : ∀ {lo : ℕ} {ls : List (Line sig Val)}, ordered lo ls = true → ∀ l ∈ ls, lo ≤ l.out.idx.val
  | _, [], _, _, h => nomatch h
  | lo, l :: ls, h, l', hl => by
    simp only [ordered, Bool.and_eq_true, decide_eq_true_eq] at h
    rcases List.mem_cons.mp hl with rfl | hl
    · exact h.1.1
    · have := ordered_out h.2 l' hl; omega

/-- A buffer numbered below all that are written keeps its contents. -/
theorem after_low {lo : ℕ} {ls : List (Line sig Val)} (h : ordered lo ls = true) (V : Valuation τ sig Val) (r : Ref sig .tc)
    (hr : r.idx.val < lo) : after (ls.map Line.op) V (Proc.devRef .tc r) = V (Proc.devRef .tc r) := by
  refine after_of_forall_not_mem _ V fun op hop hb => ?_
  obtain ⟨l, hl, rfl⟩ := List.mem_map.mp hop
  rw [l.writes_op, Finset.mem_singleton] at hb
  have := ordered_out h l hl
  rw [← Proc.devRef_injective _ hb] at this
  omega

/-- The final contents satisfy every operation's equation. -/
theorem eqns {lo : ℕ} : ∀ {ls : List (Line sig Val)}, ordered lo ls = true → ∀ (V : Valuation τ sig Val),
    ∀ l ∈ ls, l.Eqn (after (ls.map Line.op) V) := by
  intro ls
  induction ls generalizing lo with
  | nil => intro _ _ _ h; exact nomatch h
  | cons l ls ih =>
    intro h V l' hl
    simp only [ordered, Bool.and_eq_true, decide_eq_true_eq, List.all_eq_true] at h
    rw [List.map_cons, after_cons]
    rcases List.mem_cons.mp hl with rfl | hl
    · refine l'.eqn_congr (after_low h.2 _ _ (Nat.lt_succ_self _)).symm (fun r hr => (after_low h.2 _ _ ?_).symm) (l'.eqn_result V fun hm => ?_)
      · exact (h.1.2 r hr).trans (Nat.lt_succ_self _)
      · exact absurd (h.1.2 _ hm) (lt_irrefl _)
    · exact ih h.2 _ l' hl

end Cert.Proof.Lines
-- ==== Proof.Reference.Functions.lean ====
/-
  The reference program as straight lines: the lines of each of its functions, of one level of its routing loop, and of the
  whole; the program is the sequence of those lines.
-/
module

public import proofs.«01_k».proof.Defs
public import proofs.«01_k».proof.Proof.Gen.ReferenceIdeal
public import proofs.«01_k».proof.Proof.Lines

@[expose] public section

noncomputable section

namespace Cert.Proof.Reference

open Cert.ReferenceIdeal Cert.Proof.Lines
open Cert.ReferenceIdeal.Facts₀ Cert.ReferenceIdeal.Facts
open Idealize.ShloMosaic Idealize.ShloMosaic.StableHlo Idealize.SL.Sem

/-- One host operation of the reference. -/
abbrev L := Line sig (Elt Ideal)

/-- The contents of an array, by its shape and element type. -/
abbrev Arr (S : Shape) (e : EltTy) : Type := (⟨S, e⟩ : BufTy).Contents (Elt Ideal)

/-- A typed buffer, by its shape and element type. -/
abbrev TR (S : Shape) (e : EltTy) : Type := TRef sig ⟨S, e⟩

/-! ## Lookups of rows -/

/-- The buffers of one lookup: wrapped indices `w`, their column `i`, the in-range mask, the rows, and the masked rows. -/
structure Take (O : Shape) (e : EltTy) where
  (c : TR S_ .i32) (z : TR S1024 .i32) (neg : TR S1024 .i1) (n : TR S_ .i32) (ns : TR S1024 .i32)
  (up w : TR S1024 .i32) (i : TR S1024x1 .i32) (top : TR S1 .i32) (bot : TR S_ .i32) (bots : TR S1024x1 .i32)
  (ge : TR S1024x1 .i1) (top1 : TR S1x1 .i32) (tops : TR S1024x1 .i32) (le ok : TR S1024x1 .i1) (one : TR S_ .i1)
  (all : TR S1024 .i1) (rows : TR O e) (mask : TR O .i1) (nan : TR S_ e) (nans : TR O e) (out : TR O e)

/-- The lines of one lookup in a table of `n` rows, the last of them numbered `top`: `g` takes the rows, `p` and `q` spread
    the mask and the filling value `nan` over the result. -/
def Take.lines {T O : Shape} {e : EltTy} (n top : BitVec 32) (g : Arr T e → Arr S1024x1 .i32 → Arr O e)
    (p : Arr S1024 .i1 → Arr O .i1) (nan : Arr S_ e) (q : Arr S_ e → Arr O e)
    (a : TR T e) (x : TR S1024 .i32) (r : Take O e) : List L :=
  [.nul r.c (constantI S_ 32 0#32),
   .un r.c r.z (broadcastInDim S1024 ![] bcast_S_S1024),
   .bin x r.z r.neg (cmpi .slt),
   .nul r.n (constantI S_ 32 n),
   .un r.n r.ns (broadcastInDim S1024 ![] bcast_S_S1024),
   .bin x r.ns r.up addi,
   .ter r.neg r.up x r.w select,
   .un r.w r.i (broadcastInDim S1024x1 ![0] bcast_S1024_S1024x1_0),
   .nul r.top (constantI S1 32 top),
   .nul r.bot (constantI S_ 32 0#32),
   .un r.bot r.bots (broadcastInDim S1024x1 ![] bcast_S_S1024x1),
   .bin r.i r.bots r.ge (cmpi .sge),
   .un r.top r.top1 (broadcastInDim S1x1 ![1] bcast_S1_S1x1_1),
   .un r.top1 r.tops (broadcastInDim S1024x1 ![0, 1] bcast_S1x1_S1024x1_0_1),
   .bin r.i r.tops r.le (cmpi .sle),
   .bin r.ge r.le r.ok andi,
   .nul r.one (constantI S_ 1 1#1),
   .bin r.ok r.one r.all (fun x v => Host.reduce IntOp.andi x v reducesTo_S1024x1_S1024_d1 h_S_),
   .bin a r.i r.rows g,
   .un r.all r.mask p,
   .nul r.nan nan,
   .un r.nan r.nans q,
   .ter r.mask r.rows r.nans r.out select]

/-- The lines of the lookup of the token embeddings. -/
def takeL (a : TR S1000x128 .f32) (x : TR S1024 .i32) (φ : fn_take.Bufs) : List L :=
  Take.lines 1000#32 999#32 (fun x i => Host.gather gather_S1000x128_S1024x1_S1024x128_1_0_n_n_0_1_1128 x i)
    (broadcastInDim S1024x128 ![0] bcast_S1024_S1024x128_0) (constant (F := Ideal) S_ .f32 0x7FC00000#32) (broadcastInDim S1024x128 ![] bcast_S_S1024x128) a x
    ⟨φ.c, φ.v0, φ.v1, φ.c_0, φ.v2, φ.v3, φ.call0.v0, φ.v5, φ.c_1, φ.c_2, φ.v6, φ.v7, φ.v8, φ.v9, φ.v10, φ.v11, φ.c_3, φ.v12, φ.v13, φ.v14, φ.cst, φ.v15, φ.v16⟩

theorem take_isLines (a : TR S1000x128 .f32) (x : TR S1024 .i32) (φ : fn_take.Bufs) :
    IsLines (fn_take.body (F := Ideal) a x φ) (takeL a x φ) := by
  unfold fn_take.body takeL Take.lines
  repeat first | exact IsLines.nil | refine IsLines.cons rfl ?_ | refine IsLines.append (l₁ := [_]) (IsLines.cons IsLines.nil) ?_

/-- The lines of the lookup of the agents' square weights. -/
def take_0L (a : TR S2000x128x128 .f32) (x : TR S1024 .i32) (φ : fn_take_0.Bufs) : List L :=
  Take.lines 2000#32 1999#32 (fun x i => Host.gather gather_S2000x128x128_S1024x1_S1024x128x128_12_0_n_n_0_1_1128128 x i)
    (broadcastInDim S1024x128x128 ![0] bcast_S1024_S1024x128x128_0) (constant (F := Ideal) S_ .f32 0x7FC00000#32) (broadcastInDim S1024x128x128 ![] bcast_S_S1024x128x128) a x
    ⟨φ.c, φ.v0, φ.v1, φ.c_0, φ.v2, φ.v3, φ.call0.v0, φ.v5, φ.c_1, φ.c_2, φ.v6, φ.v7, φ.v8, φ.v9, φ.v10, φ.v11, φ.c_3, φ.v12, φ.v13, φ.v14, φ.cst, φ.v15, φ.v16⟩

theorem take_0_isLines (a : TR S2000x128x128 .f32) (x : TR S1024 .i32) (φ : fn_take_0.Bufs) :
    IsLines (fn_take_0.body (F := Ideal) a x φ) (take_0L a x φ) := by
  unfold fn_take_0.body take_0L Take.lines
  repeat first | exact IsLines.nil | refine IsLines.cons rfl ?_ | refine IsLines.append (l₁ := [_]) (IsLines.cons IsLines.nil) ?_

/-- The lines of the lookup of the agents' biases. -/
def take_2L (a : TR S2000x128 .f32) (x : TR S1024 .i32) (φ : fn_take_2.Bufs) : List L :=
  Take.lines 2000#32 1999#32 (fun x i => Host.gather gather_S2000x128_S1024x1_S1024x128_1_0_n_n_0_1_1128 x i)
    (broadcastInDim S1024x128 ![0] bcast_S1024_S1024x128_0) (constant (F := Ideal) S_ .f32 0x7FC00000#32) (broadcastInDim S1024x128 ![] bcast_S_S1024x128) a x
    ⟨φ.c, φ.v0, φ.v1, φ.c_0, φ.v2, φ.v3, φ.call0.v0, φ.v5, φ.c_1, φ.c_2, φ.v6, φ.v7, φ.v8, φ.v9, φ.v10, φ.v11, φ.c_3, φ.v12, φ.v13, φ.v14, φ.cst, φ.v15, φ.v16⟩

theorem take_2_isLines (a : TR S2000x128 .f32) (x : TR S1024 .i32) (φ : fn_take_2.Bufs) :
    IsLines (fn_take_2.body (F := Ideal) a x φ) (take_2L a x φ) := by
  unfold fn_take_2.body take_2L Take.lines
  repeat first | exact IsLines.nil | refine IsLines.cons rfl ?_ | refine IsLines.append (l₁ := [_]) (IsLines.cons IsLines.nil) ?_

/-- The lines of the lookup of the agents' routing weights. -/
def take_3L (a : TR S2000x128x4 .f32) (x : TR S1024 .i32) (φ : fn_take_3.Bufs) : List L :=
  Take.lines 2000#32 1999#32 (fun x i => Host.gather gather_S2000x128x4_S1024x1_S1024x128x4_12_0_n_n_0_1_11284 x i)
    (broadcastInDim S1024x128x4 ![0] bcast_S1024_S1024x128x4_0) (constant (F := Ideal) S_ .f32 0x7FC00000#32) (broadcastInDim S1024x128x4 ![] bcast_S_S1024x128x4) a x
    ⟨φ.c, φ.v0, φ.v1, φ.c_0, φ.v2, φ.v3, φ.call0.v0, φ.v5, φ.c_1, φ.c_2, φ.v6, φ.v7, φ.v8, φ.v9, φ.v10, φ.v11, φ.c_3, φ.v12, φ.v13, φ.v14, φ.cst, φ.v15, φ.v16⟩

theorem take_3_isLines (a : TR S2000x128x4 .f32) (x : TR S1024 .i32) (φ : fn_take_3.Bufs) :
    IsLines (fn_take_3.body (F := Ideal) a x φ) (take_3L a x φ) := by
  unfold fn_take_3.body take_3L Take.lines
  repeat first | exact IsLines.nil | refine IsLines.cons rfl ?_ | refine IsLines.append (l₁ := [_]) (IsLines.cons IsLines.nil) ?_

/-- The lines of the lookup of the agents' routing biases. -/
def take_4L (a : TR S2000x4 .f32) (x : TR S1024 .i32) (φ : fn_take_4.Bufs) : List L :=
  Take.lines 2000#32 1999#32 (fun x i => Host.gather gather_S2000x4_S1024x1_S1024x4_1_0_n_n_0_1_14 x i)
    (broadcastInDim S1024x4 ![0] bcast_S1024_S1024x4_0) (constant (F := Ideal) S_ .f32 0x7FC00000#32) (broadcastInDim S1024x4 ![] bcast_S_S1024x4) a x
    ⟨φ.c, φ.v0, φ.v1, φ.c_0, φ.v2, φ.v3, φ.call0.v0, φ.v5, φ.c_1, φ.c_2, φ.v6, φ.v7, φ.v8, φ.v9, φ.v10, φ.v11, φ.c_3, φ.v12, φ.v13, φ.v14, φ.cst, φ.v15, φ.v16⟩

theorem take_4_isLines (a : TR S2000x4 .f32) (x : TR S1024 .i32) (φ : fn_take_4.Bufs) :
    IsLines (fn_take_4.body (F := Ideal) a x φ) (take_4L a x φ) := by
  unfold fn_take_4.body take_4L Take.lines
  repeat first | exact IsLines.nil | refine IsLines.cons rfl ?_ | refine IsLines.append (l₁ := [_]) (IsLines.cons IsLines.nil) ?_

/-- The lines of the lookup of the agents' children. -/
def take_5L (a : TR S2000x4 .i32) (x : TR S1024 .i32) (φ : fn_take_5.Bufs) : List L :=
  Take.lines 2000#32 1999#32 (fun x i => Host.gather gather_S2000x4_S1024x1_S1024x4_1_0_n_n_0_1_14 x i)
    (broadcastInDim S1024x4 ![0] bcast_S1024_S1024x4_0) (constantI S_ 32 2147483648#32) (broadcastInDim S1024x4 ![] bcast_S_S1024x4) a x
    ⟨φ.c, φ.v0, φ.v1, φ.c_0, φ.v2, φ.v3, φ.call0.v0, φ.v5, φ.c_1, φ.c_2, φ.v6, φ.v7, φ.v8, φ.v9, φ.v10, φ.v11, φ.c_3, φ.v12, φ.v13, φ.v14, φ.c_4, φ.v15, φ.v16⟩

theorem take_5_isLines (a : TR S2000x4 .i32) (x : TR S1024 .i32) (φ : fn_take_5.Bufs) :
    IsLines (fn_take_5.body (F := Ideal) a x φ) (take_5L a x φ) := by
  unfold fn_take_5.body take_5L Take.lines
  repeat first | exact IsLines.nil | refine IsLines.cons rfl ?_ | refine IsLines.append (l₁ := [_]) (IsLines.cons IsLines.nil) ?_

/-! ## The other functions -/

/-- The lines of a choice between two arrays of indices. -/
def where_1L (arg0 : TR S1024 .i1) (arg1 : TR S1024 .i32) (arg2 : TR S1024 .i32) (φ : fn_where_1.Bufs) : List L :=
  [.ter arg0 arg1 arg2 φ.v0 select]

theorem where_1_isLines (arg0 : TR S1024 .i1) (arg1 : TR S1024 .i32) (arg2 : TR S1024 .i32) (φ : fn_where_1.Bufs) :
    IsLines (fn_where_1.body (F := Ideal) arg0 arg1 arg2 φ) (where_1L arg0 arg1 arg2 φ) := by
  unfold fn_where_1.body where_1L
  repeat first | exact IsLines.nil | refine IsLines.cons rfl ?_

/-- The lines of the positive part. -/
def reluL (arg0 : TR S1024x128 .f32) (φ : fn_relu.Bufs) : List L :=
  [.nul φ.cst (constant (F := Ideal) S_ .f32 0x00000000#32),
   .un φ.cst φ.v0 (broadcastInDim S1024x128 ![] bcast_S_S1024x128),
   .bin arg0 φ.v0 φ.v1 (maximumf (F := Ideal) (φ := .f32))]

theorem relu_isLines (arg0 : TR S1024x128 .f32) (φ : fn_relu.Bufs) :
    IsLines (fn_relu.body (F := Ideal) arg0 φ) (reluL arg0 φ) := by
  unfold fn_relu.body reluL
  repeat first | exact IsLines.nil | refine IsLines.cons rfl ?_

/-- The lines of the position of a row's first maximum. -/
def argmaxL (arg0 : TR S1024x4 .f32) (φ : fn_argmax.Bufs) : List L :=
  [.nul φ.v0 (iotaInDim S1024x4 32 1),
   .nul φ.cst (constant (F := Ideal) S_ .f32 0xFF800000#32),
   .nul φ.c (constantI S_ 32 0#32),
   .quat arg0 φ.v0 φ.cst φ.c φ.v1_0 (fun x y u v j => (Host.argReduce (F := Ideal) reducer_argmax_f32_i32 x y u v reducesTo_S1024x4_S1024_d1 h_S_ j).1),
   .quat arg0 φ.v0 φ.cst φ.c φ.v1_1 (fun x y u v j => (Host.argReduce (F := Ideal) reducer_argmax_f32_i32 x y u v reducesTo_S1024x4_S1024_d1 h_S_ j).2)]

theorem argmax_isLines (arg0 : TR S1024x4 .f32) (φ : fn_argmax.Bufs) :
    IsLines (fn_argmax.body (F := Ideal) arg0 φ) (argmaxL arg0 φ) := by
  unfold fn_argmax.body argmaxL
  repeat first | exact IsLines.nil | refine IsLines.cons rfl ?_

/-- The lines of the bounds put on an array of indices. -/
def clipL (arg0 : TR S1024 .i32) (arg1 : TR S_ .i32) (arg2 : TR S_ .i32) (φ : fn_clip.Bufs) : List L :=
  [.un arg1 φ.v0 id,
   .un φ.v0 φ.v1 (broadcastInDim S1024 ![] bcast_S_S1024),
   .bin φ.v1 arg0 φ.v2 maxsi,
   .un arg2 φ.v3 id,
   .un φ.v3 φ.v4 (broadcastInDim S1024 ![] bcast_S_S1024),
   .bin φ.v4 φ.v2 φ.v5 minsi]

theorem clip_isLines (arg0 : TR S1024 .i32) (arg1 : TR S_ .i32) (arg2 : TR S_ .i32) (φ : fn_clip.Bufs) :
    IsLines (fn_clip.body (F := Ideal) arg0 arg1 arg2 φ) (clipL arg0 arg1 arg2 φ) := by
  unfold fn_clip.body clipL
  repeat first | exact IsLines.nil | refine IsLines.cons rfl ?_

/-- The lines of the choice of one entry of each row. -/
def take_along_axisL (arg0 : TR S1024x4 .i32) (arg1 : TR S1024x1 .i32) (φ : fn_take_along_axis.Bufs) : List L :=
  [.nul φ.c (constantI S_ 32 0#32),
   .un φ.c φ.v0 (broadcastInDim S1024x1 ![] bcast_S_S1024x1),
   .bin arg1 φ.v0 φ.v1 (cmpi .slt),
   .nul φ.c_0 (constantI S_ 32 4#32),
   .un φ.c_0 φ.v2 (broadcastInDim S1024x1 ![] bcast_S_S1024x1),
   .bin arg1 φ.v2 φ.v3 addi,
   .ter φ.v1 φ.v3 arg1 φ.v4 select,
   .resh φ.v4 φ.v5 rfl shapeCasts_S1024x1_S1024x1x1,
   .nul φ.c_1 (constantI S1 32 3#32),
   .nul φ.c_2 (constantI S_ 32 0#32),
   .un φ.c_2 φ.v6 (broadcastInDim S1024x1x1 ![] bcast_S_S1024x1x1),
   .bin φ.v5 φ.v6 φ.v7 (cmpi .sge),
   .un φ.c_1 φ.v8 (broadcastInDim S1x1x1 ![2] bcast_S1_S1x1x1_2),
   .un φ.v8 φ.v9 (broadcastInDim S1024x1x1 ![0, 1, 2] bcast_S1x1x1_S1024x1x1_0_1_2),
   .bin φ.v5 φ.v9 φ.v10 (cmpi .sle),
   .bin φ.v7 φ.v10 φ.v11 andi,
   .nul φ.c_3 (constantI S_ 1 1#1),
   .bin φ.v11 φ.c_3 φ.v12 (fun x v => Host.reduce IntOp.andi x v reducesTo_S1024x1x1_S1024x1_d2 h_S_),
   .bin arg0 φ.v5 φ.v13 (fun x i => Host.gather gather_S1024x4_S1024x1x1_S1024x1_n_1_0_0_1_2_11 x i),
   .nul φ.c_4 (constantI S_ 32 2147483648#32),
   .un φ.c_4 φ.v14 (broadcastInDim S1024x1 ![] bcast_S_S1024x1),
   .ter φ.v12 φ.v13 φ.v14 φ.v15 select]

theorem take_along_axis_isLines (arg0 : TR S1024x4 .i32) (arg1 : TR S1024x1 .i32) (φ : fn_take_along_axis.Bufs) :
    IsLines (fn_take_along_axis.body (F := Ideal) arg0 arg1 φ) (take_along_axisL arg0 arg1 φ) := by
  unfold fn_take_along_axis.body take_along_axisL
  repeat first | exact IsLines.nil | refine IsLines.cons rfl ?_

/-! ## One level of the routing loop -/

/-- The buffers of one level, but those of the agents it starts from. -/
structure Level where
  (w1 : fn_take_0.Bufs) (b1 : fn_take_2.Bufs) (dot1 pre : TR S1024x128 .f32) (hid : fn_relu.Bufs)
  (w2 : fn_take_0.Bufs) (b2 : fn_take_2.Bufs) (dot2 out : TR S1024x128 .f32)
  (wr : fn_take_3.Bufs) (br : fn_take_4.Bufs) (dot3 logit : TR S1024x4 .f32) (best : fn_argmax.Bufs)
  (lo hi : TR S_ .i32) (clip : fn_clip.Bufs) (kids : fn_take_5.Bufs) (col : TR S1024x1 .i32)
  (pick : fn_take_along_axis.Bufs) (kid : TR S1024 .i32) (m1 : TR S_ .i32) (m1s : TR S1024 .i32) (ne : TR S1024 .i1)
  (next : fn_where_1.Bufs)

/-- The lines of a level's hidden layer, of the agents in `x`. -/
def Level.hidden (r : Level) (x : TR S1024 .i32) : List L :=
  take_0L (.of main_arg2) x r.w1 ++ (take_2L (.of main_arg3) x r.b1 ++
  (.bin (.of main_v0) r.w1.v16 r.dot1 (fun l r => Host.dotGeneral (F := Ideal) (φ₁ := .f32) (φ₂ := .f32) dot_S1024x128_S1024x128x128_S1024x128_1_1_n_2_0_0 none l r) ::
   .bin r.dot1 r.b1.v16 r.pre (addf (F := Ideal) (φ := .f32)) :: (reluL r.pre r.hid ++ [])))

/-- The lines of a level's output, logits and choice of the next agents. -/
def Level.route (r : Level) (x : TR S1024 .i32) : List L :=
  take_0L (.of main_arg4) x r.w2 ++ (take_2L (.of main_arg5) x r.b2 ++
  (.bin r.hid.v1 r.w2.v16 r.dot2 (fun l r => Host.dotGeneral (F := Ideal) (φ₁ := .f32) (φ₂ := .f32) dot_S1024x128_S1024x128x128_S1024x128_1_1_n_2_0_0 none l r) ::
   .bin r.dot2 r.b2.v16 r.out (addf (F := Ideal) (φ := .f32)) ::
  (take_3L (.of main_arg6) x r.wr ++ (take_4L (.of main_arg7) x r.br ++
  (.bin r.hid.v1 r.wr.v16 r.dot3 (fun l r => Host.dotGeneral (F := Ideal) (φ₁ := .f32) (φ₂ := .f32) dot_S1024x128_S1024x128x4_S1024x4_1_1_n_2_0_0 none l r) ::
   .bin r.dot3 r.br.v16 r.logit (addf (F := Ideal) (φ := .f32)) ::
  (argmaxL r.logit r.best ++
  (.nul r.lo (constantI S_ 32 0#32) :: .nul r.hi (constantI S_ 32 1999#32) ::
  (clipL x r.lo r.hi r.clip ++ (take_5L (.of main_arg10) r.clip.v5 r.kids ++
  (.un r.best.v1_1 r.col (broadcastInDim S1024x1 ![0] bcast_S1024_S1024x1_0) ::
  (take_along_axisL r.kids.v16 r.col r.pick ++
  (.resh r.pick.v15 r.kid rfl shapeCasts_S1024x1_S1024 ::
   .nul r.m1 (constantI S_ 32 4294967295#32) ::
   .un r.m1 r.m1s (broadcastInDim S1024 ![] bcast_S_S1024) ::
   .bin r.kid r.m1s r.ne (cmpi .ne) ::
  (where_1L r.ne r.kid r.clip.v5 r.next ++ [])))))))))))))

/-- The buffers of level 0. -/
noncomputable def lvl0 : Level :=
  ⟨main_call1, main_call2, .of main_v5, .of main_v6, main_call3, main_call4, main_call5, .of main_v10, .of main_v11,
   main_call6, main_call7, .of main_v14, .of main_v15, main_call8, .of main_c_0, .of main_c_1, main_call9, main_call10, .of main_v19,
   main_call11, .of main_v21, .of main_c_2, .of main_v22, .of main_v23, main_call12⟩

/-- The buffers of level 1. -/
noncomputable def lvl1 : Level :=
  ⟨main_call13, main_call14, .of main_v27, .of main_v28, main_call15, main_call16, main_call17, .of main_v32, .of main_v33,
   main_call18, main_call19, .of main_v36, .of main_v37, main_call20, .of main_c_3, .of main_c_4, main_call21, main_call22, .of main_v41,
   main_call23, .of main_v43, .of main_c_5, .of main_v44, .of main_v45, main_call24⟩

/-- The buffers of level 2. -/
noncomputable def lvl2 : Level :=
  ⟨main_call25, main_call26, .of main_v49, .of main_v50, main_call27, main_call28, main_call29, .of main_v54, .of main_v55,
   main_call30, main_call31, .of main_v58, .of main_v59, main_call32, .of main_c_6, .of main_c_7, main_call33, main_call34, .of main_v63,
   main_call35, .of main_v65, .of main_c_8, .of main_v66, .of main_v67, main_call36⟩

/-- The buffers of level 3. -/
noncomputable def lvl3 : Level :=
  ⟨main_call37, main_call38, .of main_v71, .of main_v72, main_call39, main_call40, main_call41, .of main_v76, .of main_v77,
   main_call42, main_call43, .of main_v80, .of main_v81, main_call44, .of main_c_9, .of main_c_10, main_call45, main_call46, .of main_v85,
   main_call47, .of main_v87, .of main_c_11, .of main_v88, .of main_v89, main_call48⟩

/-! ## The whole program -/

/-- The lines ahead of the first level: the token embeddings, and the root as every row's agent. -/
def headL : List L :=
  takeL (.of main_arg1) (.of main_arg0) main_call0 ++
  [.nul (.of main_c : TR S_ .i32) (constantI S_ 32 0#32),
   .un (.of main_c : TR S_ .i32) (.of main_v1 : TR S1024 .i32) (broadcastInDim S1024 ![] bcast_S_S1024),
   .nul (.of main_cst : TR S_ .f32) (constant (F := Ideal) S_ .f32 0x00000000#32),
   .un (.of main_cst : TR S_ .f32) (.of main_v2 : TR S1024x128 .f32) (broadcastInDim S1024x128 ![] bcast_S_S1024x128)]

/-- The lines after the last level: the output layer. -/
def tailL : List L :=
  [.bin (.of main_v77 : TR S1024x128 .f32) (.of main_arg8 : TR S128x1000 .f32) (.of main_v91 : TR S1024x1000 .f32)
    (fun l r => Host.dotGeneral (F := Ideal) (φ₁ := .f32) (φ₂ := .f32) dot_S1024x128_S128x1000_S1024x1000_1_0_0_1_n_n none l r),
   .un (.of main_arg9 : TR S1000 .f32) (.of main_v92 : TR S1x1000 .f32) (broadcastInDim S1x1000 ![1] bcast_S1000_S1x1000_1),
   .un (.of main_v92 : TR S1x1000 .f32) (.of main_v93 : TR S1024x1000 .f32) (broadcastInDim S1024x1000 ![0, 1] bcast_S1x1000_S1024x1000_0_1),
   .bin (.of main_v91 : TR S1024x1000 .f32) (.of main_v93 : TR S1024x1000 .f32) (.of main_v94 : TR S1024x1000 .f32) (addf (F := Ideal) (φ := .f32))]

/-- The lines of the program's first half. -/
def lines0 : List L :=
  headL ++ (lvl0.hidden (.of main_v1) ++ (lvl0.route (.of main_v1) ++ (lvl1.hidden (.of main_v24) ++ (lvl1.route (.of main_v24) ++
    lvl2.hidden (.of main_v46)))))

/-- The lines of the program's second half. -/
def lines1 : List L :=
  lvl2.route (.of main_v46) ++ (lvl3.hidden (.of main_v68) ++ (lvl3.route (.of main_v68) ++ tailL))

end Cert.Proof.Reference
-- ==== Proof.Reference.Run.lean ====
/-
  The reference program is the sequence of its lines; what a run of it leaves.
-/
module

public import proofs.«01_k».proof.Proof.Reference.Functions
public import Idealize.ShloMosaic.Lib.StableHlo.Run
public import Idealize.ShloMosaic.Lib.Quiescent

@[expose] public section

noncomputable section

namespace Cert.Proof.Reference

open Cert.ReferenceIdeal Cert.Proof.Lines
open Idealize.ShloMosaic Idealize.ShloMosaic.StableHlo Idealize.SL.Sem

/-- The program's lines. -/
def lines : List L := lines0 ++ lines1

set_option maxRecDepth 20000 in
theorem part0_isLines (d : Dev nD) : IsLines (main_part0 (F := Ideal) d) lines0 := by
  unfold main_part0 lines0 headL Level.hidden Level.route
  simp only [lvl0, lvl1, lvl2, lvl3, List.append_assoc, List.cons_append, List.nil_append]
  repeat first
    | with_reducible exact relu_isLines _ _
    | with_reducible refine IsLines.append (take_isLines _ _ _) ?_
    | with_reducible refine IsLines.append (take_0_isLines _ _ _) ?_
    | with_reducible refine IsLines.append (take_2_isLines _ _ _) ?_
    | with_reducible refine IsLines.append (take_3_isLines _ _ _) ?_
    | with_reducible refine IsLines.append (take_4_isLines _ _ _) ?_
    | with_reducible refine IsLines.append (take_5_isLines _ _ _) ?_
    | with_reducible refine IsLines.append (relu_isLines _ _) ?_
    | with_reducible refine IsLines.append (argmax_isLines _ _) ?_
    | with_reducible refine IsLines.append (clip_isLines _ _ _ _) ?_
    | with_reducible refine IsLines.append (take_along_axis_isLines _ _ _) ?_
    | with_reducible refine IsLines.append (where_1_isLines _ _ _ _) ?_
    | refine IsLines.cons rfl ?_
    | exact IsLines.nil

set_option maxRecDepth 20000 in
theorem part1_isLines (d : Dev nD) : IsLines (main_part1 (F := Ideal) d) lines1 := by
  unfold main_part1 lines1 tailL Level.hidden Level.route
  simp only [lvl0, lvl1, lvl2, lvl3, List.append_assoc, List.cons_append, List.nil_append]
  repeat first
    | with_reducible refine IsLines.append (take_0_isLines _ _ _) ?_
    | with_reducible refine IsLines.append (take_2_isLines _ _ _) ?_
    | with_reducible refine IsLines.append (take_3_isLines _ _ _) ?_
    | with_reducible refine IsLines.append (take_4_isLines _ _ _) ?_
    | with_reducible refine IsLines.append (take_5_isLines _ _ _) ?_
    | with_reducible refine IsLines.append (relu_isLines _ _) ?_
    | with_reducible refine IsLines.append (argmax_isLines _ _) ?_
    | with_reducible refine IsLines.append (clip_isLines _ _ _ _) ?_
    | with_reducible refine IsLines.append (take_along_axis_isLines _ _ _) ?_
    | with_reducible refine IsLines.append (where_1_isLines _ _ _ _) ?_
    | refine IsLines.cons rfl ?_
    | exact IsLines.nil

theorem main_isLines (d : Dev nD) : IsLines (main (F := Ideal) d) lines :=
  (part0_isLines d).append (part1_isLines d)

theorem lines_ordered : ordered 11 lines = true := by decide +kernel

/-- After a run every buffer holds what the lines leave there, and no semaphore is set. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (d : Dev nD) (b : Ref sig .tc), r.2.mem ((d.tc : Thread nD τ).loc b)
        = after (lines.map Line.op) (launchContents m d) (Proc.devRef .tc b)) ∧ r.2.sem = fun _ => 0 :=
  (θ_run _ _ _).mono (fun r h => ⟨h, sem_eq_zero_of_no_sems (by decide) r.2⟩)
    (run_seq (by decide) (by decide) _ _ (fun _ => lines.map Line.op) main_isLines
      (fun _ => List.forall_iff_forall_mem.mpr fun o ho => by
        obtain ⟨l, _, rfl⟩ := List.mem_map.mp ho; exact l.bufs_op) m ρ
      (fun _ o ho => by obtain ⟨l, _, rfl⟩ := List.mem_map.mp ho; exact l.fresh_op))

/-- The argument arrays keep their contents. -/
theorem arg_kept (V : Valuation τ sig (Elt Ideal)) (r : Ref sig .tc) (hr : r.idx.val < 11) :
    after (lines.map Line.op) V (Proc.devRef .tc r) = V (Proc.devRef .tc r) := after_low lines_ordered V r hr

end Cert.Proof.Reference
-- ==== Proof.Frames.lean ====
/-
  The frames: from the precondition, both printings of the kernel run to the end with their arguments unchanged and every
  semaphore at zero; so does the reference, from any memory.
-/
module

public import proofs.«01_k».proof.Proof.Pre
public import proofs.«01_k».proof.Proof.Kernel.Frame
public import proofs.«01_k».proof.Proof.KernelIdeal.Frame
public import proofs.«01_k».proof.Proof.Reference.Run

@[expose] public section

noncomputable section

namespace Cert.Proof

open Idealize.ShloMosaic Idealize.SL.Sem

theorem inRange_bits (m : (ℓ : Loc Cert.Kernel.nD Cert.Kernel.τ Cert.Kernel.sig) → Buf (Elt Bits) ℓ) (h : Cert.Pre_Kernel m) :
    Kernel.InRange m := fun d j => Pre.token_lt (h d) j

theorem inRange_ideal (m : (ℓ : Loc Cert.KernelIdeal.nD Cert.KernelIdeal.τ Cert.KernelIdeal.sig) → Buf (Elt Ideal) ℓ)
    (h : Cert.Pre_KernelIdeal m) : KernelIdeal.InRange m := fun d j => Pre.token_lt (h d) j

/-- The kernel's frame, of machine words. -/
theorem quiescent_kernel : Cert.quiescent_Kernel := by
  intro m g h
  refine (θ_run _ _ _).mono (fun r k => ⟨fun c => ?_, k.2⟩) (Kernel.run_args m g (inRange_bits m h))
  have a := (k.1 c).2
  simpa only [Kernel.argRefs, List.forall_mem_cons, List.not_mem_nil, false_implies, implies_true, and_true] using a

/-- The kernel's frame, of extended reals. -/
theorem quiescent_kernelIdeal : Cert.quiescent_KernelIdeal := by
  intro m g h
  refine (θ_run _ _ _).mono (fun r k => ⟨fun c => ?_, k.2⟩) (KernelIdeal.run_args m g (inRange_ideal m h))
  have a := (k.1 c).2
  simpa only [KernelIdeal.argRefs, List.forall_mem_cons, List.not_mem_nil, false_implies, implies_true, and_true] using a

namespace Reference

open Cert.ReferenceIdeal Cert.Proof.Lines Idealize.ShloMosaic.StableHlo

/-- A run of the reference leaves its arguments as they were, and every other buffer as its lines leave it. -/
theorem run_args (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ d : Dev nD, r.2.mem ((d.tc : Thread nD τ).loc main_v94) = after (lines.map Line.op) (launchContents m d) (Proc.devRef .tc main_v94)
        ∧ ∀ a : Ref sig .tc, a.idx.val < 11 → r.2.mem ((d.tc : Thread nD τ).loc a) = m ((d.tc : Thread nD τ).loc a)) ∧ r.2.sem = fun _ => 0 :=
  (θ_run _ _ _).mono (fun r h => ⟨fun d => ⟨h.1 d _, fun a ha => (h.1 d a).trans (arg_kept _ a ha)⟩, h.2⟩) (run m ρ)

end Reference

/-- The reference's frame. -/
theorem quiescent_referenceIdeal : Cert.quiescent_ReferenceIdeal := by
  intro m g _
  refine (θ_run _ _ _).mono (fun r k => ⟨fun c => ?_, k.2⟩) (Reference.run_args m g)
  have a := (k.1 c).2
  refine ⟨?_, ?_, ?_, ?_, ?_, ?_, ?_, ?_, ?_, ?_, ?_⟩ <;> exact a _ (by decide)

theorem quiescent_referenceIdeal_pre : Cert.quiescent_ReferenceIdeal_pre_tree :=
  fun m g _ => quiescent_referenceIdeal m g trivial

end Cert.Proof
-- ==== Proof.Spec.lean ====
/-
  What the network computes for one row, in plain sums: a walk of three steps down a tree of agents, each step to the
  child whose routing score is greatest, then the last agent's two layers and the output layer. And the two facts about
  sums that the kernel's way of picking an agent rests on: a sum over all agents in which all but one are multiplied by
  zero is that one's sum.
-/
module

public import Idealize.ShloMosaic.PureOps.Ideal

@[expose] public section

noncomputable section

namespace Cert.Proof.Spec

/-- The parameters: each agent's two layers and its routing layer, and the output layer. -/
structure Net where
  /-- first weights -/
  w1 : ℕ → Fin 128 → Fin 128 → EReal
  /-- first biases -/
  b1 : ℕ → Fin 128 → EReal
  /-- second weights -/
  w2 : ℕ → Fin 128 → Fin 128 → EReal
  /-- second biases -/
  b2 : ℕ → Fin 128 → EReal
  /-- routing weights -/
  wr : ℕ → Fin 128 → Fin 4 → EReal
  /-- routing biases -/
  br : ℕ → Fin 4 → EReal
  /-- output weights -/
  wo : Fin 128 → Fin 1000 → EReal
  /-- output biases -/
  bo : Fin 1000 → EReal

variable (N : Net) (x : Fin 128 → EReal)

/-- Agent `a`'s hidden layer. -/
def hid (a : ℕ) (k : Fin 128) : EReal := max ((∑ j, x j * N.w1 a j k) + N.b1 a k) 0

/-- Agent `a`'s routing scores. -/
def score (a : ℕ) (q : Fin 4) : EReal := (∑ k, hid N x a k * N.wr a k q) + N.br a q

/-- The greatest of the first two, of the first three numbers. -/
def top2 (r : Fin 4 → EReal) : EReal := if r 0 < r 1 then r 1 else r 0
@[inherit_doc top2] def top3 (r : Fin 4 → EReal) : EReal := if top2 r < r 2 then r 2 else top2 r

/-- The place of the greatest of four numbers, the first such place. -/
def best (r : Fin 4 → EReal) : ℕ :=
  if top3 r < r 3 then 3 else if top2 r < r 2 then 2 else if r 0 < r 1 then 1 else 0

/-- The agent that the row is at after `d` steps: the children of agent `a` are `4 a + 1` to `4 a + 4`. -/
def walk : ℕ → ℕ
  | 0 => 0
  | d + 1 => 4 * walk d + 1 + best (score N x (walk d))

/-- Agent `a`'s second layer. -/
def out (a : ℕ) (k : Fin 128) : EReal := (∑ j, hid N x a j * N.w2 a j k) + N.b2 a k

/-- The row's result. -/
def result (v : Fin 1000) : EReal := (∑ k, out N x (walk N x 3) k * N.wo k v) + N.bo v

theorem best_lt (r : Fin 4 → EReal) : best r < 4 := by
  unfold best; split_ifs <;> decide

theorem walk_one : 1 ≤ walk N x 1 ∧ walk N x 1 < 5 := by
  have := best_lt (score N x (walk N x 0))
  simp only [walk] at *; omega

theorem walk_two : 5 ≤ walk N x 2 ∧ walk N x 2 < 21 := by
  have := best_lt (score N x (walk N x 1)); have := walk_one N x
  have h : walk N x 2 = 4 * walk N x 1 + 1 + best (score N x (walk N x 1)) := rfl
  omega

theorem walk_three : 21 ≤ walk N x 3 ∧ walk N x 3 < 85 := by
  have := best_lt (score N x (walk N x 2)); have := walk_two N x
  have h : walk N x 3 = 4 * walk N x 2 + 1 + best (score N x (walk N x 2)) := rfl
  omega

/-! ## Picking one agent by zeros -/

/-- The number that a test becomes: one where it holds, zero where it does not. -/
def bit (p : Prop) [Decidable p] : EReal := if p then 1 else 0

/-- A sum of rows multiplied by the test for one of them is that row. -/
theorem sum_pick {n : ℕ} (e : Fin n) (f : Fin n → EReal) : ∑ i : Fin n, bit (i.val = e.val) * f i = f e := by
  rw [Finset.sum_eq_single e]
  · simp [bit]
  · intro i _ hi; simp [bit, Fin.val_ne_of_ne hi]
  · simp

/-- The place of `c` within its agent's 128. -/
abbrev lane (c : ℕ) : Fin 128 := ⟨c % 128, Nat.mod_lt _ (by decide)⟩

/-- A sum over `n` agents of 128 places each, agent by agent. -/
theorem sum_agents {n M : ℕ} (hM : n * 128 = M) (f : ℕ → Fin 128 → EReal) :
    ∑ c : Fin M, f (c.val / 128) (lane c.val) = ∑ i : Fin n, ∑ k, f i.val k := by
  subst hM
  rw [← finProdFinEquiv.sum_comp, Fintype.sum_prod_type]
  refine Finset.sum_congr rfl fun i _ => Finset.sum_congr rfl fun k _ => ?_
  have h1 : (k.val + 128 * i.val) / 128 = i.val := by have := k.2; omega
  have h2 : (k.val + 128 * i.val) % 128 = k.val := by have := k.2; omega
  simp [finProdFinEquiv, h1, h2, lane]

/-- The hidden layers of the agents `o` to `o + n - 1`, each multiplied by the test whether it is agent `a`'s, against
those agents' weights: agent `a`'s layer against its weights if it is among them, and zero otherwise. -/
theorem sum_block {n M : ℕ} (hM : n * 128 = M) (o a : ℕ) (h w g : Fin M → EReal) (gg : ℕ → Fin 128 → EReal)
    (hh : ∀ c, h c = hid N x (o + c.val / 128) (lane c.val)) (hw : ∀ c : Fin M, w c = bit (o + c.val / 128 = a))
    (hg : ∀ c, g c = gg (o + c.val / 128) (lane c.val)) :
    ∑ c, h c * w c * g c = if o ≤ a ∧ a < o + n then ∑ k, hid N x a k * gg a k else 0 := by
  have hc : ∀ c, h c * w c * g c
      = (fun i k => hid N x (o + i) k * bit (o + i = a) * gg (o + i) k) (c.val / 128) (lane c.val) := fun c => by
    rw [hh, hw, hg]
  refine (Finset.sum_congr rfl fun c _ => hc c).trans ((sum_agents hM
    fun i k => hid N x (o + i) k * bit (o + i = a) * gg (o + i) k).trans ?_)
  split_ifs with hr
  · rw [Finset.sum_eq_single (⟨a - o, by omega⟩ : Fin n)]
    · have : o + (a - o) = a := by omega
      simp [this, bit]
    · intro i _ hi
      have : o + i.val ≠ a := fun e => hi (Fin.ext (by simp; omega))
      simp [bit, this]
    · simp
  · refine Finset.sum_eq_zero fun i _ => Finset.sum_eq_zero fun k _ => ?_
    have : o + i.val ≠ a := by have := i.2; omega
    simp [bit, this]

/-- A test of 32-bit words less a constant is a test of the numbers. -/
theorem bit_sub (c a o : ℕ) (ho : o ≤ a) (ha : a < 1000) (hc : c < 1000) :
    bit (BitVec.ofNat 32 c = BitVec.ofNat 32 a - BitVec.ofNat 32 o) = bit (o + c = a) := by
  have : BitVec.ofNat 32 c = BitVec.ofNat 32 a - BitVec.ofNat 32 o ↔ o + c = a := by
    constructor
    · intro h
      have h := congrArg BitVec.toNat h
      simp only [BitVec.toNat_ofNat, BitVec.toNat_sub] at h
      omega
    · rintro rfl
      apply BitVec.eq_of_toNat_eq
      simp only [BitVec.toNat_ofNat, BitVec.toNat_sub]
      omega
  unfold bit; simp only [this]

/-- The next agent's number, in 32-bit words. -/
theorem next_word (a b : ℕ) :
    4#32 * BitVec.ofNat 32 a + 1#32 + BitVec.ofNat 32 b = BitVec.ofNat 32 (4 * a + 1 + b) := by
  simp [BitVec.ofNat_add, BitVec.ofNat_mul]

end Cert.Proof.Spec
-- ==== Proof.Tables.lean ====
/-
  The network whose parameters are the rows of the argument arrays.
-/
module

public import proofs.«01_k».proof.Proof.Spec
public import Idealize.ShloMosaic.Lib.Pointwise

@[expose] public section

noncomputable section

namespace Cert.Proof.Spec

open Idealize.ShloMosaic

/-- The row of a table of two thousand that an agent's number names. -/
abbrev agent (a : ℕ) : Fin 2000 := ⟨a % 2000, Nat.mod_lt _ (by decide)⟩

/-- The network of the argument arrays: agent `a`'s parameters are the tables' rows `a`. -/
def netOf (w1 : Vec Ideal ⟨3, ![2000, 128, 128]⟩ .f32) (b1 : Vec Ideal ⟨2, ![2000, 128]⟩ .f32)
    (w2 : Vec Ideal ⟨3, ![2000, 128, 128]⟩ .f32) (b2 : Vec Ideal ⟨2, ![2000, 128]⟩ .f32)
    (wr : Vec Ideal ⟨3, ![2000, 128, 4]⟩ .f32) (br : Vec Ideal ⟨2, ![2000, 4]⟩ .f32)
    (wo : Vec Ideal ⟨2, ![128, 1000]⟩ .f32) (bo : Vec Ideal ⟨1, ![1000]⟩ .f32) : Net where
  w1 a j k := w1 (ix3 (agent a) j k)
  b1 a k := b1 (ix2 (agent a) k)
  w2 a j k := w2 (ix3 (agent a) j k)
  b2 a k := b2 (ix2 (agent a) k)
  wr a k q := wr (ix3 (agent a) k q)
  br a q := br (ix2 (agent a) q)
  wo k v := wo (ix2 k v)
  bo v := bo (ix1 v)

/-- The row of the embedding table that a token names. -/
def tokenRow (idx : Vec Ideal ⟨1, ![1024]⟩ .i32) (e : Vec Ideal ⟨2, ![1000, 128]⟩ .f32) (n : Fin 1024) (j : Fin 128) : EReal :=
  e (ix2 ⟨(idx (ix1 n)).toNat % 1000, Nat.mod_lt _ (by decide)⟩ j)

end Cert.Proof.Spec
-- ==== Proof.KernelIdeal.Levels.lean ====
/-
  The kernel's body, value by value, at the exact numbers: where its nineteen windows hold the network's parameters, the
  agent of each level is the walk's, and the output is the walk's result.
-/
module

public import proofs.«01_k».proof.Proof.Spec
public import proofs.«01_k».proof.Proof.KernelIdeal.Body
public import Idealize.ShloMosaic.Lib.Pointwise

@[expose] public section

noncomputable section

namespace Cert.Proof.KernelIdeal

open Cert.KernelIdeal Cert.KernelIdeal.Gen
open Idealize.ShloMosaic Cert.Proof.Spec

/-! ## Words -/

/-- A test for equality, widened and made a number. -/
theorem bit_apply (a b : BitVec 32) :
    FloatOps.sitofp (F := Ideal) .f32 (BitVec.setWidth 32 (IntOp.cmpi .eq a b)) = bit (a = b) := by
  unfold bit IntOp.cmpi
  split_ifs with h
  · simp [h, FloatOps.sitofp]
  · have : (a == b) = false := by simpa using h
    simp [this, FloatOps.sitofp]

/-- A place shifted right by seven is the number of its agent. -/
theorem shr_apply (c : ℕ) (h : c < 8192) :
    IntOp.shrsi .vector (BitVec.ofNat 32 c) 7#32 = BitVec.ofNat 32 (c / 128) := by
  have hm : (BitVec.ofNat 32 c).msb = false := by
    rw [BitVec.msb_eq_decide]; simp; omega
  have e : (BitVec.ofNat 32 c).sshiftRight 7 = BitVec.ofNat 32 (c / 128) := by
    rw [BitVec.sshiftRight_eq_of_msb_false hm]
    apply BitVec.eq_of_toNat_eq
    simp [Nat.shiftRight_eq_div_pow]; omega
  exact e

/-! ## The payloads at an index -/

/-- Level 0's step. -/
theorem pay3_apply (x : Vec Ideal S1024x128 .f32) (w : Vec Ideal S128x128 .bf16) (b : Vec Ideal S1x128 .f32)
    (r : Vec Ideal S128x4 .bf16) (c : Vec Ideal S1x4 .f32) (n : Fin 1024) (z : Fin 1) :
    k1_pay3 (F := Ideal) x w b r c (ix2 n z) = 1#32 + BitVec.ofNat 32 (best fun q =>
      (∑ k : Fin 128, max ((∑ j : Fin 128, x (ix2 n j) * w (ix2 j k)) + b (ix2 0 k)) 0 * r (ix2 k q)) + c (ix2 0 q)) := by
  pointwise [k1_pay3, k1_pay2]
  simp only [best, top3, top2, apply_ite (BitVec.ofNat 32)]
  rfl

/-- Level 1's scores. -/
theorem pay5_apply (x : Vec Ideal S1024x128 .f32) (cu : IVec S1024x1 32) (w : Vec Ideal S128x512 .bf16)
    (b : Vec Ideal S1x512 .f32) (r : Vec Ideal S512x4 .bf16) (c : Vec Ideal S4x4 .f32) (n : Fin 1024) (q : Fin 4) :
    k1_pay5 (F := Ideal) x cu w b r c (ix2 n q)
      = (∑ k : Fin 512, max ((∑ j : Fin 128, x (ix2 n j) * w (ix2 j k)) + b (ix2 0 k)) 0
            * bit (BitVec.ofNat 32 (k.val / 128) = cu (ix2 n 0) - 1#32) * r (ix2 k q))
          + ∑ e : Fin 4, bit (BitVec.ofNat 32 e.val = cu (ix2 n 0) - 1#32) * c (ix2 e q) := by
  pointwise [k1_pay5]
  simp only [bit_apply]
  refine congrArg₂ (· + ·) (Finset.sum_congr rfl fun k _ => ?_) rfl
  rw [shr_apply _ (by omega)]
  rfl

/-- Level 1's step, from the scores. -/
theorem cur2_apply (i : Ins Ideal) (n : Fin 1024) (z : Fin 1) :
    aCur2 i (ix2 n z) = 4#32 * aCur1 i (ix2 n z) + 1#32 + BitVec.ofNat 32 (best fun q => aRoute1 i (ix2 n q)) := by
  pointwise [aCur2, k1_pay11, aBest1, aBest1b, aBest1c, aBest1d, k1_pay10, k1_pay9, k1_pay8, k1_pay7, aRoute1, aBase1,
    k1_pay6]
  simp only [best, top3, top2, apply_ite (BitVec.ofNat 32)]
  rfl

/-- Level 2's routing product. -/
theorem pay13_apply (x : Vec Ideal S1024x128 .f32) (a : FVec Ideal S1024x4 .f32) (a1 : IVec S1024x1 32)
    (a2 a3 : FVec Ideal S1024x1 .f32) (a4 : IVec S1024x1 1) (a5 : IVec S1024x1 32) (w : Vec Ideal S128x2048 .bf16)
    (b : Vec Ideal S1x2048 .f32) (r : Vec Ideal S2048x4 .bf16) (n : Fin 1024) (q : Fin 4) :
    k1_pay13 (F := Ideal) x a a1 a2 a3 a4 a5 w b r (ix2 n q)
      = ∑ k : Fin 2048, max ((∑ j : Fin 128, x (ix2 n j) * w (ix2 j k)) + b (ix2 0 k)) 0
            * bit (BitVec.ofNat 32 (k.val / 128) = k1_pay11 (F := Ideal) a a1 a2 a3 a4 a5 (ix2 n 0) - 5#32) * r (ix2 k q) := by
  pointwise [k1_pay13]
  simp only [bit_apply]
  refine Finset.sum_congr rfl fun k _ => ?_
  rw [shr_apply _ (by omega)]
  rfl

/-- Level 2's one-hot rows. -/
theorem pay12_apply (a : FVec Ideal S1024x4 .f32) (a1 : IVec S1024x1 32)
    (a2 a3 : FVec Ideal S1024x1 .f32) (a4 : IVec S1024x1 1) (a5 : IVec S1024x1 32) (n : Fin 1024) (e : Fin 16) :
    k1_pay12 (F := Ideal) a a1 a2 a3 a4 a5 (ix2 n e)
      = bit (BitVec.ofNat 32 e.val = k1_pay11 (F := Ideal) a a1 a2 a3 a4 a5 (ix2 n 0) - 5#32) := by
  pointwise [k1_pay12]
  simp only [bit_apply]
  rfl

/-- Level 2's step, counted from the first agent of level 3. -/
theorem pay15_apply (cu : IVec S1024x1 32) (h : FVec Ideal S1024x16 .f32) (d : FVec Ideal S1024x4 .f32)
    (c : FVec Ideal S16x4 .f32) (n : Fin 1024) (z : Fin 1) :
    k1_pay15 (F := Ideal) cu h d c (ix2 n z) = 4#32 * cu (ix2 n z) + 1#32 + BitVec.ofNat 32 (best fun q =>
      d (ix2 n q) + ∑ e : Fin 16, h (ix2 n e) * c (ix2 e q)) - 21#32 := by
  pointwise [k1_pay15]
  simp only [best, top3, top2, apply_ite (BitVec.ofNat 32)]
  rfl

/-- The second layer's biases on level 3. -/
theorem pay16_apply (cu : IVec S1024x1 32) (h : FVec Ideal S1024x16 .f32) (d : FVec Ideal S1024x4 .f32)
    (c : FVec Ideal S16x4 .f32) (b : Vec Ideal S64x128 .f32) (n : Fin 1024) (k : Fin 128) :
    k1_pay16 (F := Ideal) cu h d c b (ix2 n k)
      = ∑ e : Fin 64, bit (BitVec.ofNat 32 e.val = k1_pay15 (F := Ideal) cu h d c (ix2 n 0)) * b (ix2 e k) := by
  pointwise [k1_pay16]
  simp only [bit_apply]

/-- The first hidden layers on level 3. -/
theorem pay17_apply (x : Vec Ideal S1024x128 .f32) (w : Vec Ideal S128x2048 .bf16) (b : Vec Ideal S1x2048 .f32)
    (n : Fin 1024) (k : Fin 2048) :
    k1_pay17 (F := Ideal) x w b (ix2 n k) = max ((∑ j : Fin 128, x (ix2 n j) * w (ix2 j k)) + b (ix2 0 k)) 0 := by
  pointwise [k1_pay17]

/-- The second layer after the first and the second sixteen agents. -/
theorem pay18_apply (x : Vec Ideal S1024x128 .f32) (cu : IVec S1024x1 32) (acc : FVec Ideal S1024x128 .f32)
    (h : FVec Ideal S1024x2048 .f32) (e : Vec Ideal S2048x128 .bf16) (w : Vec Ideal S128x2048 .bf16)
    (b : Vec Ideal S1x2048 .f32) (e' : Vec Ideal S2048x128 .bf16) (n : Fin 1024) (k : Fin 128) :
    k1_pay18 (F := Ideal) x cu acc h e w b e' (ix2 n k)
      = acc (ix2 n k)
        + (∑ c : Fin 2048, h (ix2 n c) * bit (BitVec.ofNat 32 (c.val / 128) + 0#32 = cu (ix2 n 0)) * e (ix2 c k))
        + ∑ c : Fin 2048, max ((∑ j : Fin 128, x (ix2 n j) * w (ix2 j c)) + b (ix2 0 c)) 0
            * bit (BitVec.ofNat 32 (c.val / 128) + 16#32 = cu (ix2 n 0)) * e' (ix2 c k) := by
  pointwise [k1_pay18]
  simp only [bit_apply]
  refine congrArg₂ (· + ·) (congrArg₂ (· + ·) rfl (Finset.sum_congr rfl fun k _ => ?_))
    (Finset.sum_congr rfl fun k _ => ?_)
  all_goals rw [shr_apply _ (by omega)]; rfl

/-- The second layer after the third sixteen agents. -/
theorem pay20_apply (x : Vec Ideal S1024x128 .f32) (cu : IVec S1024x1 32) (acc : FVec Ideal S1024x128 .f32)
    (w : Vec Ideal S128x2048 .bf16) (b : Vec Ideal S1x2048 .f32) (e : Vec Ideal S2048x128 .bf16) (n : Fin 1024)
    (k : Fin 128) :
    k1_pay20 (F := Ideal) x cu acc w b e (ix2 n k)
      = acc (ix2 n k)
        + ∑ c : Fin 2048, max ((∑ j : Fin 128, x (ix2 n j) * w (ix2 j c)) + b (ix2 0 c)) 0
            * bit (BitVec.ofNat 32 (c.val / 128) + 32#32 = cu (ix2 n 0)) * e (ix2 c k) := by
  pointwise [k1_pay20]
  simp only [bit_apply]
  refine congrArg₂ (· + ·) rfl (Finset.sum_congr rfl fun k _ => ?_)
  rw [shr_apply _ (by omega)]
  rfl

/-- The last sixteen agents' hidden layers, masked. -/
theorem pay21_apply (x : Vec Ideal S1024x128 .f32) (cu : IVec S1024x1 32) (w : Vec Ideal S128x2048 .bf16)
    (b : Vec Ideal S1x2048 .f32) (n : Fin 1024) (c : Fin 2048) :
    k1_pay21 (F := Ideal) x cu w b (ix2 n c)
      = max ((∑ j : Fin 128, x (ix2 n j) * w (ix2 j c)) + b (ix2 0 c)) 0
            * bit (BitVec.ofNat 32 (c.val / 128) + 48#32 = cu (ix2 n 0)) := by
  pointwise [k1_pay21]
  simp only [bit_apply]
  rw [shr_apply _ (by omega)]
  rfl

/-- The output layer. -/
theorem pay1_apply (acc : FVec Ideal S1024x128 .f32) (h : FVec Ideal S1024x2048 .f32) (e : Vec Ideal S2048x128 .bf16)
    (w : Vec Ideal S128x1000 .bf16) (b : Vec Ideal S1x1000 .f32) (n : Fin 1024) (v : Fin 1000) :
    k1_pay1 (F := Ideal) acc h e w b (ix2 n v)
      = (∑ k : Fin 128, (acc (ix2 n k) + ∑ c : Fin 2048, h (ix2 n c) * e (ix2 c k)) * w (ix2 k v)) + b (ix2 0 v) := by
  pointwise [k1_pay1]

end Cert.Proof.KernelIdeal
-- ==== Proof.KernelIdeal.Walk.lean ====
/-
  The kernel's agents are the walk's, level by level, and its output is the walk's result: where the body's windows hold
  the parameters of the agents of each level, side by side.
-/
module

public import proofs.«01_k».proof.Proof.KernelIdeal.Levels

@[expose] public section

noncomputable section

namespace Cert.Proof.KernelIdeal

open Cert.KernelIdeal Cert.KernelIdeal.Gen
open Idealize.ShloMosaic Cert.Proof.Spec

/-- The windows hold the parameters: agent 0's; those of agents 1 to 4, of 5 to 20, of 21 to 84, each agent's hundred and
twenty-eight places after the last one's; and the output layer's. -/
structure Holds (i : Ins Ideal) (N : Net) : Prop where
  wa : ∀ j k, i.wa (ix2 j k) = N.w1 0 j k
  ba : ∀ k, i.ba (ix2 0 k) = N.b1 0 k
  ra : ∀ k q, i.ra (ix2 k q) = N.wr 0 k q
  ca : ∀ q, i.ca (ix2 0 q) = N.br 0 q
  wb : ∀ j (c : Fin 512), i.wb (ix2 j c) = N.w1 (1 + c.val / 128) j (lane c.val)
  bb : ∀ c : Fin 512, i.bb (ix2 0 c) = N.b1 (1 + c.val / 128) (lane c.val)
  rb : ∀ (c : Fin 512) q, i.rb (ix2 c q) = N.wr (1 + c.val / 128) (lane c.val) q
  cb : ∀ (e : Fin 4) q, i.cb (ix2 e q) = N.br (1 + e.val) q
  wc : ∀ j (c : Fin 2048), i.wc (ix2 j c) = N.w1 (5 + c.val / 128) j (lane c.val)
  bc : ∀ c : Fin 2048, i.bc (ix2 0 c) = N.b1 (5 + c.val / 128) (lane c.val)
  rc : ∀ (c : Fin 2048) q, i.rc (ix2 c q) = N.wr (5 + c.val / 128) (lane c.val) q
  cc : ∀ (e : Fin 16) q, i.cc (ix2 e q) = N.br (5 + e.val) q
  wd : ∀ j (c : Fin 8192), i.wd (ix2 j c) = N.w1 (21 + c.val / 128) j (lane c.val)
  bd : ∀ c : Fin 8192, i.bd (ix2 0 c) = N.b1 (21 + c.val / 128) (lane c.val)
  we : ∀ (c : Fin 8192) k, i.we (ix2 c k) = N.w2 (21 + c.val / 128) (lane c.val) k
  be : ∀ (e : Fin 64) k, i.be (ix2 e k) = N.b2 (21 + e.val) k
  wo : ∀ k v, i.wo (ix2 k v) = N.wo k v
  bo : ∀ v, i.bo (ix2 0 v) = N.bo v

/-- A load of a whole window reads the window. -/
theorem ld_all {a b : ℕ} {e : EltTy} (X : Vec Ideal ⟨2, ![a, b]⟩ e) (inb) :
    View.ld X (Rect.unit (s := ⟨2, ![a, b]⟩) ![0, 0] ![a, b] inb) = X :=
  View.ld_unit_zero (S := ⟨2, ![a, b]⟩) (by funext k; fin_cases k <;> rfl) inb X

/-- The row that the body is given for token `n`. -/
abbrev row (i : Ins Ideal) (n : Fin 1024) : Fin 128 → EReal := fun j => i.x (ix2 n j)

variable {i : Ins Ideal} {N : Net} (H : Holds i N) (n : Fin 1024)
include H

theorem x_apply (j : Fin 128) : aX i (ix2 n j) = row i n j := by
  rw [aX, ld_all]; pointwise [k1_pay2]

/-- Level 1's agent. -/
theorem cur1 : aCur1 i (ix2 n 0) = BitVec.ofNat 32 (walk N (row i n) 1) := by
  rw [aCur1, ld_all, ld_all, ld_all, ld_all, ld_all, pay3_apply]
  simp only [H.wa, H.ba, H.ra, H.ca]
  exact next_word 0 _

/-- Level 1's scores. -/
theorem route1 (q : Fin 4) : aRoute1 i (ix2 n q) = score N (row i n) (walk N (row i n) 1) q := by
  obtain ⟨h1, h2⟩ := walk_one N (row i n)
  rw [aRoute1, ld_all, ld_all, ld_all, pay5_apply, aWb, ld_all]
  rw [cur1 H n]
  refine congrArg₂ (· + ·) ?_ ?_
  · refine (sum_block N (row i n) (n := 4) rfl 1 (walk N (row i n) 1) _ _ _ (fun a k => N.wr a k q) (fun c => ?_)
      (fun c => bit_sub _ _ 1 h1 (by omega) (by omega)) (fun c => H.rb c q)).trans (if_pos (by omega))
    simp only [x_apply H, H.bb]
    refine congrArg₂ max (congrArg₂ (· + ·) (Finset.sum_congr rfl fun j _ => congrArg (_ * ·) ?_) rfl) rfl
    exact Eq.trans (by pointwise [k1_pay4]) (H.wb j c)
  · refine (Finset.sum_congr rfl fun e _ => ?_).trans
      ((sum_pick (⟨walk N (row i n) 1 - 1, by omega⟩ : Fin 4) fun e => i.cb (ix2 e q)).trans ?_)
    · rw [show (1#32) = BitVec.ofNat 32 1 from rfl, bit_sub _ _ 1 h1 (by omega) (by omega)]
      refine congrArg (· * _) ?_
      unfold bit
      exact if_congr (by constructor <;> intro h <;> simp only at * <;> omega) rfl rfl
    · rw [H.cb]; exact congrArg (N.br · q) (by simp only; omega)

/-- Level 2's agent. -/
theorem cur2 : aCur2 i (ix2 n 0) = BitVec.ofNat 32 (walk N (row i n) 2) := by
  rw [cur2_apply, cur1 H n]
  simp only [route1 H n]
  exact next_word _ _

/-- Level 2's one-hot rows. -/
theorem hot2 (e : Fin 16) : aHot2 i (ix2 n e) = bit (5 + e.val = walk N (row i n) 2) := by
  obtain ⟨h1, h2⟩ := walk_two N (row i n)
  rw [aHot2, pay12_apply]
  change bit (_ = aCur2 i (ix2 n 0) - BitVec.ofNat 32 5) = _
  rw [cur2 H n, bit_sub _ _ 5 h1 (by omega) (by omega)]

/-- Level 2's routing product. -/
theorem dot2 (q : Fin 4) : aDot2 i (ix2 n q)
    = ∑ k, hid N (row i n) (walk N (row i n) 2) k * N.wr (walk N (row i n) 2) k q := by
  obtain ⟨h1, h2⟩ := walk_two N (row i n)
  rw [aDot2, ld_all, ld_all, ld_all, pay13_apply]
  change ∑ k : Fin 2048, _ * bit (_ = aCur2 i (ix2 n 0) - BitVec.ofNat 32 5) * _ = _
  rw [cur2 H n]
  refine (sum_block N (row i n) (n := 16) rfl 5 (walk N (row i n) 2) _ _ _ (fun a k => N.wr a k q) (fun c => ?_)
    (fun c => bit_sub _ _ 5 h1 (by omega) (by omega)) (fun c => H.rc c q)).trans (if_pos (by omega))
  simp only [x_apply H, H.bc, H.wc]
  rfl

/-- Level 2's scores. -/
theorem route2 (q : Fin 4) : aDot2 i (ix2 n q) + ∑ e : Fin 16, aHot2 i (ix2 n e) * aCc i (ix2 e q)
    = score N (row i n) (walk N (row i n) 2) q := by
  obtain ⟨h1, h2⟩ := walk_two N (row i n)
  rw [dot2 H n]
  refine congrArg₂ (· + ·) rfl ?_
  refine (Finset.sum_congr rfl fun e _ => ?_).trans
    ((sum_pick (⟨walk N (row i n) 2 - 5, by omega⟩ : Fin 16) fun e => aCc i (ix2 e q)).trans ?_)
  · rw [hot2 H n]
    refine congrArg (· * _) ?_
    unfold bit
    exact if_congr (by constructor <;> intro h <;> simp only at * <;> omega) rfl rfl
  · rw [aCc, ld_all]
    refine Eq.trans (b := i.cc (ix2 ⟨walk N (row i n) 2 - 5, by omega⟩ q)) (by pointwise [k1_pay14])
      ((H.cc _ q).trans (congrArg (N.br · q) (by simp only; omega)))

/-- Level 3's agent, counted from its first. -/
theorem cur3 : aCur3 i (ix2 n 0) = BitVec.ofNat 32 (walk N (row i n) 3) - BitVec.ofNat 32 21 := by
  rw [aCur3, pay15_apply, cur2 H n]
  simp only [route2 H n]
  rw [next_word]; rfl

/-- The second layer's biases on level 3. -/
theorem acc0 (k : Fin 128) : aAcc0 i (ix2 n k) = N.b2 (walk N (row i n) 3) k := by
  obtain ⟨h1, h2⟩ := walk_three N (row i n)
  rw [aAcc0, ld_all, pay16_apply]
  change ∑ e : Fin 64, bit (_ = aCur3 i (ix2 n 0)) * _ = _
  rw [cur3 H n]
  refine (Finset.sum_congr rfl fun e _ => ?_).trans
    ((sum_pick (⟨walk N (row i n) 3 - 21, by omega⟩ : Fin 64) fun e => i.be (ix2 e k)).trans ?_)
  · rw [bit_sub _ _ 21 h1 (by omega) (by omega)]
    refine congrArg (· * _) ?_
    unfold bit
    exact if_congr (by constructor <;> intro h <;> simp only at * <;> omega) rfl rfl
  · rw [H.be]; exact congrArg (N.b2 · k) (by simp only; omega)

/-- Agent `a`'s second product where `a` is among sixteen agents, and zero otherwise. -/
def sixteen (N : Net) (x : Fin 128 → EReal) (a o : ℕ) (k : Fin 128) : EReal :=
  if 21 + o ≤ a ∧ a < 21 + o + 16 then ∑ j, hid N x a j * N.w2 a j k else 0

omit H in
/-- One of four parts has the agent. -/
theorem sixteens (x : Fin 128 → EReal) (a : ℕ) (h1 : 21 ≤ a) (h2 : a < 85) (k : Fin 128) (b : EReal) :
    b + sixteen N x a 0 k + sixteen N x a 16 k + sixteen N x a 32 k + sixteen N x a 48 k = (∑ j, hid N x a j * N.w2 a j k) + b := by
  unfold sixteen
  rcases (by omega : a < 37 ∨ (37 ≤ a ∧ a < 53) ∨ (53 ≤ a ∧ a < 69) ∨ 69 ≤ a) with h | h | h | h
  · rw [if_pos (by omega), if_neg (by omega), if_neg (by omega), if_neg (by omega), add_zero, add_zero, add_zero,
      add_comm]
  · rw [if_neg (by omega), if_pos (by omega), if_neg (by omega), if_neg (by omega), add_zero, add_zero, add_zero,
      add_comm]
  · rw [if_neg (by omega), if_neg (by omega), if_pos (by omega), if_neg (by omega), add_zero, add_zero, add_zero,
      add_comm]
  · rw [if_neg (by omega), if_neg (by omega), if_neg (by omega), if_pos (by omega), add_zero, add_zero, add_zero,
      add_comm]

/-- Sixteen agents' masked hidden layers against their second weights, for windows that hold them. -/
theorem chunk (o : ℕ) (ho : o ≤ 48) (k : Fin 128) (w : Vec Ideal S128x2048 .bf16) (b : Vec Ideal S1x2048 .f32)
    (e : Vec Ideal S2048x128 .bf16)
    (hw : ∀ j (c : Fin 2048), w (ix2 j c) = N.w1 (21 + o + c.val / 128) j (lane c.val))
    (hb : ∀ c : Fin 2048, b (ix2 0 c) = N.b1 (21 + o + c.val / 128) (lane c.val))
    (he : ∀ c : Fin 2048, e (ix2 c k) = N.w2 (21 + o + c.val / 128) (lane c.val) k) :
    ∑ c : Fin 2048, max ((∑ j : Fin 128, aX i (ix2 n j) * w (ix2 j c)) + b (ix2 0 c)) 0
        * bit (BitVec.ofNat 32 (c.val / 128) + BitVec.ofNat 32 o = aCur3 i (ix2 n 0)) * e (ix2 c k)
      = sixteen N (row i n) (walk N (row i n) 3) o k := by
  obtain ⟨h1, h2⟩ := walk_three N (row i n)
  refine sum_block N (row i n) (n := 16) rfl (21 + o) (walk N (row i n) 3) _ _ _ (fun a j => N.w2 a j k) (fun c => ?_)
    (fun c => ?_) (fun c => he c)
  · simp only [x_apply H, hw, hb]
    rfl
  · rw [cur3 H n, ← BitVec.ofNat_add, bit_sub _ _ 21 h1 (by omega) (by omega)]
    exact congrArg (fun m : ℕ => bit (m = walk N (row i n) 3)) (by omega)

/-- A part of the first weights, of their biases and of the second weights on level 3, as the body loads it. -/
theorem wd_part (o : ℕ) (inb) (j : Fin 128) (c : Fin 2048) :
    View.ld i.wd (Rect.unit (s := S128x8192) ![0, o * 128] S128x2048.size inb) (ix2 j c)
      = N.w1 (21 + o + c.val / 128) j (lane c.val) := by
  have hb : o * 128 + 2048 ≤ 8192 := inb 1
  refine (?_ : _ = i.wd (ix2 j ⟨o * 128 + c.val, by omega⟩)).trans ((H.wd _ _).trans ?_)
  · pointwise
  · exact congrArg₂ (fun a l => N.w1 a j l) (by simp only; omega) (Fin.ext (by simp only; omega))

@[inherit_doc wd_part] theorem bd_part (o : ℕ) (inb) (c : Fin 2048) :
    View.ld i.bd (Rect.unit (s := S1x8192) ![0, o * 128] S1x2048.size inb) (ix2 0 c)
      = N.b1 (21 + o + c.val / 128) (lane c.val) := by
  have hb : o * 128 + 2048 ≤ 8192 := inb 1
  refine (?_ : _ = i.bd (ix2 0 ⟨o * 128 + c.val, by omega⟩)).trans ((H.bd _).trans ?_)
  · pointwise
  · exact congrArg₂ (fun a l => N.b1 a l) (by simp only; omega) (Fin.ext (by simp only; omega))

@[inherit_doc wd_part] theorem we_part (o : ℕ) (inb) (c : Fin 2048) (k : Fin 128) :
    View.ld i.we (Rect.unit (s := S8192x128) ![o * 128, 0] S2048x128.size inb) (ix2 c k)
      = N.w2 (21 + o + c.val / 128) (lane c.val) k := by
  have hb : o * 128 + 2048 ≤ 8192 := inb 0
  refine (?_ : _ = i.we (ix2 ⟨o * 128 + c.val, by omega⟩ k)).trans ((H.we _ _).trans ?_)
  · pointwise
  · exact congrArg₂ (fun a l => N.w2 a l k) (by simp only; omega) (Fin.ext (by simp only; omega))

/-- The second layer after thirty-two agents. -/
theorem acc2 (k : Fin 128) : aAcc2 i (ix2 n k) = N.b2 (walk N (row i n) 3) k
    + sixteen N (row i n) (walk N (row i n) 3) 0 k + sixteen N (row i n) (walk N (row i n) 3) 16 k := by
  rw [aAcc2, pay18_apply, acc0 H n]
  refine congrArg₂ (· + ·) (congrArg₂ (· + ·) rfl ?_) ?_
  · simp only [aHid0, pay17_apply]
    exact chunk H n 0 (by omega) k _ _ _ (wd_part H 0 _) (bd_part H 0 _) (fun c => we_part H 0 _ c k)
  · exact chunk H n 16 (by omega) k _ _ _ (wd_part H 16 _) (bd_part H 16 _) (fun c => we_part H 16 _ c k)

/-- The second layer after forty-eight agents. -/
theorem acc3 (k : Fin 128) : aAcc3 i (ix2 n k) = N.b2 (walk N (row i n) 3) k
    + sixteen N (row i n) (walk N (row i n) 3) 0 k + sixteen N (row i n) (walk N (row i n) 3) 16 k
    + sixteen N (row i n) (walk N (row i n) 3) 32 k := by
  rw [aAcc3, pay20_apply, acc2 H n]
  refine congrArg₂ (· + ·) rfl ?_
  refine chunk H n 32 (by omega) k _ _ _ (fun j c => ?_) (bd_part H 32 _) (fun c => we_part H 32 _ c k)
  refine Eq.trans ?_ (wd_part H 32 inb_S128x8192_S128x2048_0_4096 j c)
  rw [aWd2]; pointwise [k1_pay19]

/-- The last agent's second layer. -/
theorem layer2 (k : Fin 128) : aAcc3 i (ix2 n k) + ∑ c : Fin 2048, aHid3 i (ix2 n c)
      * View.ld i.we (Rect.unit (s := S8192x128) ![6144, 0] S2048x128.size inb_S8192x128_S2048x128_6144_0) (ix2 c k)
    = out N (row i n) (walk N (row i n) 3) k := by
  obtain ⟨h1, h2⟩ := walk_three N (row i n)
  rw [acc3 H n]
  refine Eq.trans (congrArg₂ (· + ·) rfl ?_) (sixteens (row i n) _ h1 h2 k _)
  simp only [aHid3, pay21_apply]
  exact chunk H n 48 (by omega) k _ _ _ (wd_part H 48 _) (bd_part H 48 _) (fun c => we_part H 48 _ c k)

/-- The kernel's output is the walk's result. -/
theorem tcOut_apply (v : Fin 1000) : tcOut i (ix2 n v) = result N (row i n) v := by
  unfold tcOut rOut
  rw [View.canon_unit_zero (by funext k; fin_cases k <;> rfl)]
  rw [aOut, ld_all, ld_all, pay1_apply]
  simp only [layer2 H n, H.wo, H.bo]
  rfl

end Cert.Proof.KernelIdeal
-- ==== Proof.KernelIdeal.Arrays.lean ====
/-
  What the TensorCore's call finds in its windows: the host operations before it cut each level's parameters out of the
  tables and lay them side by side, so that the windows hold the network of the argument arrays.
-/
module

public import proofs.«01_k».proof.Proof.Lines
public import proofs.«01_k».proof.Proof.Tables
public import proofs.«01_k».proof.Proof.KernelIdeal.Frame
public import proofs.«01_k».proof.Proof.KernelIdeal.Walk

@[expose] public section

noncomputable section

namespace Cert.Proof.KernelIdeal

open Cert.KernelIdeal Cert.KernelIdeal.Gen
open Idealize.ShloMosaic Idealize.ShloMosaic.StableHlo Cert.Proof.Lines Cert.Proof.Spec

/-- The host operations, each between typed buffers. -/
def hostLines : List (Line sig (Elt Ideal)) :=
  [.un (.of main_arg2) (.of main_v1) ((extractStridedSlice S1x128x128 ![0, 0, 0] · slices_S2000x128x128_S1x128x128_0_0_0) : (⟨S2000x128x128, .f32⟩ : BufTy).Contents (Elt Ideal) → (⟨S1x128x128, .f32⟩ : BufTy).Contents (Elt Ideal)),
    .resh (A := ⟨S1x128x128, .f32⟩) (T := ⟨S128x128, .f32⟩) (.of main_v1) (.of main_v2) rfl shapeCasts_S1x128x128_S128x128,
    .un (.of main_v2) (.of main_v3) ((truncf (F := Ideal) (φ := .f32) .bf16 · bitsLt_bf16_f32) : (⟨S128x128, .f32⟩ : BufTy).Contents (Elt Ideal) → (⟨S128x128, .bf16⟩ : BufTy).Contents (Elt Ideal)),
    .un (.of main_arg3) (.of main_v4) ((extractStridedSlice S1x128 ![0, 0] · slices_S2000x128_S1x128_0_0) : (⟨S2000x128, .f32⟩ : BufTy).Contents (Elt Ideal) → (⟨S1x128, .f32⟩ : BufTy).Contents (Elt Ideal)),
    .resh (A := ⟨S1x128, .f32⟩) (T := ⟨S128, .f32⟩) (.of main_v4) (.of main_v5) rfl shapeCasts_S1x128_S128,
    .un (.of main_v5) (.of main_v6) (broadcastInDim S1x128 ![1] bcast_S128_S1x128_1 : (⟨S128, .f32⟩ : BufTy).Contents (Elt Ideal) → (⟨S1x128, .f32⟩ : BufTy).Contents (Elt Ideal)),
    .un (.of main_arg6) (.of main_v7) ((extractStridedSlice S1x128x4 ![0, 0, 0] · slices_S2000x128x4_S1x128x4_0_0_0) : (⟨S2000x128x4, .f32⟩ : BufTy).Contents (Elt Ideal) → (⟨S1x128x4, .f32⟩ : BufTy).Contents (Elt Ideal)),
    .resh (A := ⟨S1x128x4, .f32⟩) (T := ⟨S128x4, .f32⟩) (.of main_v7) (.of main_v8) rfl shapeCasts_S1x128x4_S128x4,
    .un (.of main_v8) (.of main_v9) ((truncf (F := Ideal) (φ := .f32) .bf16 · bitsLt_bf16_f32) : (⟨S128x4, .f32⟩ : BufTy).Contents (Elt Ideal) → (⟨S128x4, .bf16⟩ : BufTy).Contents (Elt Ideal)),
    .un (.of main_arg7) (.of main_v10) ((extractStridedSlice S1x4 ![0, 0] · slices_S2000x4_S1x4_0_0) : (⟨S2000x4, .f32⟩ : BufTy).Contents (Elt Ideal) → (⟨S1x4, .f32⟩ : BufTy).Contents (Elt Ideal)),
    .resh (A := ⟨S1x4, .f32⟩) (T := ⟨S4, .f32⟩) (.of main_v10) (.of main_v11) rfl shapeCasts_S1x4_S4,
    .un (.of main_v11) (.of main_v12) (broadcastInDim S1x4 ![1] bcast_S4_S1x4_1 : (⟨S4, .f32⟩ : BufTy).Contents (Elt Ideal) → (⟨S1x4, .f32⟩ : BufTy).Contents (Elt Ideal)),
    .un (.of main_arg2) (.of main_v13) ((extractStridedSlice S4x128x128 ![1, 0, 0] · slices_S2000x128x128_S4x128x128_1_0_0) : (⟨S2000x128x128, .f32⟩ : BufTy).Contents (Elt Ideal) → (⟨S4x128x128, .f32⟩ : BufTy).Contents (Elt Ideal)),
    .un (.of main_v13) (.of main_v14) ((transpose S128x4x128 [1, 0, 2] · transposes_S4x128x128_S128x4x128_1_0_2) : (⟨S4x128x128, .f32⟩ : BufTy).Contents (Elt Ideal) → (⟨S128x4x128, .f32⟩ : BufTy).Contents (Elt Ideal)),
    .resh (A := ⟨S128x4x128, .f32⟩) (T := ⟨S128x512, .f32⟩) (.of main_v14) (.of main_v15) rfl shapeCasts_S128x4x128_S128x512,
    .un (.of main_v15) (.of main_v16) ((truncf (F := Ideal) (φ := .f32) .bf16 · bitsLt_bf16_f32) : (⟨S128x512, .f32⟩ : BufTy).Contents (Elt Ideal) → (⟨S128x512, .bf16⟩ : BufTy).Contents (Elt Ideal)),
    .un (.of main_arg3) (.of main_v17) ((extractStridedSlice S4x128 ![1, 0] · slices_S2000x128_S4x128_1_0) : (⟨S2000x128, .f32⟩ : BufTy).Contents (Elt Ideal) → (⟨S4x128, .f32⟩ : BufTy).Contents (Elt Ideal)),
    .resh (A := ⟨S4x128, .f32⟩) (T := ⟨S1x512, .f32⟩) (.of main_v17) (.of main_v18) rfl shapeCasts_S4x128_S1x512,
    .un (.of main_arg6) (.of main_v19) ((extractStridedSlice S4x128x4 ![1, 0, 0] · slices_S2000x128x4_S4x128x4_1_0_0) : (⟨S2000x128x4, .f32⟩ : BufTy).Contents (Elt Ideal) → (⟨S4x128x4, .f32⟩ : BufTy).Contents (Elt Ideal)),
    .resh (A := ⟨S4x128x4, .f32⟩) (T := ⟨S512x4, .f32⟩) (.of main_v19) (.of main_v20) rfl shapeCasts_S4x128x4_S512x4,
    .un (.of main_v20) (.of main_v21) ((truncf (F := Ideal) (φ := .f32) .bf16 · bitsLt_bf16_f32) : (⟨S512x4, .f32⟩ : BufTy).Contents (Elt Ideal) → (⟨S512x4, .bf16⟩ : BufTy).Contents (Elt Ideal)),
    .un (.of main_arg7) (.of main_v22) ((extractStridedSlice S4x4 ![1, 0] · slices_S2000x4_S4x4_1_0) : (⟨S2000x4, .f32⟩ : BufTy).Contents (Elt Ideal) → (⟨S4x4, .f32⟩ : BufTy).Contents (Elt Ideal)),
    .un (.of main_arg2) (.of main_v23) ((extractStridedSlice S16x128x128 ![5, 0, 0] · slices_S2000x128x128_S16x128x128_5_0_0) : (⟨S2000x128x128, .f32⟩ : BufTy).Contents (Elt Ideal) → (⟨S16x128x128, .f32⟩ : BufTy).Contents (Elt Ideal)),
    .un (.of main_v23) (.of main_v24) ((transpose S128x16x128 [1, 0, 2] · transposes_S16x128x128_S128x16x128_1_0_2) : (⟨S16x128x128, .f32⟩ : BufTy).Contents (Elt Ideal) → (⟨S128x16x128, .f32⟩ : BufTy).Contents (Elt Ideal)),
    .resh (A := ⟨S128x16x128, .f32⟩) (T := ⟨S128x2048, .f32⟩) (.of main_v24) (.of main_v25) rfl shapeCasts_S128x16x128_S128x2048,
    .un (.of main_v25) (.of main_v26) ((truncf (F := Ideal) (φ := .f32) .bf16 · bitsLt_bf16_f32) : (⟨S128x2048, .f32⟩ : BufTy).Contents (Elt Ideal) → (⟨S128x2048, .bf16⟩ : BufTy).Contents (Elt Ideal)),
    .un (.of main_arg3) (.of main_v27) ((extractStridedSlice S16x128 ![5, 0] · slices_S2000x128_S16x128_5_0) : (⟨S2000x128, .f32⟩ : BufTy).Contents (Elt Ideal) → (⟨S16x128, .f32⟩ : BufTy).Contents (Elt Ideal)),
    .resh (A := ⟨S16x128, .f32⟩) (T := ⟨S1x2048, .f32⟩) (.of main_v27) (.of main_v28) rfl shapeCasts_S16x128_S1x2048,
    .un (.of main_arg6) (.of main_v29) ((extractStridedSlice S16x128x4 ![5, 0, 0] · slices_S2000x128x4_S16x128x4_5_0_0) : (⟨S2000x128x4, .f32⟩ : BufTy).Contents (Elt Ideal) → (⟨S16x128x4, .f32⟩ : BufTy).Contents (Elt Ideal)),
    .resh (A := ⟨S16x128x4, .f32⟩) (T := ⟨S2048x4, .f32⟩) (.of main_v29) (.of main_v30) rfl shapeCasts_S16x128x4_S2048x4,
    .un (.of main_v30) (.of main_v31) ((truncf (F := Ideal) (φ := .f32) .bf16 · bitsLt_bf16_f32) : (⟨S2048x4, .f32⟩ : BufTy).Contents (Elt Ideal) → (⟨S2048x4, .bf16⟩ : BufTy).Contents (Elt Ideal)),
    .un (.of main_arg7) (.of main_v32) ((extractStridedSlice S16x4 ![5, 0] · slices_S2000x4_S16x4_5_0) : (⟨S2000x4, .f32⟩ : BufTy).Contents (Elt Ideal) → (⟨S16x4, .f32⟩ : BufTy).Contents (Elt Ideal)),
    .un (.of main_arg2) (.of main_v33) ((extractStridedSlice S64x128x128 ![21, 0, 0] · slices_S2000x128x128_S64x128x128_21_0_0) : (⟨S2000x128x128, .f32⟩ : BufTy).Contents (Elt Ideal) → (⟨S64x128x128, .f32⟩ : BufTy).Contents (Elt Ideal)),
    .un (.of main_v33) (.of main_v34) ((transpose S128x64x128 [1, 0, 2] · transposes_S64x128x128_S128x64x128_1_0_2) : (⟨S64x128x128, .f32⟩ : BufTy).Contents (Elt Ideal) → (⟨S128x64x128, .f32⟩ : BufTy).Contents (Elt Ideal)),
    .resh (A := ⟨S128x64x128, .f32⟩) (T := ⟨S128x8192, .f32⟩) (.of main_v34) (.of main_v35) rfl shapeCasts_S128x64x128_S128x8192,
    .un (.of main_v35) (.of main_v36) ((truncf (F := Ideal) (φ := .f32) .bf16 · bitsLt_bf16_f32) : (⟨S128x8192, .f32⟩ : BufTy).Contents (Elt Ideal) → (⟨S128x8192, .bf16⟩ : BufTy).Contents (Elt Ideal)),
    .un (.of main_arg3) (.of main_v37) ((extractStridedSlice S64x128 ![21, 0] · slices_S2000x128_S64x128_21_0) : (⟨S2000x128, .f32⟩ : BufTy).Contents (Elt Ideal) → (⟨S64x128, .f32⟩ : BufTy).Contents (Elt Ideal)),
    .resh (A := ⟨S64x128, .f32⟩) (T := ⟨S1x8192, .f32⟩) (.of main_v37) (.of main_v38) rfl shapeCasts_S64x128_S1x8192,
    .un (.of main_arg4) (.of main_v39) ((extractStridedSlice S64x128x128 ![21, 0, 0] · slices_S2000x128x128_S64x128x128_21_0_0) : (⟨S2000x128x128, .f32⟩ : BufTy).Contents (Elt Ideal) → (⟨S64x128x128, .f32⟩ : BufTy).Contents (Elt Ideal)),
    .resh (A := ⟨S64x128x128, .f32⟩) (T := ⟨S8192x128, .f32⟩) (.of main_v39) (.of main_v40) rfl shapeCasts_S64x128x128_S8192x128,
    .un (.of main_v40) (.of main_v41) ((truncf (F := Ideal) (φ := .f32) .bf16 · bitsLt_bf16_f32) : (⟨S8192x128, .f32⟩ : BufTy).Contents (Elt Ideal) → (⟨S8192x128, .bf16⟩ : BufTy).Contents (Elt Ideal)),
    .un (.of main_arg5) (.of main_v42) ((extractStridedSlice S64x128 ![21, 0] · slices_S2000x128_S64x128_21_0) : (⟨S2000x128, .f32⟩ : BufTy).Contents (Elt Ideal) → (⟨S64x128, .f32⟩ : BufTy).Contents (Elt Ideal)),
    .un (.of main_arg8) (.of main_v43) ((truncf (F := Ideal) (φ := .f32) .bf16 · bitsLt_bf16_f32) : (⟨S128x1000, .f32⟩ : BufTy).Contents (Elt Ideal) → (⟨S128x1000, .bf16⟩ : BufTy).Contents (Elt Ideal)),
    .un (.of main_arg9) (.of main_v44) (broadcastInDim S1x1000 ![1] bcast_S1000_S1x1000_1 : (⟨S1000, .f32⟩ : BufTy).Contents (Elt Ideal) → (⟨S1x1000, .f32⟩ : BufTy).Contents (Elt Ideal))]

theorem hostLines_op : (hostLines.map Line.op : List (HloOp τ sig (Elt Ideal))) = hostOps := rfl

theorem hostLines_ordered : ordered 12 hostLines = true := by decide +kernel

variable (m : (ℓ : Loc nD τ sig) → Buf (Elt Ideal) ℓ) (d : Dev nD)

/-- An argument array at the launch. -/
abbrev arg (r : Ref sig .tc) : Buf (Elt Ideal) ((d.tc : Thread nD τ).loc r) := m ((d.tc : Thread nD τ).loc r)

/-- The network of the launch's argument arrays. -/
abbrev net : Net := netOf (arg m d main_arg2) (arg m d main_arg3) (arg m d main_arg4) (arg m d main_arg5) (arg m d main_arg6)
  (arg m d main_arg7) (arg m d main_arg8) (arg m d main_arg9)

/-- No host operation writes an argument, and neither does the SparseCore's call. -/
theorem arg_rd (r : Ref sig .tc) (hr : r.idx.val < 12) (h0 : r ≠ main_v0) :
    W₂ m d (Proc.devRef .tc r) = arg m d r := by
  unfold W₂
  rw [← hostLines_op]
  exact (after_low hostLines_ordered _ r hr).trans (Function.update_of_ne (fun e => h0 (Proc.devRef_injective _ e)) _ _)

/-- The rows that the call finds are the tokens' embeddings. -/
theorem x_rows (n : Fin 1024) :
    row (insOf (W₂ m) d t1_0) n = tokenRow (arg m d main_arg0) (arg m d main_arg1) n := by
  rw [insOf_eq]
  refine funext fun j => congrFun (?_ : W₂ m d (Proc.devRef .tc main_v0) = embOf m d) (ix2 n j)
  unfold W₂
  rw [← hostLines_op]
  exact (after_low hostLines_ordered _ main_v0 (by decide)).trans (Function.update_self _ _ _)

/-- A row of a table, by a number below two thousand. -/
theorem agent_eq {a : ℕ} (h : a < 2000) : agent a = ⟨a, h⟩ := Fin.ext (Nat.mod_eq_of_lt h)

set_option maxHeartbeats 1000000 in
/-- The windows hold the network of the argument arrays. -/
theorem holds : Holds (insOf (W₂ m) d t1_0) (net m d) := by
  have E := eqns hostLines_ordered (W₁ m d)
  rw [hostLines_op] at E
  change ∀ l ∈ hostLines, l.Eqn (W₂ m d) at E
  simp only [hostLines, List.forall_mem_cons, Line.Eqn] at E
  obtain ⟨e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, -⟩ := E
  have a2 : rd (W₂ m d) (.of main_arg2) = arg m d main_arg2 := arg_rd m d main_arg2 (by decide) (by decide)
  have a3 : rd (W₂ m d) (.of main_arg3) = arg m d main_arg3 := arg_rd m d main_arg3 (by decide) (by decide)
  have a4 : rd (W₂ m d) (.of main_arg4) = arg m d main_arg4 := arg_rd m d main_arg4 (by decide) (by decide)
  have a5 : rd (W₂ m d) (.of main_arg5) = arg m d main_arg5 := arg_rd m d main_arg5 (by decide) (by decide)
  have a6 : rd (W₂ m d) (.of main_arg6) = arg m d main_arg6 := arg_rd m d main_arg6 (by decide) (by decide)
  have a7 : rd (W₂ m d) (.of main_arg7) = arg m d main_arg7 := arg_rd m d main_arg7 (by decide) (by decide)
  have a8 : rd (W₂ m d) (.of main_arg8) = arg m d main_arg8 := arg_rd m d main_arg8 (by decide) (by decide)
  have a9 : rd (W₂ m d) (.of main_arg9) = arg m d main_arg9 := arg_rd m d main_arg9 (by decide) (by decide)
  rw [insOf_eq]
  constructor
  · intro j k
    change rd (W₂ m d) (.of main_v3) (ix2 j k) = _
    rw [e3, e2, e1, a2]
    pointwise
    rfl
  · intro k
    change rd (W₂ m d) (.of main_v6) (ix2 0 k) = _
    rw [e6, e5, e4, a3]
    pointwise
    rfl
  · intro k q
    change rd (W₂ m d) (.of main_v9) (ix2 k q) = _
    rw [e9, e8, e7, a6]
    pointwise
    rfl
  · intro q
    change rd (W₂ m d) (.of main_v12) (ix2 0 q) = _
    rw [e12, e11, e10, a7]
    pointwise
    rfl
  · intro j c
    change rd (W₂ m d) (.of main_v16) (ix2 j c) = _
    rw [e16, e15, e14, e13, a2]
    pointwise
    exact congrArg (fun a => arg m d main_arg2 (ix3 a j (lane c.val))) (agent_eq (by omega)).symm
  · intro c
    change rd (W₂ m d) (.of main_v18) (ix2 0 c) = _
    rw [e18, e17, a3]
    pointwise
    exact congrArg (fun a => arg m d main_arg3 (ix2 a (lane c.val))) (agent_eq (by omega)).symm
  · intro c q
    change rd (W₂ m d) (.of main_v21) (ix2 c q) = _
    rw [e21, e20, e19, a6]
    pointwise
    exact congrArg (fun a => arg m d main_arg6 (ix3 a (lane c.val) q)) (agent_eq (by omega)).symm
  · intro e q
    change rd (W₂ m d) (.of main_v22) (ix2 e q) = _
    rw [e22, a7]
    pointwise
    exact congrArg (fun a => arg m d main_arg7 (ix2 a q)) (agent_eq (by omega)).symm
  · intro j c
    change rd (W₂ m d) (.of main_v26) (ix2 j c) = _
    rw [e26, e25, e24, e23, a2]
    pointwise
    exact congrArg (fun a => arg m d main_arg2 (ix3 a j (lane c.val))) (agent_eq (by omega)).symm
  · intro c
    change rd (W₂ m d) (.of main_v28) (ix2 0 c) = _
    rw [e28, e27, a3]
    pointwise
    exact congrArg (fun a => arg m d main_arg3 (ix2 a (lane c.val))) (agent_eq (by omega)).symm
  · intro c q
    change rd (W₂ m d) (.of main_v31) (ix2 c q) = _
    rw [e31, e30, e29, a6]
    pointwise
    exact congrArg (fun a => arg m d main_arg6 (ix3 a (lane c.val) q)) (agent_eq (by omega)).symm
  · intro e q
    change rd (W₂ m d) (.of main_v32) (ix2 e q) = _
    rw [e32, a7]
    pointwise
    exact congrArg (fun a => arg m d main_arg7 (ix2 a q)) (agent_eq (by omega)).symm
  · intro j c
    change rd (W₂ m d) (.of main_v36) (ix2 j c) = _
    rw [e36, e35, e34, e33, a2]
    pointwise
    exact congrArg (fun a => arg m d main_arg2 (ix3 a j (lane c.val))) (agent_eq (by omega)).symm
  · intro c
    change rd (W₂ m d) (.of main_v38) (ix2 0 c) = _
    rw [e38, e37, a3]
    pointwise
    exact congrArg (fun a => arg m d main_arg3 (ix2 a (lane c.val))) (agent_eq (by omega)).symm
  · intro c k
    change rd (W₂ m d) (.of main_v41) (ix2 c k) = _
    rw [e41, e40, e39, a4]
    pointwise
    exact congrArg (fun a => arg m d main_arg4 (ix3 a (lane c.val) k)) (agent_eq (by omega)).symm
  · intro e k
    change rd (W₂ m d) (.of main_v42) (ix2 e k) = _
    rw [e42, a5]
    pointwise
    exact congrArg (fun a => arg m d main_arg5 (ix2 a k)) (agent_eq (by omega)).symm
  · intro k v
    change rd (W₂ m d) (.of main_v43) (ix2 k v) = _
    rw [e43, a8]
    pointwise
    rfl
  · intro v
    change rd (W₂ m d) (.of main_v44) (ix2 0 v) = _
    rw [e44, a9]
    pointwise
    rfl

/-- What the run leaves as the result: the walk's result, for every token. -/
theorem kernel_result (n : Fin 1024) (v : Fin 1000) : tcOut (insOf (W₂ m) d t1_0) (ix2 n v)
    = result (net m d) (tokenRow (arg m d main_arg0) (arg m d main_arg1) n) v := by
  rw [tcOut_apply (holds m d), x_rows]

end Cert.Proof.KernelIdeal
-- ==== Proof.Reference.Gather.lean ====
/-
  The reference's gathers at an index: a row of a table, named by a column of words; and one entry of each row.
-/
module

public import proofs.«01_k».proof.Proof.Reference.Functions
public import Idealize.ShloMosaic.Lib.Routing.Ops
public import Idealize.ShloMosaic.Lib.Pointwise

@[expose] public section

noncomputable section

namespace Cert.Proof.Reference

open Cert.ReferenceIdeal Cert.ReferenceIdeal.Facts₀ Cert.ReferenceIdeal.Facts
open Idealize.ShloMosaic

/-- A small number's word, read as a signed integer and clamped to its bound, is the number. -/
theorem clamp_word (b M : ℕ) (h : b ≤ M) (hM : M < 2 ^ 31) : min (BitVec.ofNat 32 b).toInt.toNat M = b := by
  rw [StableHlo.Predicate.toInt_ofNat_small _ (by omega)]
  show min b M = b
  omega

/-- The dimension numbers of a gather of whole slabs `[128, C]` out of two thousand. -/
abbrev slabs (C : ℕ) (wf : GatherDims.WF ⟨3, ![2000, 128, C]⟩ ⟨2, ![1024, 1]⟩ ⟨3, ![1024, 128, C]⟩ [1, 2] [0] [] [0] [] 1 ![1, 128, C]) :
    GatherDims ⟨3, ![2000, 128, C]⟩ ⟨2, ![1024, 1]⟩ ⟨3, ![1024, 128, C]⟩ where
  offsetDims := [1, 2]
  collapsedSliceDims := [0]
  operandBatchingDims := []
  startIndicesBatchingDims := []
  startIndexMap := [0]
  indexVectorDim := 1
  sliceSizes := ![1, 128, C]
  wf := wf

/-- Such a gather at an index: the slab that the row's word names. -/
theorem gather_slab {α : Type} {C : ℕ} (wf) (x : (⟨3, ![2000, 128, C]⟩ : Shape).Idx → α) (idx : IVec ⟨2, ![1024, 1]⟩ 32)
    (n : Fin 1024) (j : Fin 128) (k : Fin C) (b : Fin 2000) (hb : idx (ix2 n 0) = BitVec.ofNat 32 b.val) :
    Host.gather (slabs C wf) x idx (ix3 n j k) = x (ix3 b j k) := by
  have h0 : (slabs C wf).start (ix3 n j k) idx (0 : Fin 3) + (slabs C wf).offCoord (ix3 n j k) (0 : Fin 3) = b.val := by
    rw [GatherDims.offCoord_eq_zero _ _ _ (fun h => ((GatherDims.mem_sKept _ _).mp h).1 (List.mem_singleton.mpr rfl)),
      Nat.add_zero]
    unfold GatherDims.start
    rw [dif_pos (show (0 : Fin 3) ∈ (slabs C wf).startIndexMap from List.mem_singleton.mpr rfl)]
    have hsi : (slabs C wf).siIdx (ix3 n j k) ⟨List.idxOf (0 : Fin 3) (slabs C wf).startIndexMap,
        List.idxOf_lt_length_iff.2 (List.mem_singleton.mpr rfl)⟩ = ix2 n 0 := by
      funext e; refine Fin.ext ?_
      match e with
      | ⟨0, _⟩ => rfl
      | ⟨1, _⟩ => rfl
    exact (congrArg (fun w : BitVec 32 => min w.toInt.toNat 1999) ((congrArg idx hsi).trans hb)).trans
      (clamp_word _ _ (by have := b.2; omega) (by decide))
  have h1 : (slabs C wf).start (ix3 n j k) idx (1 : Fin 3) + (slabs C wf).offCoord (ix3 n j k) (1 : Fin 3) = j.val := by
    unfold GatherDims.start GatherDims.offCoord
    rw [dif_neg (show ¬ (1 : Fin 3) ∈ (slabs C wf).startIndexMap from by simp),
      dif_pos (show (1 : Fin 3) ∈ (slabs C wf).sKept from (GatherDims.mem_sKept _ _).mpr ⟨by simp, by simp⟩), Nat.zero_add]
    rfl
  have h2 : (slabs C wf).start (ix3 n j k) idx (2 : Fin 3) + (slabs C wf).offCoord (ix3 n j k) (2 : Fin 3) = k.val := by
    unfold GatherDims.start GatherDims.offCoord
    rw [dif_neg (show ¬ (2 : Fin 3) ∈ (slabs C wf).startIndexMap from by simp),
      dif_pos (show (2 : Fin 3) ∈ (slabs C wf).sKept from (GatherDims.mem_sKept _ _).mpr ⟨by simp, by simp⟩), Nat.zero_add]
    rfl
  unfold Host.gather
  refine congrArg x (funext fun a => Fin.ext ?_)
  show (slabs C wf).start (ix3 n j k) idx a + (slabs C wf).batchCoord (ix3 n j k) a + (slabs C wf).offCoord (ix3 n j k) a = _
  rw [GatherDims.batchCoord_eq_zero _ _ _ List.not_mem_nil, Nat.add_zero]
  match a with
  | ⟨0, _⟩ => exact h0
  | ⟨1, _⟩ => exact h1
  | ⟨2, _⟩ => exact h2

/-- The dimension numbers of a gather of one entry of each of 1024 rows of four. -/
abbrev entries (wf : GatherDims.WF ⟨2, ![1024, 4]⟩ ⟨3, ![1024, 1, 1]⟩ ⟨2, ![1024, 1]⟩ [] [1] [0] [1] [0] 2 ![1, 1]) :
    GatherDims ⟨2, ![1024, 4]⟩ ⟨3, ![1024, 1, 1]⟩ ⟨2, ![1024, 1]⟩ where
  offsetDims := []
  collapsedSliceDims := [1]
  operandBatchingDims := [0]
  startIndicesBatchingDims := [0]
  startIndexMap := [1]
  indexVectorDim := 2
  sliceSizes := ![1, 1]
  wf := wf

/-- Such a gather at an index: the entry that the row's word names. -/
theorem gather_entry {α : Type} (wf) (x : (⟨2, ![1024, 4]⟩ : Shape).Idx → α) (idx : IVec ⟨3, ![1024, 1, 1]⟩ 32)
    (n : Fin 1024) (b : Fin 4) (hb : idx (ix3 n 0 0) = BitVec.ofNat 32 b.val) :
    Host.gather (entries wf) x idx (ix2 n 0) = x (ix2 n b) := by
  have h0 : (entries wf).batchCoord (ix2 n 0) (0 : Fin 2) = n.val := by
    unfold GatherDims.batchCoord
    rw [dif_pos (show (0 : Fin 2) ∈ (entries wf).operandBatchingDims from List.mem_singleton.mpr rfl)]
    rfl
  have h1 : (entries wf).start (ix2 n 0) idx (1 : Fin 2) = b.val := by
    unfold GatherDims.start
    rw [dif_pos (show (1 : Fin 2) ∈ (entries wf).startIndexMap from List.mem_singleton.mpr rfl)]
    have hsi : (entries wf).siIdx (ix2 n 0) ⟨List.idxOf (1 : Fin 2) (entries wf).startIndexMap,
        List.idxOf_lt_length_iff.2 (List.mem_singleton.mpr rfl)⟩ = ix3 n 0 0 := by
      funext e; refine Fin.ext ?_
      match e with
      | ⟨0, _⟩ => rfl
      | ⟨1, _⟩ => rfl
      | ⟨2, _⟩ => rfl
    exact (congrArg (fun w : BitVec 32 => min w.toInt.toNat 3) ((congrArg idx hsi).trans hb)).trans
      (clamp_word _ _ (by have := b.2; omega) (by decide))
  unfold Host.gather
  refine congrArg x (funext fun a => Fin.ext ?_)
  show (entries wf).start (ix2 n 0) idx a + (entries wf).batchCoord (ix2 n 0) a + (entries wf).offCoord (ix2 n 0) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    exact h0
  | ⟨1, _⟩ =>
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl)),
      Nat.add_zero]
    exact h1

end Cert.Proof.Reference
-- ==== Proof.Reference.Lookup.lean ====
/-
  A lookup of the reference by indices within its table: the indices are taken as they are, no row is masked, and the result
  holds the rows that the indices name.
-/
module

public import proofs.«01_k».proof.Proof.Reference.Gather
public import Idealize.ShloMosaic.Lib.ReduceAll
public import Idealize.ShloMosaic.Lib.WordCmp

@[expose] public section

noncomputable section

namespace Cert.Proof.Reference

open Cert.ReferenceIdeal Cert.ReferenceIdeal.Facts₀ Cert.ReferenceIdeal.Facts
open Idealize.ShloMosaic Cert.Proof.Lines

/-- The contents of the reference's buffers. -/
abbrev Vals := Valuation τ sig (Elt Ideal)

/-- A word of a number below half its range is not negative. -/
theorem slt_zero (t : ℕ) (h : t < 2 ^ 31) : IntOp.cmpi .slt (BitVec.ofNat 32 t) 0#32 = 0#1 := by
  rw [show (0#32) = BitVec.ofNat 32 0 from rfl, WordCmp.cmpi_slt_ofNat (w := 32) (by simpa using h) (by decide)]
  rfl

/-- A word of a number passes the test of lying from zero to a bound that it does not exceed. -/
theorem in_range (t top : ℕ) (h : t ≤ top) (ht : top < 2 ^ 31) :
    IntOp.andi (IntOp.cmpi .sge (BitVec.ofNat 32 t) 0#32) (IntOp.cmpi .sle (BitVec.ofNat 32 t) (BitVec.ofNat 32 top)) = 1#1 := by
  rw [show (0#32) = BitVec.ofNat 32 0 from rfl, WordCmp.cmpi_sge_ofNat (w := 32) (by simp; omega) (by decide),
    WordCmp.cmpi_sle_ofNat (w := 32) (by simp; omega) (by simpa using ht), WordCmp.andi_ofBool]
  simp [h]

/-- The lookup by numbers below the table's height. -/
theorem take_eq {T O : Shape} {e : EltTy} (V : Vals) {n top : ℕ} {g : Arr T e → Arr S1024x1 .i32 → Arr O e}
    {p : Arr S1024 .i1 → Arr O .i1} {nan : Arr S_ e} {q : Arr S_ e → Arr O e} {a : TR T e} {x : TR S1024 .i32} {r : Take O e}
    (E : ∀ l ∈ Take.lines (BitVec.ofNat 32 n) (BitVec.ofNat 32 top) g p nan q a x r, l.Eqn V)
    (hp : p (fun _ => 1#1) = fun _ => 1#1) (t : Fin 1024 → ℕ) (htop : top < 2 ^ 31) (ht : ∀ k, t k ≤ top)
    (hx : ∀ k, rd V x (ix1 k) = BitVec.ofNat 32 (t k)) :
    (∀ k, rd V r.i (ix2 k 0) = BitVec.ofNat 32 (t k)) ∧ rd V r.out = g (rd V a) (rd V r.i) := by
  simp only [Take.lines, List.forall_mem_cons, Line.Eqn] at E
  obtain ⟨e1, e2, e3, e4, e5, e6, e7, e8, e9, e10, e11, e12, e13, e14, e15, e16, e17, e18, e19, e20, e21, e22, e23, -⟩ := E
  have hneg : ∀ k, rd V r.neg (ix1 k) = 0#1 := fun k => by
    have hz : rd V r.z (ix1 k) = 0#32 := by rw [e2, e1]; pointwise
    rw [e3]
    show IntOp.cmpi .slt (rd V x (ix1 k)) (rd V r.z (ix1 k)) = _
    rw [hz, hx, slt_zero _ (by have := ht k; omega)]
  have hi : ∀ k, rd V r.i (ix2 k 0) = BitVec.ofNat 32 (t k) := fun k => by
    have h1 : rd V r.i (ix2 k 0) = rd V r.w (ix1 k) := by rw [e8]; pointwise
    rw [h1, e7]
    show (if rd V r.neg (ix1 k) = 1#1 then rd V r.up (ix1 k) else rd V x (ix1 k)) = _
    rw [hneg, if_neg (by decide), hx]
  have hok : ∀ i, rd V r.ok i = 1#1 := fun i => by
    obtain ⟨k, rfl⟩ : ∃ k, i = ix2 k 0 := ⟨i 0, by
      rw [eq_ix2 i]; exact congrArg (ix2 (i 0)) (Subsingleton.elim (α := Fin 1) _ _)⟩
    have h1 : rd V r.bots (ix2 k 0) = 0#32 := by rw [e11, e10]; pointwise
    have h2 : rd V r.tops (ix2 k 0) = BitVec.ofNat 32 top := by rw [e14, e13, e9]; pointwise
    rw [e16, e12, e15]
    show IntOp.andi (IntOp.cmpi .sge (rd V r.i (ix2 k 0)) (rd V r.bots (ix2 k 0)))
      (IntOp.cmpi .sle (rd V r.i (ix2 k 0)) (rd V r.tops (ix2 k 0))) = _
    rw [h1, h2, hi, in_range _ _ (ht k) htop]
  have hall : rd V r.all = fun _ => 1#1 := by
    rw [e18]
    funext j
    exact Host.reduce_andi_one _ _ _ _ j (by rw [e17]; rfl) hok
  refine ⟨hi, ?_⟩
  rw [e23, e20, hall, hp, e19]
  rfl

end Cert.Proof.Reference
-- ==== Proof.Reference.Argmax.lean ====
/-
  The reference's choice of a row's greatest score is the first place of the greatest, in number words.
-/
module

public import proofs.«01_k».proof.Proof.Reference.Functions
public import proofs.«01_k».proof.Proof.Spec
public import Idealize.ShloMosaic.Lib.Pointwise
public import Idealize.ShloMosaic.Lib.WordCmp
public import Idealize.ShloMosaic.PureOps.Ideal.Laws

@[expose] public section

noncomputable section

namespace Cert.Proof.Reference

open Cert.ReferenceIdeal Cert.ReferenceIdeal.Facts₀ Cert.ReferenceIdeal.Facts
open Idealize.ShloMosaic Cert.Proof.Spec

/-- Two lists in strictly growing order with the same members are equal. -/
theorem eq_of_growing {n : ℕ} (l l' : List (Fin n)) (h : l.Pairwise (· < ·)) (h' : l'.Pairwise (· < ·))
    (hm : ∀ a, a ∈ l ↔ a ∈ l') : l = l' :=
  List.Perm.eq_of_pairwise (fun a b _ _ hab hba => absurd (hab.trans hba) (lt_irrefl _)) h h'
    ((List.perm_ext_iff_of_nodup (h.imp ne_of_lt) (h'.imp ne_of_lt)).mpr hm)

/-- The pairs of a row of four, first to last. -/
theorem fiber_row {α β : Type} (x : S1024x4.Idx → α) (y : S1024x4.Idx → β) (n : Fin 1024) :
    Host.argReduceFiber x y reducesTo_S1024x4_S1024_d1 (ix1 n)
      = (List.finRange 4).map fun q => (x (ix2 n q), y (ix2 n q)) := by
  have hl : ((List.finRange S1024x4.numel).filter fun i => reducesTo_S1024x4_S1024_d1.drop (S1024x4.rowMajor.symm i) = ix1 n)
      = (List.finRange 4).map fun q => S1024x4.rowMajor (ix2 n q) := by
    refine eq_of_growing _ _ ((List.pairwise_lt_finRange _).filter _) ?_ fun i => ?_
    · refine List.pairwise_map.mpr ((List.pairwise_lt_finRange 4).imp fun {a b} hab => ?_)
      rw [Fin.lt_def, Shape.rowMajor_val_two, Shape.rowMajor_val_two]
      exact Nat.add_lt_add_left hab _
    · simp only [List.mem_filter, List.mem_finRange, true_and, decide_eq_true_eq, List.mem_map]
      rw [Shape.ReducesTo.fiber_r2_a1]
      exact exists_congr fun q => ⟨fun e => by rw [← Equiv.apply_symm_apply S1024x4.rowMajor i, ← e]; rfl,
        fun e => by rw [← e, Equiv.symm_apply_apply]; rfl⟩
  unfold Host.argReduceFiber
  rw [hl, List.map_map]
  refine List.map_congr_left fun q _ => ?_
  simp only [Function.comp, Equiv.symm_apply_apply]

/-- One step of the choice: the later score is taken if it is greater. -/
theorem argmax_step (m r : EReal) (i q : ℕ) (h : i < q) (hq : q < 2 ^ 31) :
    reducer_argmax_f32_i32 (F := Ideal) (m, BitVec.ofNat 32 i) (r, BitVec.ofNat 32 q)
      = if m < r then (r, BitVec.ofNat 32 q) else (m, BitVec.ofNat 32 i) := by
  have hs : IntOp.cmpi .slt (BitVec.ofNat 32 i) (BitVec.ofNat 32 q) = 1#1 := by
    rw [WordCmp.cmpi_slt_ofNat (w := 32) (by simp; omega) (by simpa using hq)]; simp [h]
  simp only [reducer_argmax_f32_i32, hs, Ideal.cmpf_def, Ideal.cmp]
  rcases lt_trichotomy m r with hl | rfl | hl
  · simp [hl, hl.ne, hl.not_gt, IntOp.ori, IntOp.andi, Scalar.select]
  · simp [IntOp.ori, IntOp.andi, Scalar.select]
  · simp [hl, hl.ne', hl.not_gt, IntOp.ori, IntOp.andi, Scalar.select]

/-- The first step, from the least value: the row's first score. -/
theorem argmax_first (r : EReal) :
    reducer_argmax_f32_i32 (F := Ideal) (⊥, 0#32) (r, BitVec.ofNat 32 0) = (r, BitVec.ofNat 32 0) := by
  simp [reducer_argmax_f32_i32, Ideal.cmpf_def, Ideal.cmp, IntOp.ori, IntOp.andi, Scalar.select, IntOp.cmpi]

/-- The choice over a row: the first place of its greatest. -/
theorem argmax_row (x : Arr S1024x4 .f32) (y : Arr S1024x4 .i32) (u : Arr S_ .f32) (v : Arr S_ .i32) (n : Fin 1024)
    (hy : ∀ q, y (ix2 n q) = BitVec.ofNat 32 q.val) (hu : ∀ i, u i = (⊥ : EReal)) (hv : ∀ i, v i = 0#32) :
    (Host.argReduce (F := Ideal) reducer_argmax_f32_i32 x y u v reducesTo_S1024x4_S1024_d1 h_S_ (ix1 n)).2
      = BitVec.ofNat 32 (best fun q => x (ix2 n q)) := by
  rw [Ideal.argReduce_eq_reduce2, Host.reduce2_eq_foldl_fiber, fiber_row, hu, hv]
  show (List.foldl (reducer_argmax_f32_i32 (F := Ideal)) (⊥, 0#32) [(x (ix2 n 0), y (ix2 n 0)), (x (ix2 n 1), y (ix2 n 1)), (x (ix2 n 2), y (ix2 n 2)), (x (ix2 n 3), y (ix2 n 3))]).2 = _
  rw [hy, hy, hy, hy]
  generalize hr : (fun q => x (ix2 n q)) = r
  rw [show x (ix2 n 0) = r 0 from congrFun hr 0, show x (ix2 n 1) = r 1 from congrFun hr 1,
    show x (ix2 n 2) = r 2 from congrFun hr 2, show x (ix2 n 3) = r 3 from congrFun hr 3]
  clear hr
  let f := reducer_argmax_f32_i32 (F := Ideal)
  have s1 : f (r 0, BitVec.ofNat 32 0) (r 1, BitVec.ofNat 32 1)
      = (top2 r, BitVec.ofNat 32 (if r 0 < r 1 then 1 else 0)) := by
    refine (argmax_step (r 0) (r 1) 0 1 (by decide) (by decide)).trans ?_
    unfold top2; split_ifs <;> rfl
  have s2 : f (top2 r, BitVec.ofNat 32 (if r 0 < r 1 then 1 else 0)) (r 2, BitVec.ofNat 32 2)
      = (top3 r, BitVec.ofNat 32 (if top2 r < r 2 then 2 else if r 0 < r 1 then 1 else 0)) := by
    refine (argmax_step (top2 r) (r 2) (if r 0 < r 1 then 1 else 0) 2 (by split_ifs <;> decide) (by decide)).trans ?_
    unfold top3; split_ifs <;> rfl
  have s3 : (f (top3 r, BitVec.ofNat 32 (if top2 r < r 2 then 2 else if r 0 < r 1 then 1 else 0)) (r 3, BitVec.ofNat 32 3)).2
      = BitVec.ofNat 32 (best r) := by
    refine (congrArg Prod.snd (argmax_step (top3 r) (r 3) (if top2 r < r 2 then 2 else if r 0 < r 1 then 1 else 0) 3
      (by split_ifs <;> decide) (by decide))).trans ?_
    unfold best; split_ifs <;> rfl
  show (f (f (f (f (⊥, 0#32) (r 0, BitVec.ofNat 32 0)) (r 1, BitVec.ofNat 32 1)) (r 2, BitVec.ofNat 32 2)) (r 3, BitVec.ofNat 32 3)).2 = _
  rw [show f (⊥, 0#32) (r 0, BitVec.ofNat 32 0) = _ from argmax_first _, s1, s2, s3]

end Cert.Proof.Reference
-- ==== Proof.Reference.Level.lean ====
/-
  One level of the reference's routing loop, row by row: the agent's hidden layer, its output, its routing scores, and the
  agent of the next level.
-/
module

public import proofs.«01_k».proof.Proof.Reference.Lookup
public import proofs.«01_k».proof.Proof.Reference.Argmax
public import proofs.«01_k».proof.Proof.Pre

@[expose] public section

noncomputable section

namespace Cert.Proof.Reference

open Cert.ReferenceIdeal Cert.ReferenceIdeal.Facts₀ Cert.ReferenceIdeal.Facts
open Idealize.ShloMosaic Cert.Proof.Lines Cert.Proof.Spec

variable {V : Vals}

/-! ## The lookups at an index -/

/-- The token embeddings looked up: the row of the token's number. -/
theorem take_at {a : TR S1000x128 .f32} {x : TR S1024 .i32} {φ : fn_take.Bufs} (E : ∀ l ∈ takeL a x φ, l.Eqn V)
    (t : Fin 1024 → Fin 1000) (hx : ∀ n, rd V x (ix1 n) = BitVec.ofNat 32 (t n)) (n : Fin 1024) (k : Fin 128) :
    rd V φ.v16 (ix2 n k) = rd V a (ix2 (t n) k) := by
  obtain ⟨hi, ho⟩ := take_eq (n := 1000) (top := 999) V E rfl (fun n => t n) (by decide) (fun n => by have := (t n).2; omega) hx
  exact (congrFun ho _).trans (Routing.gather_row gather_S1000x128_S1024x1_S1024x128_1_0_n_n_0_1_1128 rfl rfl rfl rfl rfl _ _ n k
    (t n) (hi n) (by decide))

/-- The square weights looked up: those of the agent. -/
theorem take_0_at {a : TR S2000x128x128 .f32} {x : TR S1024 .i32} {φ : fn_take_0.Bufs} (E : ∀ l ∈ take_0L a x φ, l.Eqn V)
    (t : Fin 1024 → Fin 2000) (hx : ∀ n, rd V x (ix1 n) = BitVec.ofNat 32 (t n)) (n : Fin 1024) (j k : Fin 128) :
    rd V φ.v16 (ix3 n j k) = rd V a (ix3 (t n) j k) := by
  obtain ⟨hi, ho⟩ := take_eq (n := 2000) (top := 1999) V E rfl (fun n => t n) (by decide) (fun n => by have := (t n).2; omega) hx
  exact (congrFun ho _).trans (gather_slab _ _ _ n j k (t n) (hi n))

/-- The biases looked up: those of the agent. -/
theorem take_2_at {a : TR S2000x128 .f32} {x : TR S1024 .i32} {φ : fn_take_2.Bufs} (E : ∀ l ∈ take_2L a x φ, l.Eqn V)
    (t : Fin 1024 → Fin 2000) (hx : ∀ n, rd V x (ix1 n) = BitVec.ofNat 32 (t n)) (n : Fin 1024) (k : Fin 128) :
    rd V φ.v16 (ix2 n k) = rd V a (ix2 (t n) k) := by
  obtain ⟨hi, ho⟩ := take_eq (n := 2000) (top := 1999) V E rfl (fun n => t n) (by decide) (fun n => by have := (t n).2; omega) hx
  exact (congrFun ho _).trans (Routing.gather_row gather_S2000x128_S1024x1_S1024x128_1_0_n_n_0_1_1128 rfl rfl rfl rfl rfl _ _ n k
    (t n) (hi n) (by decide))

/-- The routing weights looked up: those of the agent. -/
theorem take_3_at {a : TR S2000x128x4 .f32} {x : TR S1024 .i32} {φ : fn_take_3.Bufs} (E : ∀ l ∈ take_3L a x φ, l.Eqn V)
    (t : Fin 1024 → Fin 2000) (hx : ∀ n, rd V x (ix1 n) = BitVec.ofNat 32 (t n)) (n : Fin 1024) (j : Fin 128) (k : Fin 4) :
    rd V φ.v16 (ix3 n j k) = rd V a (ix3 (t n) j k) := by
  obtain ⟨hi, ho⟩ := take_eq (n := 2000) (top := 1999) V E rfl (fun n => t n) (by decide) (fun n => by have := (t n).2; omega) hx
  exact (congrFun ho _).trans (gather_slab _ _ _ n j k (t n) (hi n))

/-- The routing biases looked up: those of the agent. -/
theorem take_4_at {a : TR S2000x4 .f32} {x : TR S1024 .i32} {φ : fn_take_4.Bufs} (E : ∀ l ∈ take_4L a x φ, l.Eqn V)
    (t : Fin 1024 → Fin 2000) (hx : ∀ n, rd V x (ix1 n) = BitVec.ofNat 32 (t n)) (n : Fin 1024) (k : Fin 4) :
    rd V φ.v16 (ix2 n k) = rd V a (ix2 (t n) k) := by
  obtain ⟨hi, ho⟩ := take_eq (n := 2000) (top := 1999) V E rfl (fun n => t n) (by decide) (fun n => by have := (t n).2; omega) hx
  exact (congrFun ho _).trans (Routing.gather_row gather_S2000x4_S1024x1_S1024x4_1_0_n_n_0_1_14 rfl rfl rfl rfl rfl _ _ n k
    (t n) (hi n) (by decide))

/-- The children looked up: those of the agent. -/
theorem take_5_at {a : TR S2000x4 .i32} {x : TR S1024 .i32} {φ : fn_take_5.Bufs} (E : ∀ l ∈ take_5L a x φ, l.Eqn V)
    (t : Fin 1024 → Fin 2000) (hx : ∀ n, rd V x (ix1 n) = BitVec.ofNat 32 (t n)) (n : Fin 1024) (k : Fin 4) :
    rd V φ.v16 (ix2 n k) = rd V a (ix2 (t n) k) := by
  obtain ⟨hi, ho⟩ := take_eq (n := 2000) (top := 1999) V E rfl (fun n => t n) (by decide) (fun n => by have := (t n).2; omega) hx
  exact (congrFun ho _).trans (Routing.gather_row gather_S2000x4_S1024x1_S1024x4_1_0_n_n_0_1_14 rfl rfl rfl rfl rfl _ _ n k
    (t n) (hi n) (by decide))

/-! ## The level -/

/-- What the reference reads: every row's embedding, every agent's layers, and every agent's children. -/
structure Inputs (V : Vals) (N : Net) (row : Fin 1024 → Fin 128 → EReal) : Prop where
  /-- embeddings -/
  x : ∀ n j, rd V (.of main_v0 : TR S1024x128 .f32) (ix2 n j) = row n j
  /-- first weights -/
  w1 : ∀ (a : Fin 2000) j k, rd V (.of main_arg2 : TR S2000x128x128 .f32) (ix3 a j k) = N.w1 a j k
  /-- first biases -/
  b1 : ∀ (a : Fin 2000) k, rd V (.of main_arg3 : TR S2000x128 .f32) (ix2 a k) = N.b1 a k
  /-- second weights -/
  w2 : ∀ (a : Fin 2000) j k, rd V (.of main_arg4 : TR S2000x128x128 .f32) (ix3 a j k) = N.w2 a j k
  /-- second biases -/
  b2 : ∀ (a : Fin 2000) k, rd V (.of main_arg5 : TR S2000x128 .f32) (ix2 a k) = N.b2 a k
  /-- routing weights -/
  wr : ∀ (a : Fin 2000) j q, rd V (.of main_arg6 : TR S2000x128x4 .f32) (ix3 a j q) = N.wr a j q
  /-- routing biases -/
  br : ∀ (a : Fin 2000) q, rd V (.of main_arg7 : TR S2000x4 .f32) (ix2 a q) = N.br a q
  /-- children -/
  kids : ∀ (a : Fin 2000) (q : Fin 4), rd V (.of main_arg10 : TR S2000x4 .i32) (ix2 a q) = Pre.child a q

variable {N : Net} {row : Fin 1024 → Fin 128 → EReal} (I : Inputs V N row) {r : Level} {x : TR S1024 .i32}
  {t : Fin 1024 → Fin 2000} (hx : ∀ n, rd V x (ix1 n) = BitVec.ofNat 32 (t n))

include I hx in
/-- A level's hidden layer is its agents'. -/
theorem hidden_at (E : ∀ l ∈ r.hidden x, l.Eqn V) (n : Fin 1024) (k : Fin 128) :
    rd V r.hid.v1 (ix2 n k) = hid N (row n) (t n) k := by
  simp only [Level.hidden, reluL, List.forall_mem_append, List.forall_mem_cons, Line.Eqn] at E
  obtain ⟨ew, eb, e1, e2, ⟨e3, e4, e5, -⟩, -⟩ := E
  have hw := take_0_at ew t hx n
  have hb := take_2_at eb t hx n
  have hz : rd V r.hid.v0 (ix2 n k) = (0 : EReal) := by rw [e4, e3]; pointwise
  have hd : rd V r.dot1 (ix2 n k) = ∑ j, row n j * N.w1 (t n) j k := by
    rw [e1]; pointwise
    exact Finset.sum_congr rfl fun j _ => congrArg₂ (· * ·) (I.x n j) ((hw j k).trans (I.w1 (t n) j k))
  have hp : rd V r.pre (ix2 n k) = rd V r.dot1 (ix2 n k) + rd V r.b1.v16 (ix2 n k) := by rw [e2]; pointwise
  rw [e5]; pointwise
  rw [hp, hd, hz, hb k]
  exact congrArg (fun b => max ((∑ j, row n j * N.w1 (t n) j k) + b) 0) (I.b1 (t n) k)

/-! ### The words of the choice -/

/-- The bounds put on an index within the table leave it alone. -/
theorem clip_word (m : ℕ) (h : m < 2000) : IntOp.minsi 1999#32 (IntOp.maxsi 0#32 (BitVec.ofNat 32 m)) = BitVec.ofNat 32 m := by
  have h0 : (BitVec.ofNat 32 m).toInt = m := WordCmp.toInt_ofNat_of_lt (w := 32) (by simp; omega)
  have hl : (1999#32).toInt = 1999 := by decide
  have hz : (0#32).toInt = 0 := by decide
  simp only [IntOp.minsi, IntOp.maxsi, BitVec.slt_eq_decide, decide_eq_true_eq]
  by_cases hm : 0 < m
  · rw [if_neg (c := (BitVec.ofNat 32 m).toInt < (0#32).toInt) (by omega)]
    by_cases he : m = 1999
    · subst he; rfl
    · rw [if_neg (by omega)]
  · obtain rfl : m = 0 := by omega
    rfl

/-- A small number's word is not that of minus one. -/
theorem ne_word (m : ℕ) (h : m < 2000) : IntOp.cmpi .ne (BitVec.ofNat 32 m) 4294967295#32 = 1#1 := by
  rw [show (4294967295#32) = BitVec.ofNat 32 4294967295 from rfl, WordCmp.cmpi_ne_ofNat (w := 32) (by simp; omega) (by decide),
    decide_eq_true (by omega)]
  rfl

include hx in
/-- Clipped agents are the agents. -/
theorem clip_at {lo hi : TR S_ .i32} {φ : fn_clip.Bufs} (E : ∀ l ∈ clipL x lo hi φ, l.Eqn V) (hlo : rd V lo = constantI S_ 32 0#32)
    (hhi : rd V hi = constantI S_ 32 1999#32) (n : Fin 1024) : rd V φ.v5 (ix1 n) = BitVec.ofNat 32 (t n) := by
  simp only [clipL, List.forall_mem_cons, Line.Eqn] at E
  obtain ⟨e1, e2, e3, e4, e5, e6, -⟩ := E
  have h1 : rd V φ.v1 (ix1 n) = 0#32 := by rw [e2, e1, hlo]; pointwise; rfl
  have h4 : rd V φ.v4 (ix1 n) = 1999#32 := by rw [e5, e4, hhi]; pointwise; rfl
  rw [e6, e3]
  show IntOp.minsi (rd V φ.v4 (ix1 n)) (IntOp.maxsi (rd V φ.v1 (ix1 n)) (rd V x (ix1 n))) = _
  rw [h1, h4, hx, clip_word _ (t n).2]

/-- One entry of each row, picked by a number below four. -/
theorem pick_at {a : TR S1024x4 .i32} {c : TR S1024x1 .i32} {φ : fn_take_along_axis.Bufs}
    (E : ∀ l ∈ take_along_axisL a c φ, l.Eqn V) (b : Fin 1024 → Fin 4) (hc : ∀ n, rd V c (ix2 n 0) = BitVec.ofNat 32 (b n))
    (n : Fin 1024) : rd V φ.v15 (ix2 n 0) = rd V a (ix2 n (b n)) := by
  simp only [take_along_axisL, List.forall_mem_cons, Line.Eqn] at E
  obtain ⟨e1, e2, e3, e4, e5, e6, e7, e8, e9, e10, e11, e12, e13, e14, e15, e16, e17, e18, e19, e20, e21, e22, -⟩ := E
  have hw : ∀ n, rd V φ.v4 (ix2 n 0) = BitVec.ofNat 32 (b n) := fun n => by
    have h0 : rd V φ.v0 (ix2 n 0) = 0#32 := by rw [e2, e1]; pointwise
    have h1 : rd V φ.v1 (ix2 n 0) = 0#1 := by
      rw [e3]
      show IntOp.cmpi .slt (rd V c (ix2 n 0)) (rd V φ.v0 (ix2 n 0)) = _
      rw [h0, hc, slt_zero _ (by have := (b n).2; omega)]
    rw [e7]
    show (if rd V φ.v1 (ix2 n 0) = 1#1 then rd V φ.v3 (ix2 n 0) else rd V c (ix2 n 0)) = _
    rw [h1, if_neg (by decide), hc]
  have hi : ∀ n, rd V φ.v5 (ix3 n 0 0) = BitVec.ofNat 32 (b n) := fun n => by
    rw [e8]
    refine Eq.trans ?_ (hw n)
    show shapeCast S1024x1x1 (rd V φ.v4) shapeCasts_S1024x1_S1024x1x1 (ix3 n 0 0) = _
    pointwise
  have hok : ∀ i, rd V φ.v11 i = 1#1 := fun i => by
    obtain ⟨k, rfl⟩ : ∃ k, i = ix3 k 0 0 := ⟨i 0, by
      rw [eq_ix3 i]; exact congrArg₂ (ix3 (i 0)) (Subsingleton.elim (α := Fin 1) _ _) (Subsingleton.elim (α := Fin 1) _ _)⟩
    have h1 : rd V φ.v6 (ix3 k 0 0) = 0#32 := by rw [e11, e10]; pointwise
    have h2 : rd V φ.v9 (ix3 k 0 0) = BitVec.ofNat 32 3 := by rw [e14, e13, e9]; pointwise
    rw [e16, e12, e15]
    show IntOp.andi (IntOp.cmpi .sge (rd V φ.v5 (ix3 k 0 0)) (rd V φ.v6 (ix3 k 0 0)))
      (IntOp.cmpi .sle (rd V φ.v5 (ix3 k 0 0)) (rd V φ.v9 (ix3 k 0 0))) = _
    rw [h1, h2, hi, in_range _ _ (by have := (b k).2; omega) (by decide)]
  have hall : rd V φ.v12 (ix2 n 0) = 1#1 := by
    rw [e18]
    exact Host.reduce_andi_one _ _ _ _ _ (by rw [e17]; rfl) hok
  rw [e22]
  show (if rd V φ.v12 (ix2 n 0) = 1#1 then rd V φ.v13 (ix2 n 0) else rd V φ.v14 (ix2 n 0)) = _
  rw [hall, if_pos rfl, e19]
  exact gather_entry _ _ _ n (b n) (hi n)

include I hx in
/-- A level's output and its routing scores are its agents'. -/
theorem route_at (Eh : ∀ l ∈ r.hidden x, l.Eqn V) (E : ∀ l ∈ r.route x, l.Eqn V) (n : Fin 1024) :
    (∀ k, rd V r.out (ix2 n k) = out N (row n) (t n) k) ∧ ∀ q, rd V r.logit (ix2 n q) = score N (row n) (t n) q := by
  have hh := hidden_at I hx Eh n
  simp only [Level.route, List.forall_mem_append, List.forall_mem_cons, Line.Eqn] at E
  obtain ⟨ew, eb, e1, e2, ewr, ebr, e3, e4, -⟩ := E
  have hw := take_0_at ew t hx n
  have hb := take_2_at eb t hx n
  have hwr := take_3_at ewr t hx n
  have hbr := take_4_at ebr t hx n
  constructor
  · intro k
    have hd : rd V r.dot2 (ix2 n k) = ∑ j, hid N (row n) (t n) j * N.w2 (t n) j k := by
      rw [e1]; pointwise
      exact Finset.sum_congr rfl fun j _ => congrArg₂ (· * ·) (hh j) ((hw j k).trans (I.w2 (t n) j k))
    rw [e2]; pointwise
    exact congrArg₂ (· + ·) hd ((hb k).trans (I.b2 (t n) k))
  · intro q
    have hd : rd V r.dot3 (ix2 n q) = ∑ j, hid N (row n) (t n) j * N.wr (t n) j q := by
      rw [e3]; pointwise
      exact Finset.sum_congr rfl fun j _ => congrArg₂ (· * ·) (hh j) ((hwr j q).trans (I.wr (t n) j q))
    rw [e4]; pointwise
    exact congrArg₂ (· + ·) hd ((hbr q).trans (I.br (t n) q))

include I hx in
/-- A level's choice: the child of the greatest score. -/
theorem next_at (Eh : ∀ l ∈ r.hidden x, l.Eqn V) (E : ∀ l ∈ r.route x, l.Eqn V) (n : Fin 1024) (ht : ∀ n, (t n).val < 21) :
    rd V r.next.v0 (ix1 n) = BitVec.ofNat 32 (4 * (t n).val + 1 + best (score N (row n) (t n))) := by
  have hs := fun n => (route_at I hx Eh E n).2
  simp only [Level.route, argmaxL, where_1L, List.forall_mem_append, List.forall_mem_cons, Line.Eqn] at E
  obtain ⟨-, -, -, -, -, -, -, -, ⟨a1, a2, a3, -, a5, -⟩, e1, e2, ec, ek, e3, ep, e4, e5, e6, e7, ⟨e8, -⟩, -⟩ := E
  have hbest : ∀ n, rd V r.best.v1_1 (ix1 n) = BitVec.ofNat 32 (best (score N (row n) (t n))) := fun n => by
    rw [a5]
    refine (argmax_row _ _ _ _ n (fun q => by rw [a1]; pointwise) (fun i => ?_) (fun i => by rw [a3]; rfl)).trans ?_
    · rw [a2]
      show Ideal.ofBits .f32 0xFF800000#32 = ⊥
      simp [Ideal.ofBits, Ideal.ieee]
    exact congrArg (fun s => BitVec.ofNat 32 (best s)) (funext (hs n))
  have hc := clip_at hx ec e1 e2
  have hk := take_5_at ek t hc
  have hp := pick_at ep (fun n => ⟨best (score N (row n) (t n)), best_lt _⟩) (fun n => by
    refine Eq.trans ?_ (hbest n)
    rw [e3]; pointwise)
  have hkid : rd V r.kid (ix1 n) = BitVec.ofNat 32 (4 * (t n).val + 1 + best (score N (row n) (t n))) := by
    rw [e4]
    refine Eq.trans (b := rd V r.pick.v15 (ix2 n 0)) ?_ ?_
    · show shapeCast S1024 (rd V r.pick.v15) shapeCasts_S1024x1_S1024 (ix1 n) = _
      pointwise
    · rw [hp, hk]
      refine (I.kids _ _).trans ?_
      unfold Pre.child
      rw [if_pos (ht n)]
  have hm : rd V r.m1s (ix1 n) = 4294967295#32 := by rw [e6, e5]; pointwise
  have hne : rd V r.ne (ix1 n) = 1#1 := by
    rw [e7]
    show IntOp.cmpi .ne (rd V r.kid (ix1 n)) (rd V r.m1s (ix1 n)) = _
    rw [hkid, hm]
    have := best_lt (score N (row n) (t n)); have := ht n
    exact ne_word _ (by omega)
  rw [e8]
  show (if rd V r.ne (ix1 n) = 1#1 then rd V r.kid (ix1 n) else rd V r.clip.v5 (ix1 n)) = _
  rw [hne, if_pos rfl, hkid]

end Cert.Proof.Reference
-- ==== Proof.Reference.Result.lean ====
/-
  What the reference computes: every row's walk down the tree, level by level, and from the last agent's output the row's result.
-/
module

public import proofs.«01_k».proof.Proof.Reference.Level
public import proofs.«01_k».proof.Proof.Reference.Run
public import proofs.«01_k».proof.Proof.Tables

@[expose] public section

noncomputable section

namespace Cert.Proof.Reference

open Cert.ReferenceIdeal Cert.ReferenceIdeal.Facts₀ Cert.ReferenceIdeal.Facts
open Idealize.ShloMosaic Cert.Proof.Lines Cert.Proof.Spec

section

variable {V : Vals} {N : Net} {row : Fin 1024 → Fin 128 → EReal}

/-- A level takes every row's walk one step further. -/
theorem step_at (I : Inputs V N row) {r : Level} {x : TR S1024 .i32} (Eh : ∀ l ∈ r.hidden x, l.Eqn V)
    (E : ∀ l ∈ r.route x, l.Eqn V) (d : ℕ) (hd : ∀ n, walk N (row n) d < 21)
    (hx : ∀ n, rd V x (ix1 n) = BitVec.ofNat 32 (walk N (row n) d)) (n : Fin 1024) :
    rd V r.next.v0 (ix1 n) = BitVec.ofNat 32 (walk N (row n) (d + 1)) :=
  next_at I (t := fun n => ⟨walk N (row n) d, (hd n).trans (by decide)⟩) hx Eh E n hd

/-- The last level's output is that of the agent after three steps. -/
theorem last_at (I : Inputs V N row) (E : ∀ l ∈ lines, l.Eqn V) (n : Fin 1024) (k : Fin 128) :
    rd V (.of main_v77 : TR S1024x128 .f32) (ix2 n k) = out N (row n) (walk N (row n) 3) k := by
  simp only [lines, lines0, lines1, headL, List.forall_mem_append, List.forall_mem_cons] at E
  obtain ⟨⟨⟨-, e1, e2, -⟩, h0, r0, h1, r1, h2⟩, r2, h3, r3, -⟩ := E
  have w0 : ∀ n, rd V (.of main_v1 : TR S1024 .i32) (ix1 n) = BitVec.ofNat 32 (walk N (row n) 0) := fun n => by
    simp only [Line.Eqn] at e1 e2
    rw [e2, e1]; pointwise; rfl
  have w1 : ∀ n, rd V (.of main_v24 : TR S1024 .i32) (ix1 n) = BitVec.ofNat 32 (walk N (row n) 1) :=
    step_at I h0 r0 0 (fun _ => by show 0 < 21; decide) w0
  have w2 : ∀ n, rd V (.of main_v46 : TR S1024 .i32) (ix1 n) = BitVec.ofNat 32 (walk N (row n) 2) :=
    step_at I h1 r1 1 (fun n => (walk_one N (row n)).2.trans (by decide)) w1
  have w3 : ∀ n, rd V (.of main_v68 : TR S1024 .i32) (ix1 n) = BitVec.ofNat 32 (walk N (row n) 3) :=
    step_at I h2 r2 2 (fun n => (walk_two N (row n)).2) w2
  exact (route_at I (t := fun n => ⟨walk N (row n) 3, (walk_three N (row n)).2.trans (by decide)⟩) w3 h3 r3 n).1 k

/-- The output layer's result. -/
theorem output_at (I : Inputs V N row) (hwo : ∀ k v, rd V (.of main_arg8 : TR S128x1000 .f32) (ix2 k v) = N.wo k v)
    (hbo : ∀ v, rd V (.of main_arg9 : TR S1000 .f32) (ix1 v) = N.bo v) (E : ∀ l ∈ lines, l.Eqn V) (n : Fin 1024) (v : Fin 1000) :
    rd V (.of main_v94 : TR S1024x1000 .f32) (ix2 n v) = result N (row n) v := by
  have hl := last_at I E n
  simp only [lines, lines1, tailL, List.forall_mem_append, List.forall_mem_cons, Line.Eqn] at E
  obtain ⟨-, -, -, -, e1, e2, e3, e4, -⟩ := E
  have hd : rd V (.of main_v91 : TR S1024x1000 .f32) (ix2 n v) = ∑ k, out N (row n) (walk N (row n) 3) k * N.wo k v := by
    refine (congrFun e1 _).trans ?_
    pointwise
    exact Finset.sum_congr rfl fun k _ => congrArg₂ (· * ·) (hl k) (hwo k v)
  have hb : rd V (.of main_v93 : TR S1024x1000 .f32) (ix2 n v) = N.bo v := by
    refine (congrFun e3 _).trans ?_
    rw [e2]
    refine Eq.trans ?_ (hbo v)
    pointwise
  refine (congrFun e4 _).trans ?_
  pointwise
  exact congrArg₂ (· + ·) hd hb

end

/-! ## From the memory that it starts from -/

variable (m : (ℓ : Loc nD τ sig) → Buf (Elt Ideal) ℓ) (d : Dev nD)

/-- An argument array. -/
abbrev arg (r : Ref sig .tc) : Buf (Elt Ideal) ((d.tc : Thread nD τ).loc r) := m ((d.tc : Thread nD τ).loc r)

/-- The network of the argument arrays. -/
abbrev net : Net := netOf (arg m d main_arg2) (arg m d main_arg3) (arg m d main_arg4) (arg m d main_arg5) (arg m d main_arg6)
  (arg m d main_arg7) (arg m d main_arg8) (arg m d main_arg9)

theorem agent_fin (a : Fin 2000) : agent a = a := Fin.ext (Nat.mod_eq_of_lt a.2)

/-- Contents that satisfy the lines' equations and hold the arguments as they were hold the reference's result. -/
theorem result_of (V : Vals) (E : ∀ l ∈ lines, l.Eqn V) (k : ∀ r : Ref sig .tc, r.idx.val < 11 → V (Proc.devRef .tc r) = arg m d r)
    (htok : ∀ i, (arg m d main_arg0 i : BitVec 32).toNat < 1000)
    (hkid : ∀ (a : Fin 2000) (q : Fin 4), (arg m d main_arg10 (ix2 a q) : BitVec 32) = Pre.child a q) (n : Fin 1024) (v : Fin 1000) :
    (V (Proc.devRef .tc main_v94) : Vec Ideal S1024x1000 .f32) (ix2 n v)
      = result (net m d) (tokenRow (arg m d main_arg0) (arg m d main_arg1) n) v := by
  have a0 : rd V (.of main_arg0 : TR S1024 .i32) = arg m d main_arg0 := k main_arg0 (by decide)
  have a1 : rd V (.of main_arg1 : TR S1000x128 .f32) = arg m d main_arg1 := k main_arg1 (by decide)
  have hx : ∀ n j, rd V (.of main_v0 : TR S1024x128 .f32) (ix2 n j) = tokenRow (arg m d main_arg0) (arg m d main_arg1) n j := by
    have Et := E
    simp only [lines, lines0, headL, List.forall_mem_append] at Et
    obtain ⟨⟨⟨et, -⟩, -⟩, -⟩ := Et
    intro n j
    refine (take_at et (fun n => ⟨(arg m d main_arg0 (ix1 n) : BitVec 32).toNat % 1000, Nat.mod_lt _ (by decide)⟩) (fun n => ?_) n j).trans ?_
    · rw [a0]
      exact BitVec.eq_of_toNat_eq (by
        have := htok (ix1 n)
        rw [BitVec.toNat_ofNat]
        show _ = ((arg m d main_arg0 (ix1 n) : BitVec 32).toNat % 1000) % 2 ^ 32
        omega)
    · rw [a1]; rfl
  have I : Inputs V (net m d) (tokenRow (arg m d main_arg0) (arg m d main_arg1)) := by
    refine ⟨hx, fun a j q => ?_, fun a q => ?_, fun a j q => ?_, fun a q => ?_, fun a j q => ?_, fun a q => ?_, fun a q => ?_⟩
    · exact (congrFun (k main_arg2 (by decide)) _).trans (congrArg (fun a => arg m d main_arg2 (ix3 a j q)) (agent_fin a).symm)
    · exact (congrFun (k main_arg3 (by decide)) _).trans (congrArg (fun a => arg m d main_arg3 (ix2 a q)) (agent_fin a).symm)
    · exact (congrFun (k main_arg4 (by decide)) _).trans (congrArg (fun a => arg m d main_arg4 (ix3 a j q)) (agent_fin a).symm)
    · exact (congrFun (k main_arg5 (by decide)) _).trans (congrArg (fun a => arg m d main_arg5 (ix2 a q)) (agent_fin a).symm)
    · exact (congrFun (k main_arg6 (by decide)) _).trans (congrArg (fun a => arg m d main_arg6 (ix3 a j q)) (agent_fin a).symm)
    · exact (congrFun (k main_arg7 (by decide)) _).trans (congrArg (fun a => arg m d main_arg7 (ix2 a q)) (agent_fin a).symm)
    · exact (congrFun (k main_arg10 (by decide)) _).trans (hkid a q)
  exact output_at I (fun j v => congrFun (k main_arg8 (by decide)) _) (fun v => congrFun (k main_arg9 (by decide)) _) E n v

/-- What the reference's lines leave as the result. -/
theorem reference_result (htok : ∀ i, (arg m d main_arg0 i : BitVec 32).toNat < 1000)
    (hkid : ∀ (a : Fin 2000) (q : Fin 4), (arg m d main_arg10 (ix2 a q) : BitVec 32) = Pre.child a q) (n : Fin 1024) (v : Fin 1000) :
    (StableHlo.after (lines.map Line.op) (StableHlo.launchContents m d) (Proc.devRef .tc main_v94) : Vec Ideal S1024x1000 .f32) (ix2 n v)
      = result (net m d) (tokenRow (arg m d main_arg0) (arg m d main_arg1) n) v :=
  result_of m d _ (eqns lines_ordered _) (fun r hr => arg_kept _ r hr) htok hkid n v

end Cert.Proof.Reference
-- ==== Proof.Algebraic.lean ====
/-
  The value claim: from the same arguments in the range that the precondition states, the kernel and the reference end with
  the same result, read as extended reals: each row's result is that of its token's walk down the tree.
-/
module

public import proofs.«01_k».proof.Proof.Frames
public import proofs.«01_k».proof.Proof.KernelIdeal.Arrays
public import proofs.«01_k».proof.Proof.Reference.Result

@[expose] public section

noncomputable section

namespace Cert.Proof

open Idealize.ShloMosaic Idealize.SL.Sem Cert.Proof.Spec

/-- The kernel's result is the reference's. -/
theorem algebraic : Cert.algebraic_KernelIdeal_ReferenceIdeal := by
  intro m g m' g' hpre hm
  have hv : ∀ (c : Dev 1) (n : Fin 1024) (v : Fin 1000),
      (StableHlo.after (Reference.lines.map Lines.Line.op) (StableHlo.launchContents m' c) (Proc.devRef .tc Cert.ReferenceIdeal.main_v94) :
          Vec Ideal Cert.ReferenceIdeal.S1024x1000 .f32) (ix2 n v)
        = KernelIdeal.tcOut (KernelIdeal.insOf (KernelIdeal.W₂ m) c Cert.KernelIdeal.Gen.t1_0) (ix2 n v) := by
    intro c n v
    obtain ⟨h0, h1, h2, h3, h4, h5, h6, h7, h8, h9, h10⟩ := hm c
    have hnet : Reference.net m' c = KernelIdeal.net m c := by
      unfold Reference.net KernelIdeal.net Reference.arg KernelIdeal.arg
      rw [h2, h3, h4, h5, h6, h7, h8, h9]
    have hrow : tokenRow (Reference.arg m' c Cert.ReferenceIdeal.main_arg0) (Reference.arg m' c Cert.ReferenceIdeal.main_arg1)
        = tokenRow (KernelIdeal.arg m c Cert.KernelIdeal.main_arg0) (KernelIdeal.arg m c Cert.KernelIdeal.main_arg1) := by
      unfold Reference.arg KernelIdeal.arg
      rw [h0, h1]
    refine (Reference.reference_result m' c (fun i => ?_) (fun a q => ?_) n v).trans
      (Eq.trans ?_ (KernelIdeal.kernel_result m c n v).symm)
    · exact (congrArg (fun w : BitVec 32 => w.toNat < 1000) (congrFun h0 i)).mpr (Pre.token_lt (hpre c) i)
    · exact (congrFun h10 (ix2 a q)).trans (Pre.children (hpre c) a q)
    · rw [hnet, hrow]
  refine ⟨fun c => KernelIdeal.tcOut (KernelIdeal.insOf (KernelIdeal.W₂ m) c Cert.KernelIdeal.Gen.t1_0), ?_, ?_⟩
  · refine (θ_run _ _ _).mono (fun r k c => ⟨(k.1 c).1, ?_⟩) (KernelIdeal.run_args m g (inRange_ideal m hpre))
    have a := (k.1 c).2
    simpa only [KernelIdeal.argRefs, List.forall_mem_cons, List.not_mem_nil, false_implies, implies_true, and_true] using a
  · refine (θ_run _ _ _).mono (fun r k c => ⟨(k.1 c).1.trans (funext fun i => ?_), ?_⟩) (Reference.run_args m' g')
    rotate_left
    · obtain ⟨n, v, rfl⟩ : ∃ (n : Fin 1024) (v : Fin 1000), i = ix2 n v := ⟨i 0, i 1, eq_ix2 i⟩
      exact hv c n v
    · have a := (k.1 c).2
      refine ⟨?_, ?_, ?_, ?_, ?_, ?_, ?_, ?_, ?_, ?_, ?_⟩ <;> exact a _ (by decide)

end Cert.Proof
-- ==== Proof.lean ====
/-
  The claims, assembled.
-/
module

public import proofs.«01_k».proof.Proof.Algebraic

@[expose] public section

noncomputable section

namespace Cert.Proof

open Idealize.ShloMosaic Idealize.SL.Sem

/-- All that is claimed of the kernel and the reference. -/
theorem claim : Cert.Claim :=
  ⟨Cert.Kernel.Gen.facts, Cert.KernelIdeal.Gen.facts, Cert.ReferenceIdeal.Gen.facts, Cert.Pre_tree.Gen.facts,
    quiescent_kernel, quiescent_kernelIdeal, quiescent_referenceIdeal, quiescent_referenceIdeal_pre, trivial, algebraic⟩

end Cert.Proof

end
